-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v68) = v2 c
          ∧ r.2.mem ((c.tc : Thread Cert.Reference3Ideal.nD Cert.Reference3Ideal.τ).loc Cert.Reference3Ideal.main_v105) = v3 c
          ∧ r.2.mem ((c.tc : Thread Cert.Reference3Ideal.nD Cert.Reference3Ideal.τ).loc Cert.Reference3Ideal.main_v106) = v4 c
          ∧ r.2.mem ((c.tc : Thread Cert.Reference3Ideal.nD Cert.Reference3Ideal.τ).loc Cert.Reference3Ideal.main_v113) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S32768x512 : Shape := ⟨2, ![32768, 512]⟩
abbrev S33792x512 : Shape := ⟨2, ![33792, 512]⟩
abbrev S1x1 : Shape := ⟨2, ![1, 1]⟩
abbrev S128 : Shape := ⟨1, ![128]⟩
abbrev S_ : Shape := ⟨0, ![]⟩

class Facts : Prop where
  bcast_S_S32768x512 : S_.BroadcastsInDim S32768x512 (![] : Fin 0 → Fin S32768x512.rank)
  bcast_S_S33792x512 : S_.BroadcastsInDim S33792x512 (![] : Fin 0 → Fin S33792x512.rank)
  bcast_S_S1x1 : S_.BroadcastsInDim S1x1 (![] : Fin 0 → Fin S1x1.rank)

variable [Facts]

def fn {F : FTy → Type} [FloatOps F] (main_arg0 : FVec F S32768x512 .f32) (main_arg1 : FVec F S33792x512 .f32) (main_arg2 : FVec F S33792x512 .f32) (main_arg3 : FVec F S1x1 .f32) (main_arg4 : FVec F S128 .f32) : IVec S32768x512 1 × IVec S33792x512 1 × IVec S33792x512 1 × IVec S1x1 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S33792x512 .f32 := Host.absf main_arg1
  let main_cst_0 : FVec F S_ .f32 := constant S_ .f32 0x7F800000#32
  let main_v4 : FVec F S33792x512 .f32 := broadcastInDim S33792x512 ![] bcast_S_S33792x512 main_cst_0
  let main_v5 : IVec S33792x512 1 := cmpf .olt main_v3 main_v4
  let main_v6 : FVec F S33792x512 .f32 := Host.absf main_arg2
  let main_cst_1 : FVec F S_ .f32 := constant S_ .f32 0x7F800000#32
  let main_v7 : FVec F S33792x512 .f32 := broadcastInDim S33792x512 ![] bcast_S_S33792x512 main_cst_1
  let main_v8 : IVec S33792x512 1 := cmpf .olt main_v6 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  (main_v2, main_v5, main_v8, main_v11)
-- ==== Kernel.lean ====
abbrev S32768x512 : Shape := ⟨2, ![32768, 512]⟩
abbrev S33792x512 : Shape := ⟨2, ![33792, 512]⟩
abbrev S1x1 : Shape := ⟨2, ![1, 1]⟩
abbrev S128 : Shape := ⟨1, ![128]⟩
abbrev S_ : Shape := ⟨0, ![]⟩
abbrev S33792x4x128 : Shape := ⟨3, ![33792, 4, 128]⟩
abbrev S33792x4x256 : Shape := ⟨3, ![33792, 4, 256]⟩
abbrev S33792x1024 : Shape := ⟨2, ![33792, 1024]⟩
abbrev S1x128 : Shape := ⟨2, ![1, 128]⟩
abbrev S8192x128 : Shape := ⟨2, ![8192, 128]⟩
abbrev S8448x128 : Shape := ⟨2, ![8448, 128]⟩
abbrev S8448x256 : Shape := ⟨2, ![8448, 256]⟩
abbrev S2x1024x128 : Shape := ⟨3, ![2, 1024, 128]⟩
abbrev S2x1024x768 : Shape := ⟨3, ![2, 1024, 768]⟩
abbrev S1024x128 : Shape := ⟨2, ![1024, 128]⟩
abbrev S1024x256 : Shape := ⟨2, ![1024, 256]⟩
abbrev S512x128 : Shape := ⟨2, ![512, 128]⟩
abbrev S1x512x128 : Shape := ⟨3, ![1, 512, 128]⟩
abbrev S768x128 : Shape := ⟨2, ![768, 128]⟩
abbrev S1x1024x128 : Shape := ⟨3, ![1, 1024, 128]⟩
abbrev S1024x768 : Shape := ⟨2, ![1024, 768]⟩
abbrev S1x1024x768 : Shape := ⟨3, ![1, 1024, 768]⟩
abbrev S768x256 : Shape := ⟨2, ![768, 256]⟩
abbrev S1024 : Shape := ⟨1, ![1024]⟩
abbrev S1024x1 : Shape := ⟨2, ![1024, 1]⟩
abbrev S512 : Shape := ⟨1, ![512]⟩
abbrev S512x1 : Shape := ⟨2, ![512, 1]⟩

abbrev nBuf : Space → Nat
  | .hbm => 22
  | .vmem => 13
  | .smem => 1
  | _ => 0

abbrev bufTy : (tb : Table) → Fin (tcTables nBuf tb) → BufTy
  | .hbm, ⟨0, _⟩ => ⟨S32768x512, .f32⟩
  | .hbm, ⟨1, _⟩ => ⟨S33792x512, .f32⟩
  | .hbm, ⟨2, _⟩ => ⟨S33792x512, .f32⟩
  | .hbm, ⟨3, _⟩ => ⟨S1x1, .f32⟩
  | .hbm, ⟨4, _⟩ => ⟨S128, .f32⟩
  | .hbm, ⟨5, _⟩ => ⟨S_, .f32⟩
  | .hbm, ⟨6, _⟩ => ⟨S32768x512, .f32⟩
  | .hbm, ⟨7, _⟩ => ⟨S32768x512, .f32⟩
  | .hbm, ⟨8, _⟩ => ⟨S_, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x512, .bf16⟩
  | .hbm, ⟨13, _⟩ => ⟨S33792x4x128, .f32⟩
  | .hbm, ⟨14, _⟩ => ⟨S33792x4x128, .bf16⟩
  | .hbm, ⟨15, _⟩ => ⟨S_, .bf16⟩
  | .hbm, ⟨16, _⟩ => ⟨S33792x4x128, .bf16⟩
  | .hbm, ⟨17, _⟩ => ⟨S33792x4x256, .bf16⟩
  | .hbm, ⟨18, _⟩ => ⟨S33792x1024, .bf16⟩
  | .hbm, ⟨19, _⟩ => ⟨S33792x512, .bf16⟩
  | .hbm, ⟨20, _⟩ => ⟨S1x128, .f32⟩
  | .hbm, ⟨21, _⟩ => ⟨S32768x512, .bf16⟩
  | .local _ .vmem, ⟨0, _⟩ => ⟨S8192x128, .bf16⟩
  | .local _ .vmem, ⟨1, _⟩ => ⟨S8192x128, .bf16⟩
  | .local _ .vmem, ⟨2, _⟩ => ⟨S8448x128, .bf16⟩
  | .local _ .vmem, ⟨3, _⟩ => ⟨S8448x128, .bf16⟩
  | .local _ .vmem, ⟨4, _⟩ => ⟨S8448x256, .bf16⟩
  | .local _ .vmem, ⟨5, _⟩ => ⟨S8448x256, .bf16⟩
  | .local _ .vmem, ⟨6, _⟩ => ⟨S1x128, .f32⟩
  | .local _ .vmem, ⟨7, _⟩ => ⟨S8192x128, .bf16⟩
  | .local _ .vmem, ⟨8, _⟩ => ⟨S8192x128, .bf16⟩
  | .local _ .vmem, ⟨9, _⟩ => ⟨S2x1024x128, .bf16⟩
  | .local _ .vmem, ⟨10, _⟩ => ⟨S2x1024x768, .f32⟩
  | .local _ .vmem, ⟨11, _⟩ => ⟨S1024x128, .f32⟩
  | .local _ .vmem, ⟨12, _⟩ => ⟨S1024x256, .f32⟩
  | .local _ .smem, ⟨0, _⟩ => ⟨S1x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_21 : BitVec 32 := 0#32
  let c8_i32 : BitVec 32 := 8#32
  let v34 : BitVec 32 := Scalar.addi c0_i32_21 c8_i32
  let c1_i32 : BitVec 32 := 1#32
  ⟨c0_i32_21, v34, c1_i32⟩
def k0_mult2 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c2_i32 : BitVec 32 := 2#32
  let v35 : BitVec 32 := Scalar.muli arg12 c2_i32
  let c0_i32_23 : BitVec 32 := 0#32
  let v36 : BitVec 32 := Scalar.addi v35 c0_i32_23
  let c1_i32_253 : BitVec 32 := 1#32
  let v377 : BitVec 32 := Scalar.addi v36 c1_i32_253
  let c15_i32 : BitVec 32 := 15#32
  let v378 : BitVec 32 := Scalar.minsi v377 c15_i32
  let c512_i32 : BitVec 32 := 512#32
  let v379 : BitVec 32 := Scalar.muli v378 c512_i32
  v379
def k0_off1 (k0_t1 : Fin k0_t1_loop.trips) (c0_i32_23 : BitVec 32) : Fin 2 → Nat :=
  let c0_i32_21 : BitVec 32 := 0#32
  let c1_i32 : BitVec 32 := 1#32
  let arg12 : BitVec 32 := Scf.iv c0_i32_21 c1_i32 k0_t1
  let c2_i32 : BitVec 32 := 2#32
  let v35 : BitVec 32 := Scalar.muli arg12 c2_i32
  let v36 : BitVec 32 := Scalar.addi v35 c0_i32_23
  let c1_i32_253 : BitVec 32 := 1#32
  let v377 : BitVec 32 := Scalar.addi v36 c1_i32_253
  let c15_i32 : BitVec 32 := 15#32
  let v378 : BitVec 32 := Scalar.minsi v377 c15_i32
  let c512_i32 : BitVec 32 := 512#32
  let v379 : BitVec 32 := Scalar.muli v378 c512_i32
  let v380 : BitVec 32 := v379
  let v381 : Index := Scalar.indexCast v380
  let c0_254 : Index := 0#32
  ![v381.toNat, 0]
def k0_mult3 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c2_i32 : BitVec 32 := 2#32
  let v35 : BitVec 32 := Scalar.muli arg12 c2_i32
  let c0_i32_23 : BitVec 32 := 0#32
  let v36 : BitVec 32 := Scalar.addi v35 c0_i32_23
  let c512_i32_303 : BitVec 32 := 512#32
  let v459 : BitVec 32 := Scalar.muli v36 c512_i32_303
  v459
def k0_off2 (k0_t1 : Fin k0_t1_loop.trips) (c0_i32_23 : BitVec 32) : Fin 2 → Nat :=
  let c0_i32_21 : BitVec 32 := 0#32
  let c1_i32 : BitVec 32 := 1#32
  let arg12 : BitVec 32 := Scf.iv c0_i32_21 c1_i32 k0_t1
  let c2_i32 : BitVec 32 := 2#32
  let v35 : BitVec 32 := Scalar.muli arg12 c2_i32
  let v36 : BitVec 32 := Scalar.addi v35 c0_i32_23
  let c512_i32_303 : BitVec 32 := 512#32
  let v459 : BitVec 32 := Scalar.muli v36 c512_i32_303
  let v460 : BitVec 32 := v459
  let v461 : Index := Scalar.indexCast v460
  let c0_304 : Index := 0#32
  ![v461.toNat, 0]
def k0_mult4 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c2_i32_311 : BitVec 32 := 2#32
  let v471 : BitVec 32 := Scalar.muli arg12 c2_i32_311
  let c1_i32_312 : BitVec 32 := 1#32
  let v472 : BitVec 32 := Scalar.addi v471 c1_i32_312
  let c1_i32_553 : BitVec 32 := 1#32
  let v813 : BitVec 32 := Scalar.addi v472 c1_i32_553
  let c15_i32_554 : BitVec 32 := 15#32
  let v814 : BitVec 32 := Scalar.minsi v813 c15_i32_554
  let c512_i32_555 : BitVec 32 := 512#32
  let v815 : BitVec 32 := Scalar.muli v814 c512_i32_555
  v815
def k0_mult5 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c2_i32_311 : BitVec 32 := 2#32
  let v471 : BitVec 32 := Scalar.muli arg12 c2_i32_311
  let c1_i32_312 : BitVec 32 := 1#32
  let v472 : BitVec 32 := Scalar.addi v471 c1_i32_312
  let c512_i32_606 : BitVec 32 := 512#32
  let v895 : BitVec 32 := Scalar.muli v472 c512_i32_606
  v895
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8448x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32768x512 : Shape := ⟨2, ![32768, 512]⟩
abbrev S33792x512 : Shape := ⟨2, ![33792, 512]⟩
abbrev S1x1 : Shape := ⟨2, ![1, 1]⟩
abbrev S128 : Shape := ⟨1, ![128]⟩
abbrev S4x8192x4x2x64 : Shape := ⟨5, ![4, 8192, 4, 2, 64]⟩
abbrev S4x8448x4x2x64 : Shape := ⟨5, ![4, 8448, 4, 2, 64]⟩
abbrev S4x8448x4x128 : Shape := ⟨4, ![4, 8448, 4, 128]⟩
abbrev S4x4x2x8192x8448 : Shape := ⟨5, ![4, 4, 2, 8192, 8448]⟩
abbrev S_ : Shape := ⟨0, ![]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S1x1x1x1 : Shape := ⟨4, ![1, 1, 1, 1]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S33792x512, .f32⟩
  | .hbm, ⟨2, _⟩ => ⟨S33792x512, .f32⟩
  | .hbm, ⟨3, _⟩ => ⟨S1x1, .f32⟩
  | .hbm, ⟨4, _⟩ => ⟨S128, .f32⟩
  | .hbm, ⟨5, _⟩ => ⟨S4x8192x4x2x64, .f32⟩
  | .hbm, ⟨6, _⟩ => ⟨S4x8448x4x2x64, .f32⟩
  | .hbm, ⟨7, _⟩ => ⟨S4x8448x4x128, .f32⟩
  | .hbm, ⟨8, _⟩ => ⟨S4x4x2x8192x8448, .f32⟩
  | .hbm, ⟨9, _⟩ => ⟨S_, .f32⟩
  | .hbm, ⟨10, _⟩ => ⟨S4x4x2x8192x8448, .f32⟩
  | .hbm, ⟨11, _⟩ => ⟨S4x4x2x8192x8448, .f32⟩
  | .hbm, ⟨12, _⟩ => ⟨S_, .f32⟩
  | .hbm, ⟨13, _⟩ => ⟨S4x4x2x8192, .f32⟩
  | .hbm, ⟨14, _⟩ => ⟨S_, .f32⟩
  | .hbm, ⟨15, _⟩ => ⟨S4x4x2x8192, .f32⟩
  | .hbm, ⟨16, _⟩ => ⟨S4x4x2x8192, .f32⟩
  | .hbm, ⟨17, _⟩ => ⟨S4x4x2x8192x1, .f32⟩
  | .hbm, ⟨18, _⟩ => ⟨S4x4x2x8192x8448, .f32⟩
  | .hbm, ⟨19, _⟩ => ⟨S4x4x2x8192x8448, .f32⟩
  | .hbm, ⟨20, _⟩ => ⟨S4x4x2x8192x8448, .f32⟩
  | .hbm, ⟨21, _⟩ => ⟨S_, .f32⟩
  | .hbm, ⟨22, _⟩ => ⟨S4x4x2x8192, .f32⟩
  | .hbm, ⟨23, _⟩ => ⟨S4x4x2x8192x1, .f32⟩
  | .hbm, ⟨24, _⟩ => ⟨S4x4x2x8192x8448, .f32⟩
  | .hbm, ⟨25, _⟩ => ⟨S4x4x2x8192x8448, .f32⟩
  | .hbm, ⟨26, _⟩ => ⟨S4x4x1x8192x8448, .f32⟩
  | .hbm, ⟨27, _⟩ => ⟨S4x4x8192x8448, .f32⟩
  | .hbm, ⟨28, _⟩ => ⟨S4x4x1x8192x8448, .f32⟩
  | .hbm, ⟨29, _⟩ => ⟨S4x4x8192x8448, .f32⟩
  | .hbm, ⟨30, _⟩ => ⟨S1x1x1x1, .f32⟩
  | .hbm, ⟨31, _⟩ => ⟨S4x4x8192x8448, .f32⟩
  | .hbm, ⟨32, _⟩ => ⟨S4x4x8192x8448, .f32⟩
  | .hbm, ⟨33, _⟩ => ⟨S4x4x8192x8448, .f32⟩
  | .hbm, ⟨34, _⟩ => ⟨S4x4x128x8192, .f32⟩
  | .hbm, ⟨35, _⟩ => ⟨S4x8192x4x128, .f32⟩
  | .hbm, ⟨36, _⟩ => ⟨S4x8192x4x128, .f32⟩
  | .hbm, ⟨37, _⟩ => ⟨S_, .f32⟩
  | .hbm, ⟨38, _⟩ => ⟨S4x8192x4, .f32⟩
  | .hbm, ⟨39, _⟩ => ⟨S4x8192x4x1, .f32⟩
  | .hbm, ⟨40, _⟩ => ⟨S_, .f32⟩
  | .hbm, ⟨41, _⟩ => ⟨S4x8192x4x1, .f32⟩
  | .hbm, ⟨42, _⟩ => ⟨S4x8192x4x1, .f32⟩
  | .hbm, ⟨43, _⟩ => ⟨S_, .f32⟩
  | .hbm, ⟨44, _⟩ => ⟨S4x8192x4x1, .f32⟩
  | .hbm, ⟨45, _⟩ => ⟨S4x8192x4x1, .f32⟩
  | .hbm, ⟨46, _⟩ => ⟨S4x8192x4x1, .f32⟩
  | .hbm, ⟨47, _⟩ => ⟨S4x8192x4x128, .f32⟩
  | .hbm, ⟨48, _⟩ => ⟨S4x8192x4x128, .f32⟩
  | .hbm, ⟨49, _⟩ => ⟨S1x1x1x128, .f32⟩
  | .hbm, ⟨50, _⟩ => ⟨S4x8192x4x128, .f32⟩
  | .hbm, ⟨51, _⟩ => ⟨S4x8192x4x128, .f32⟩
  | .hbm, ⟨52, _⟩ => ⟨S_, .f32⟩
  | .hbm, ⟨53, _⟩ => ⟨S4x8192x4x128, .f32⟩
  | .hbm, ⟨54, _⟩ => ⟨S4x8192x4x128, .f32⟩
  | .hbm, ⟨55, _⟩ => ⟨S32768x512, .f32⟩
  | .hbm, ⟨56, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel2.lean ====
abbrev S151552x1024 : Shape := ⟨2, ![151552, 1024]⟩
abbrev S32 : Shape := ⟨1, ![32]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S296 : Shape := ⟨1, ![296]⟩
abbrev S296x1 : Shape := ⟨2, ![296, 1]⟩
abbrev S1x32 : Shape := ⟨2, ![1, 32]⟩
abbrev S296x32 : Shape := ⟨2, ![296, 32]⟩
abbrev S1 : Shape := ⟨1, ![1]⟩
abbrev S295 : Shape := ⟨1, ![295]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S256x256 : Shape := ⟨2, ![256, 256]⟩
abbrev S512x1024 : Shape := ⟨2, ![512, 1024]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1x1024x256 : Shape := ⟨4, ![1, 1, 1024, 256]⟩
abbrev S1024x256 : Shape := ⟨2, ![1024, 256]⟩
abbrev S512x2048 : Shape := ⟨2, ![512, 2048]⟩
abbrev S1x2048 : Shape := ⟨2, ![1, 2048]⟩
abbrev S512x128 : Shape := ⟨2, ![512, 128]⟩
abbrev S1x1024 : Shape := ⟨2, ![1, 1024]⟩

abbrev nBuf : Space → Nat
  | .hbm => 91
  | .vmem => 15
  | .smem => 3
  | _ => 0

abbrev bufTy : (tb : Table) → Fin (tcTables nBuf tb) → BufTy
  | .hbm, ⟨0, _⟩ => ⟨S151552x1024, .f32⟩
  | .hbm, ⟨1, _⟩ => ⟨S32, .i32⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S296, .i32⟩
  | .hbm, ⟨37, _⟩ => ⟨S_, .i32⟩
  | .hbm, ⟨38, _⟩ => ⟨S296, .i32⟩
  | .hbm, ⟨39, _⟩ => ⟨S296, .i32⟩
  | .hbm, ⟨40, _⟩ => ⟨S296x1, .i32⟩
  | .hbm, ⟨41, _⟩ => ⟨S1x32, .i32⟩
  | .hbm, ⟨42, _⟩ => ⟨S296x32, .i32⟩
  | .hbm, ⟨43, _⟩ => ⟨S296x32, .i32⟩
  | .hbm, ⟨44, _⟩ => ⟨S296x32, .i1⟩
  | .hbm, ⟨45, _⟩ => ⟨S296x32, .i32⟩
  | .hbm, ⟨46, _⟩ => ⟨S_, .i32⟩
  | .hbm, ⟨47, _⟩ => ⟨S296, .i32⟩
  | .hbm, ⟨48, _⟩ => ⟨S_, .i32⟩
  | .hbm, ⟨49, _⟩ => ⟨S296, .i32⟩
  | .hbm, ⟨50, _⟩ => ⟨S1, .i32⟩
  | .hbm, ⟨51, _⟩ => ⟨S_, .i32⟩
  | .hbm, ⟨52, _⟩ => ⟨S296, .i32⟩
  | .hbm, ⟨53, _⟩ => ⟨S296, .i1⟩
  | .hbm, ⟨54, _⟩ => ⟨S_, .i32⟩
  | .hbm, ⟨55, _⟩ => ⟨S1, .i32⟩
  | .hbm, ⟨56, _⟩ => ⟨S295, .i32⟩
  | .hbm, ⟨57, _⟩ => ⟨S295, .i32⟩
  | .hbm, ⟨58, _⟩ => ⟨S295, .i1⟩
  | .hbm, ⟨59, _⟩ => ⟨S295, .i32⟩
  | .hbm, ⟨60, _⟩ => ⟨S32x8x128x2, .f32⟩
  | .hbm, ⟨61, _⟩ => ⟨S32x8x2x128, .f32⟩
  | .hbm, ⟨62, _⟩ => ⟨S32x1x2048, .f32⟩
  | .hbm, ⟨63, _⟩ => ⟨S151552x1024, .bf16⟩
  | .hbm, ⟨64, _⟩ => ⟨S32x1x1024, .f32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i1⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S_, .i32⟩
  | .hbm, ⟨74, _⟩ => ⟨S256x256, .i32⟩
  | .hbm, ⟨75, _⟩ => ⟨S256x256, .i32⟩
  | .hbm, ⟨76, _⟩ => ⟨S_, .i32⟩
  | .hbm, ⟨77, _⟩ => ⟨S256x256, .i32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S_, .f32⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S256x256, .bf16⟩
  | .hbm, ⟨90, _⟩ => ⟨S151552x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x256, .bf16⟩
  | .local _ .vmem, ⟨11, _⟩ => ⟨S512x1024, .bf16⟩
  | .local _ .vmem, ⟨12, _⟩ => ⟨S512x1024, .bf16⟩
  | .local _ .vmem, ⟨13, _⟩ => ⟨S1024x2048, .bf16⟩
  | .local _ .vmem, ⟨14, _⟩ => ⟨S1024x1024, .bf16⟩
  | .local _ .smem, ⟨0, _⟩ => ⟨S296, .i32⟩
  | .local _ .smem, ⟨1, _⟩ => ⟨S296, .i32⟩
  | .local _ .smem, ⟨2, _⟩ => ⟨S296, .i32⟩
  | _, _ => ⟨S151552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_7 : Ref sig .tc := ⟨.hbm, 67, rfl⟩
abbrev main_v38 : Ref sig .tc := ⟨.hbm, 68, rfl⟩
abbrev main_v39 : Ref sig .tc := ⟨.hbm, 69, rfl⟩
abbrev main_c_8 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst : Ref sig .tc := ⟨.hbm, 84, rfl⟩
abbrev main_cst_12 : Ref sig .tc := ⟨.hbm, 85, rfl⟩
abbrev main_call3_v0 : Ref sig .tc := ⟨.hbm, 86, rfl⟩
abbrev main_call3_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v19 : Ref sig .tc := ⟨.smem, 0, rfl⟩
abbrev main_v24 : Ref sig .tc := ⟨.smem, 1, rfl⟩
abbrev main_v30 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![296], ![false]⟩

abbrev pre0 : Pipeline.Prefetch sig := ⟨3, ![main_v19.idx, main_v24.idx, main_v30.idx], fun | 0 => main_v19.names | 1 => main_v24.names | 2 => main_v30.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c0_i32_1 : BitVec 32 := 0#32
  let v7 : BitVec 1 := Scalar.cmpi .sgt v6 c0_i32_1
  let v8 : BitVec 32 := Scalar.extui v7
  let c0_i32_2 : BitVec 32 := 0#32
  let v9 : BitVec 1 := Scalar.cmpi .ne v8 c0_i32_2
  v9

def k0_cond3 (v11 : BitVec 32) : BitVec 1 :=
  let c0_i32_3 : BitVec 32 := 0#32
  let v12 : BitVec 1 := Scalar.cmpi .eq v11 c0_i32_3
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S151552x1024 : Shape := ⟨2, ![151552, 1024]⟩
abbrev S32 : Shape := ⟨1, ![32]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S296 : Shape := ⟨1, ![296]⟩
abbrev S296x1 : Shape := ⟨2, ![296, 1]⟩
abbrev S1x32 : Shape := ⟨2, ![1, 32]⟩
abbrev S296x32 : Shape := ⟨2, ![296, 32]⟩
abbrev S1x32x1024x2048 : Shape := ⟨4, ![1, 32, 1024, 2048]⟩
abbrev S32x1024x2048 : Shape := ⟨3, ![32, 1024, 2048]⟩
abbrev S1x32x1024x1024 : Shape := ⟨4, ![1, 32, 1024, 1024]⟩
abbrev S32x1024x1024 : Shape := ⟨3, ![32, 1024, 1024]⟩
abbrev S296x512x1024 : Shape := ⟨3, ![296, 512, 1024]⟩
abbrev S296x1024x2048 : Shape := ⟨3, ![296, 1024, 2048]⟩
abbrev S296x512x2048 : Shape := ⟨3, ![296, 512, 2048]⟩
abbrev S296x2048 : Shape := ⟨2, ![296, 2048]⟩
abbrev S296x1x2048 : Shape := ⟨3, ![296, 1, 2048]⟩
abbrev S296x1024x1024 : Shape := ⟨3, ![296, 1024, 1024]⟩
abbrev S296x1024 : Shape := ⟨2, ![296, 1024]⟩
abbrev S296x1x1024 : Shape := ⟨3, ![296, 1, 1024]⟩
abbrev S1 : Shape := ⟨1, ![1]⟩
abbrev S296x1x1 : Shape := ⟨3, ![296, 1, 1]⟩

abbrev nBuf : Space → Nat
  | .hbm => 141
  | .vmem => 0
  | .smem => 0
  | _ => 0

abbrev hbmTy0_0 (i : Nat) : BufTy := match i % 128 with
  | 0 => ⟨S151552x1024, .f32⟩
  | 1 => ⟨S32, .i32⟩
  | 2 => ⟨S2x32x1024x2048, .f32⟩
  | 3 => ⟨S32x2048, .f32⟩
  | 4 => ⟨S2x32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S296, .i32⟩
  | 37 => ⟨S_, .i32⟩
  | 38 => ⟨S296, .i32⟩
  | 39 => ⟨S296, .i32⟩
  | 40 => ⟨S296x1, .i32⟩
  | 41 => ⟨S1x32, .i32⟩
  | 42 => ⟨S296x32, .i32⟩
  | 43 => ⟨S296x32, .i32⟩
  | 44 => ⟨S296x32, .i1⟩
  | 45 => ⟨S296x32, .i32⟩
  | 46 => ⟨S_, .i32⟩
  | 47 => ⟨S296, .i32⟩
  | 48 => ⟨S_, .i32⟩
  | 49 => ⟨S296, .i32⟩
  | 50 => ⟨S296, .i32⟩
  | 51 => ⟨S1x32x1024x2048, .f32⟩
  | 52 => ⟨S32x1024x2048, .f32⟩
  | 53 => ⟨S1x32x1024x1024, .f32⟩
  | 54 => ⟨S32x1024x1024, .f32⟩
  | 55 => ⟨S296x512x1024, .f32⟩
  | 56 => ⟨S_, .i32⟩
  | 57 => ⟨S296, .i32⟩
  | 58 => ⟨S296, .i1⟩
  | 59 => ⟨S_, .i32⟩
  | 60 => ⟨S296, .i32⟩
  | 61 => ⟨S296, .i32⟩
  | 62 => ⟨S296, .i32⟩
  | 63 => ⟨S296x1, .i32⟩
  | 64 => ⟨S296x1024x2048, .f32⟩
  | 65 => ⟨S296x512x2048, .f32⟩
  | 66 => ⟨S_, .i32⟩
  | 67 => ⟨S296, .i32⟩
  | 68 => ⟨S296, .i1⟩
  | 69 => ⟨S_, .i32⟩
  | 70 => ⟨S296, .i32⟩
  | 71 => ⟨S296, .i32⟩
  | 72 => ⟨S296, .i32⟩
  | 73 => ⟨S296x1, .i32⟩
  | 74 => ⟨S296x2048, .f32⟩
  | 75 => ⟨S296x1x2048, .f32⟩
  | 76 => ⟨S296x512x2048, .f32⟩
  | 77 => ⟨S296x512x2048, .f32⟩
  | 78 => ⟨S296x512x1024, .f32⟩
  | 79 => ⟨S296x512x1024, .f32⟩
  | 80 => ⟨S_, .f32⟩
  | 81 => ⟨S296x512x1024, .f32⟩
  | 82 => ⟨S296x512x1024, .f32⟩
  | 83 => ⟨S_, .f32⟩
  | 84 => ⟨S_, .f32⟩
  | 85 => ⟨S_, .f32⟩
  | 86 => ⟨S296x512x1024, .f32⟩
  | 87 => ⟨S296x512x1024, .f32⟩
  | 88 => ⟨S_, .f32⟩
  | 89 => ⟨S296x512x1024, .f32⟩
  | 90 => ⟨S296x512x1024, .f32⟩
  | 91 => ⟨S_, .f32⟩
  | 92 => ⟨S296x512x1024, .f32⟩
  | 93 => ⟨S296x512x1024, .f32⟩
  | 94 => ⟨S296x512x1024, .f32⟩
  | 95 => ⟨S296x512x1024, .f32⟩
  | 96 => ⟨S_, .f32⟩
  | 97 => ⟨S296x512x1024, .f32⟩
  | 98 => ⟨S296x512x1024, .f32⟩
  | 99 => ⟨S_, .f32⟩
  | 100 => ⟨S296x512x1024, .f32⟩
  | 101 => ⟨S296x512x1024, .f32⟩
  | 102 => ⟨S296x512x1024, .f32⟩
  | 103 => ⟨S_, .f32⟩
  | 104 => ⟨S296x512x1024, .f32⟩
  | 105 => ⟨S296x512x1024, .f32⟩
  | 106 => ⟨S296x512x1024, .f32⟩
  | 107 => ⟨S_, .i32⟩
  | 108 => ⟨S296, .i32⟩
  | 109 => ⟨S296, .i1⟩
  | 110 => ⟨S_, .i32⟩
  | 111 => ⟨S296, .i32⟩
  | 112 => ⟨S296, .i32⟩
  | 113 => ⟨S296, .i32⟩
  | 114 => ⟨S296x1, .i32⟩
  | 115 => ⟨S296x1024x1024, .f32⟩
  | 116 => ⟨S296x512x1024, .f32⟩
  | 117 => ⟨S_, .i32⟩
  | 118 => ⟨S296, .i32⟩
  | 119 => ⟨S296, .i1⟩
  | 120 => ⟨S_, .i32⟩
  | 121 => ⟨S296, .i32⟩
  | 122 => ⟨S296, .i32⟩
  | 123 => ⟨S296, .i32⟩
  | 124 => ⟨S296x1, .i32⟩
  | 125 => ⟨S296x1024, .f32⟩
  | 126 => ⟨S296x1x1024, .f32⟩
  | 127 => ⟨S296x512x1024, .f32⟩
  | _ => ⟨S151552x1024, .f32⟩

abbrev hbmTy0_1 (i : Nat) : BufTy := match i % 128 with
  | 0 => ⟨S296x512x1024, .f32⟩
  | 1 => ⟨S1, .i32⟩
  | 2 => ⟨S_, .i32⟩
  | 3 => ⟨S296, .i32⟩
  | 4 => ⟨S296, .i1⟩
  | 5 => ⟨S296x1x1, .i1⟩
  | 6 => ⟨S_, .f32⟩
  | 7 => ⟨S_, .f32⟩
  | 8 => ⟨S296x512x1024, .i1⟩
  | 9 => ⟨S296x512x1024, .f32⟩
  | 10 => ⟨S296x512x1024, .f32⟩
  | 11 => ⟨S151552x1024, .f32⟩
  | 12 => ⟨S151552x1024, .bf16⟩
  | _ => ⟨S151552x1024, .f32⟩

abbrev hbmTy (i : Nat) : BufTy := match i / 128 with
  | 0 => hbmTy0_0 i
  | 1 => hbmTy0_1 i
  | _ => ⟨S151552x1024, .f32⟩

abbrev bufTy : (tb : Table) → Fin (tcTables nBuf tb) → BufTy
  | .hbm, ⟨i, _⟩ => hbmTy i
  | _, _ => ⟨S151552x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_v60 : Ref sig .tc := ⟨.hbm, 108, rfl⟩
abbrev main_v61 : Ref sig .tc := ⟨.hbm, 109, rfl⟩
abbrev main_c_17 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_18 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_20 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S4x1024 : Shape := ⟨2, ![4, 1024]⟩
abbrev S1024x5888 : Shape := ⟨2, ![1024, 5888]⟩
abbrev S64 : Shape := ⟨1, ![64]⟩
abbrev S8192x2x16 : Shape := ⟨3, ![8192, 2, 16]⟩
abbrev S8192x2x1x16 : Shape := ⟨4, ![8192, 2, 1, 16]⟩
abbrev S_ : Shape := ⟨0, ![]⟩
abbrev S8192x2x2x16 : Shape := ⟨4, ![8192, 2, 2, 16]⟩
abbrev S8192x64 : Shape := ⟨2, ![8192, 64]⟩
abbrev S8192x128 : Shape := ⟨2, ![8192, 128]⟩
abbrev S512x512 : Shape := ⟨2, ![512, 512]⟩
abbrev S1x1024 : Shape := ⟨2, ![1, 1024]⟩
abbrev S4x1x1024 : Shape := ⟨3, ![4, 1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x8192x512 : Shape := ⟨3, ![4, 8192, 512]⟩
abbrev S4x8192x768 : Shape := ⟨3, ![4, 8192, 768]⟩
abbrev S4x8192x3072 : Shape := ⟨3, ![4, 8192, 3072]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x768 : Shape := ⟨3, ![1, 512, 768]⟩
abbrev S1x512x3072 : Shape := ⟨3, ![1, 512, 3072]⟩
abbrev S512x1024 : Shape := ⟨2, ![512, 1024]⟩
abbrev S512x1 : Shape := ⟨2, ![512, 1]⟩
abbrev S1024x512 : Shape := ⟨2, ![1024, 512]⟩
abbrev S1024x768 : Shape := ⟨2, ![1024, 768]⟩
abbrev S512x768 : Shape := ⟨2, ![512, 768]⟩
abbrev S1x512x128 : Shape := ⟨3, ![1, 512, 128]⟩
abbrev S1024x1024 : Shape := ⟨2, ![1024, 1024]⟩

abbrev nBuf : Space → Nat
  | .hbm => 58
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x5888, .f32⟩
  | .hbm, ⟨5, _⟩ => ⟨S64, .f32⟩
  | .hbm, ⟨6, _⟩ => ⟨S64, .f32⟩
  | .hbm, ⟨7, _⟩ => ⟨S8192x2x16, .f32⟩
  | .hbm, ⟨8, _⟩ => ⟨S8192x2x16, .f32⟩
  | .hbm, ⟨9, _⟩ => ⟨S1024x5888, .bf16⟩
  | .hbm, ⟨10, _⟩ => ⟨S8192x2x1x16, .f32⟩
  | .hbm, ⟨11, _⟩ => ⟨S_, .f32⟩
  | .hbm, ⟨12, _⟩ => ⟨S8192x2x1x16, .f32⟩
  | .hbm, ⟨13, _⟩ => ⟨S8192x2x1x16, .f32⟩
  | .hbm, ⟨14, _⟩ => ⟨S8192x2x1x16, .f32⟩
  | .hbm, ⟨15, _⟩ => ⟨S8192x2x2x16, .f32⟩
  | .hbm, ⟨16, _⟩ => ⟨S8192x64, .f32⟩
  | .hbm, ⟨17, _⟩ => ⟨S8192x128, .f32⟩
  | .hbm, ⟨18, _⟩ => ⟨S8192x2x1x16, .f32⟩
  | .hbm, ⟨19, _⟩ => ⟨S_, .f32⟩
  | .hbm, ⟨20, _⟩ => ⟨S8192x2x1x16, .f32⟩
  | .hbm, ⟨21, _⟩ => ⟨S8192x2x1x16, .f32⟩
  | .hbm, ⟨22, _⟩ => ⟨S8192x2x1x16, .f32⟩
  | .hbm, ⟨23, _⟩ => ⟨S8192x2x2x16, .f32⟩
  | .hbm, ⟨24, _⟩ => ⟨S8192x64, .f32⟩
  | .hbm, ⟨25, _⟩ => ⟨S8192x128, .f32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S1x1024, .f32⟩
  | .hbm, ⟨42, _⟩ => ⟨S4x1x1024, .f32⟩
  | .hbm, ⟨43, _⟩ => ⟨S4x1x1024, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S4x8192x512, .f32⟩
  | .hbm, ⟨53, _⟩ => ⟨S4x8192x768, .f32⟩
  | .hbm, ⟨54, _⟩ => ⟨S4x8192x512, .bf16⟩
  | .hbm, ⟨55, _⟩ => ⟨S4x8192x512, .bf16⟩
  | .hbm, ⟨56, _⟩ => ⟨S4x8192x1024, .bf16⟩
  | .hbm, ⟨57, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5888, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .f32⟩
  | .local _ .vmem, ⟨16, _⟩ => ⟨S1x512x512, .f32⟩
  | .local _ .vmem, ⟨17, _⟩ => ⟨S1x512x768, .f32⟩
  | .local _ .vmem, ⟨18, _⟩ => ⟨S1x512x768, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x3072, .bf16⟩
  | .local _ .vmem, ⟨26, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev main_v35_4 : Ref sig .tc := ⟨.hbm, 56, rfl⟩
abbrev main_v35_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5888 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x8192x1024 : Shape := ⟨3, ![4, 8192, 1024]⟩
abbrev S1024 : Shape := ⟨1, ![1024]⟩
abbrev S4x1024 : Shape := ⟨2, ![4, 1024]⟩
abbrev S1024x5888 : Shape := ⟨2, ![1024, 5888]⟩
abbrev S64 : Shape := ⟨1, ![64]⟩
abbrev S8192x2x16 : Shape := ⟨3, ![8192, 2, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x5888 : Shape := ⟨3, ![4, 8192, 5888]⟩
abbrev S4x8192x512 : Shape := ⟨3, ![4, 8192, 512]⟩
abbrev S4x8192x768 : Shape := ⟨3, ![4, 8192, 768]⟩
abbrev S4x8192x3072 : Shape := ⟨3, ![4, 8192, 3072]⟩
abbrev S4x8192x4x128 : Shape := ⟨4, ![4, 8192, 4, 128]⟩
abbrev S4x8192x4x256 : Shape := ⟨4, ![4, 8192, 4, 256]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x2x2x16 : Shape := ⟨6, ![4, 8192, 8, 2, 2, 16]⟩
abbrev S4x8192x8x2x1x16 : Shape := ⟨6, ![4, 8192, 8, 2, 1, 16]⟩
abbrev S4x8192x8x2x16 : Shape := ⟨5, ![4, 8192, 8, 2, 16]⟩
abbrev S1x8192x1x2x16 : Shape := ⟨5, ![1, 8192, 1, 2, 16]⟩

abbrev nBuf : Space → Nat
  | .hbm => 136
  | .vmem => 0
  | .smem => 0
  | _ => 0

abbrev hbmTy0_0 (i : Nat) : BufTy := match i % 128 with
  | 0 => ⟨S4x8192x1024, .f32⟩
  | 1 => ⟨S1024, .f32⟩
  | 2 => ⟨S4x1024, .f32⟩
  | 3 => ⟨S4x1024, .f32⟩
  | 4 => ⟨S1024x5888, .f32⟩
  | 5 => ⟨S64, .f32⟩
  | 6 => ⟨S64, .f32⟩
  | 7 => ⟨S8192x2x16, .f32⟩
  | 8 => ⟨S8192x2x16, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x1x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x1x1024, .f32⟩
  | 32 => ⟨S4x8192x1024, .f32⟩
  | 33 => ⟨S4x8192x1024, .f32⟩
  | 34 => ⟨S4x8192x5888, .f32⟩
  | 35 => ⟨S4x8192x512, .f32⟩
  | 36 => ⟨S4x8192x768, .f32⟩
  | 37 => ⟨S4x8192x512, .f32⟩
  | 38 => ⟨S4x8192x512, .f32⟩
  | 39 => ⟨S4x8192x512, .f32⟩
  | 40 => ⟨S4x8192x3072, .f32⟩
  | 41 => ⟨S4x8192x4x128, .f32⟩
  | 42 => ⟨S_, .f32⟩
  | 43 => ⟨S4x8192x4x128, .f32⟩
  | 44 => ⟨S4x8192x4x256, .f32⟩
  | 45 => ⟨S4x8192x1024, .f32⟩
  | 46 => ⟨S4x8192x8x64, .f32⟩
  | 47 => ⟨S4x8192x8x64, .f32⟩
  | 48 => ⟨S_, .f32⟩
  | 49 => ⟨S4x8192x8, .f32⟩
  | 50 => ⟨S4x8192x8x1, .f32⟩
  | 51 => ⟨S_, .f32⟩
  | 52 => ⟨S4x8192x8x1, .f32⟩
  | 53 => ⟨S4x8192x8x1, .f32⟩
  | 54 => ⟨S_, .f32⟩
  | 55 => ⟨S4x8192x8x1, .f32⟩
  | 56 => ⟨S4x8192x8x1, .f32⟩
  | 57 => ⟨S4x8192x8x1, .f32⟩
  | 58 => ⟨S4x8192x8x64, .f32⟩
  | 59 => ⟨S4x8192x8x64, .f32⟩
  | 60 => ⟨S1x1x1x64, .f32⟩
  | 61 => ⟨S4x8192x8x64, .f32⟩
  | 62 => ⟨S4x8192x8x64, .f32⟩
  | 63 => ⟨S4x8192x8x2x2x16, .f32⟩
  | 64 => ⟨S4x8192x8x2x1x16, .f32⟩
  | 65 => ⟨S4x8192x8x2x16, .f32⟩
  | 66 => ⟨S4x8192x8x2x1x16, .f32⟩
  | 67 => ⟨S4x8192x8x2x16, .f32⟩
  | 68 => ⟨S1x8192x1x2x16, .f32⟩
  | 69 => ⟨S1x8192x1x2x16, .f32⟩
  | 70 => ⟨S4x8192x8x2x16, .f32⟩
  | 71 => ⟨S4x8192x8x2x16, .f32⟩
  | 72 => ⟨S4x8192x8x2x16, .f32⟩
  | 73 => ⟨S4x8192x8x2x16, .f32⟩
  | 74 => ⟨S4x8192x8x2x16, .f32⟩
  | 75 => ⟨S4x8192x8x2x16, .f32⟩
  | 76 => ⟨S4x8192x8x2x16, .f32⟩
  | 77 => ⟨S4x8192x8x2x16, .f32⟩
  | 78 => ⟨S4x8192x8x2x16, .f32⟩
  | 79 => ⟨S4x8192x8x2x16, .f32⟩
  | 80 => ⟨S4x8192x8x2x1x16, .f32⟩
  | 81 => ⟨S4x8192x8x2x1x16, .f32⟩
  | 82 => ⟨S4x8192x8x2x2x16, .f32⟩
  | 83 => ⟨S4x8192x8x64, .f32⟩
  | 84 => ⟨S4x8192x512, .f32⟩
  | 85 => ⟨S4x8192x512, .bf16⟩
  | 86 => ⟨S4x8192x8x64, .f32⟩
  | 87 => ⟨S4x8192x8x64, .f32⟩
  | 88 => ⟨S_, .f32⟩
  | 89 => ⟨S4x8192x8, .f32⟩
  | 90 => ⟨S4x8192x8x1, .f32⟩
  | 91 => ⟨S_, .f32⟩
  | 92 => ⟨S4x8192x8x1, .f32⟩
  | 93 => ⟨S4x8192x8x1, .f32⟩
  | 94 => ⟨S_, .f32⟩
  | 95 => ⟨S4x8192x8x1, .f32⟩
  | 96 => ⟨S4x8192x8x1, .f32⟩
  | 97 => ⟨S4x8192x8x1, .f32⟩
  | 98 => ⟨S4x8192x8x64, .f32⟩
  | 99 => ⟨S4x8192x8x64, .f32⟩
  | 100 => ⟨S1x1x1x64, .f32⟩
  | 101 => ⟨S4x8192x8x64, .f32⟩
  | 102 => ⟨S4x8192x8x64, .f32⟩
  | 103 => ⟨S4x8192x8x2x2x16, .f32⟩
  | 104 => ⟨S4x8192x8x2x1x16, .f32⟩
  | 105 => ⟨S4x8192x8x2x16, .f32⟩
  | 106 => ⟨S4x8192x8x2x1x16, .f32⟩
  | 107 => ⟨S4x8192x8x2x16, .f32⟩
  | 108 => ⟨S1x8192x1x2x16, .f32⟩
  | 109 => ⟨S1x8192x1x2x16, .f32⟩
  | 110 => ⟨S4x8192x8x2x16, .f32⟩
  | 111 => ⟨S4x8192x8x2x16, .f32⟩
  | 112 => ⟨S4x8192x8x2x16, .f32⟩
  | 113 => ⟨S4x8192x8x2x16, .f32⟩
  | 114 => ⟨S4x8192x8x2x16, .f32⟩
  | 115 => ⟨S4x8192x8x2x16, .f32⟩
  | 116 => ⟨S4x8192x8x2x16, .f32⟩
  | 117 => ⟨S4x8192x8x2x16, .f32⟩
  | 118 => ⟨S4x8192x8x2x16, .f32⟩
  | 119 => ⟨S4x8192x8x2x16, .f32⟩
  | 120 => ⟨S4x8192x8x2x1x16, .f32⟩
  | 121 => ⟨S4x8192x8x2x1x16, .f32⟩
  | 122 => ⟨S4x8192x8x2x2x16, .f32⟩
  | 123 => ⟨S4x8192x8x64, .f32⟩
  | 124 => ⟨S4x8192x512, .f32⟩
  | 125 => ⟨S4x8192x512, .bf16⟩
  | 126 => ⟨S4x8192x1024, .bf16⟩
  | 127 => ⟨S4x8192x3072, .f32⟩
  | _ => ⟨S4x8192x1024, .f32⟩

abbrev hbmTy0_1 (i : Nat) : BufTy := match i % 128 with
  | 0 => ⟨S4x8192x3072, .f32⟩
  | 1 => ⟨S_, .f32⟩
  | 2 => ⟨S4x8192x3072, .f32⟩
  | 3 => ⟨S4x8192x3072, .f32⟩
  | 4 => ⟨S_, .f32⟩
  | 5 => ⟨S4x8192x3072, .f32⟩
  | 6 => ⟨S4x8192x3072, .f32⟩
  | 7 => ⟨S4x8192x3072, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_10 : Ref sig .tc := ⟨.hbm, 129, rfl⟩
abbrev main_v109 : Ref sig .tc := ⟨.hbm, 130, rfl⟩
abbrev main_v110 : Ref sig .tc := ⟨.hbm, 131, rfl⟩
abbrev main_cst_11 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩

abbrev nD : Nat := 1
abbrev τ : Topo := Topo.v7x

variable {F : FTy → Type} [FloatOps F]
-- ==== Proof.Chunk.lean ====
module

public import proofs.«01_k».proof.Proof.Gen.KernelIdeal.Loops
public import proofs.«01_k».proof.Proof.Gen.KernelIdeal.Skeleton
public import Idealize.ShloMosaic.Lib.Pipeline.ReadBack
public import Idealize.ShloMosaic.Lib.ValueIdxCore
public import Idealize.ShloMosaic.Lib.WritesUnit
public import Idealize.ShloMosaic.Lib.VecWindow

/-!
  One key chunk's work as functions of what it loads, and a query block's eleven chunks as a fold.
-/

@[expose] public section

set_option maxRecDepth 16384

noncomputable section

namespace Cert.KernelIdeal.Hand

open Cert.KernelIdeal Cert.KernelIdeal.Gen Cert.KernelIdeal.Gen.trip_k0_t1
open Idealize.ShloMosaic Idealize.ShloMosaic.TcCoe Idealize.ShloMosaic.ValueIdx

variable {F : FTy → Type} [FloatOps F]

/-- The scores of a key chunk against the stacked queries. -/
def SC (kb : Vec F S768x128 .bf16) (qs : Vec F S1x1024x128 .bf16) : Vec F S1x1024x768 .f32 := k0_pay4 kb qs
/-- The running maximum after a chunk's scores. -/
def MN (s : Vec F S1x1024x768 .f32) (mx : Vec F S1024x128 .f32) : Vec F S1024x128 .f32 := k0_pay7 s mx
/-- The accumulator after a chunk: the old one rescaled, the chunk's weighted values added. -/
def AN (s : Vec F S1x1024x768 .f32) (vb : Vec F S768x256 .bf16) (mx : Vec F S1024x128 .f32) (a : Vec F S1024x256 .f32) :
    Vec F S1024x256 .f32 := k0_pay9 (k0_pay8 s vb mx a)
/-- The running maximum and the accumulator a query block starts from. -/
def M0 : Vec F S1024x128 .f32 := k0_pay94
def A0 : Vec F S1024x256 .f32 := k0_pay95
/-- A query block's output from the four quarters of its final accumulator, the mixing scalar and the gain row. -/
def OUT (p q r t : Vec F S512x128 .f32) (lam : F .f32) (g : Vec F S1x128 .f32) : FVec F S512x128 .bf16 :=
  k0_pay93 (k0_pay92 p q) r t lam g

/-- Key chunk `n` of the resident keys, and value chunk `n` of the resident values (`n` below 11). -/
def kb (x : S8448x128.Idx → Elt F .bf16) (n : ℕ) : Vec F S768x128 .bf16 :=
  View.ld x (Rect.unit (s := S8448x128) ![768 * (n % 11), 0] S768x128.size (by
    have : n % 11 < 11 := Nat.mod_lt _ (by decide)
    intro a; fin_cases a <;> simp [S8448x128, S768x128] <;> omega))
def vb (x : S8448x256.Idx → Elt F .bf16) (n : ℕ) : Vec F S768x256 .bf16 :=
  View.ld x (Rect.unit (s := S8448x256) ![768 * (n % 11), 0] S768x256.size (by
    have : n % 11 < 11 := Nat.mod_lt _ (by decide)
    intro a; fin_cases a <;> simp [S8448x256, S768x256] <;> omega))

/-- The scores chunk `n` is handled with: the first chunk's are found ready, the others computed. -/
def sAt (K : ℕ → Vec F S768x128 .bf16) (qs : Vec F S1x1024x128 .bf16) (s0 : Vec F S1x1024x768 .f32) : ℕ → Vec F S1x1024x768 .f32
  | 0 => s0
  | n + 1 => SC (K (n + 1)) qs

/-- The running maximum and the accumulator before chunk `n`. -/
def fold (K : ℕ → Vec F S768x128 .bf16) (V : ℕ → Vec F S768x256 .bf16) (qs : Vec F S1x1024x128 .bf16) (s0 : Vec F S1x1024x768 .f32)
    (m0 : Vec F S1024x128 .f32) (a0 : Vec F S1024x256 .f32) : ℕ → Vec F S1024x128 .f32 × Vec F S1024x256 .f32
  | 0 => (m0, a0)
  | n + 1 => (MN (sAt K qs s0 n) (fold K V qs s0 m0 a0 n).1, AN (sAt K qs s0 n) (V n) (fold K V qs s0 m0 a0 n).1 (fold K V qs s0 m0 a0 n).2)

/-- A query block's output from its final accumulator. -/
def OUTA (a : Vec F S1024x256 .f32) (lam : F .f32) (g : Vec F S1x128 .f32) : FVec F S512x128 .bf16 :=
  OUT (View.ld a (Rect.unit (s := S1024x256) ![0, 0] S512x128.size inb_S1024x256_S512x128_0_0))
    (View.ld a (Rect.unit (s := S1024x256) ![0, 128] S512x128.size inb_S1024x256_S512x128_0_128))
    (View.ld a (Rect.unit (s := S1024x256) ![512, 0] S512x128.size inb_S1024x256_S512x128_512_0))
    (View.ld a (Rect.unit (s := S1024x256) ![512, 128] S512x128.size inb_S1024x256_S512x128_512_128)) lam g

/-- The stacked queries of a block: its rows with only the first head's columns kept, over its rows with only the second's. -/
def stk (w : Vec F S512x128 .bf16) : Vec F S1x1024x128 .bf16 := fun j =>
  if h : (j 1).val < 512 then k0_pay83 w (ix3 (0 : Fin 1) (⟨(j 1).val, h⟩ : Fin 512) (j 2))
  else k0_pay84 w (ix3 (0 : Fin 1) (⟨(j 1).val - 512, by have : (j 1).val < 1024 := (j 1).isLt; omega⟩ : Fin 512) (j 2))

/-- Query block `b` of the resident queries (`b` below 16). -/
def qb (x : S8192x128.Idx → Elt F .bf16) (b : ℕ) : Vec F S512x128 .bf16 :=
  View.ld x (Rect.unit (s := S8192x128) ![512 * (b % 16), 0] S512x128.size (by
    have : b % 16 < 16 := Nat.mod_lt _ (by decide)
    intro a; fin_cases a <;> simp [S8192x128, S512x128] <;> omega))

/-- The mixing scalar from its cell. -/
def lamOf (x : S1x1.Idx → Elt F .f32) : F .f32 := x (ix2 (0 : Fin 1) (0 : Fin 1))

/-- A query block's output from the block, the resident keys and values, the mixing scalar and the gain row. -/
def block (w : Vec F S512x128 .bf16) (x2 : S1x1.Idx → Elt F .f32) (x4 : S8448x128.Idx → Elt F .bf16)
    (x5 : S8448x256.Idx → Elt F .bf16) (x6 : S1x128.Idx → Elt F .f32) : FVec F S512x128 .bf16 :=
  OUTA (fold (kb x4) (vb x5) (stk w) (SC (kb x4 0) (stk w)) M0 A0 11).2 (lamOf x2) x6

/-- The output window from the five input windows. -/
def tile (x2 : S1x1.Idx → Elt F .f32) (x3 : S8192x128.Idx → Elt F .bf16) (x4 : S8448x128.Idx → Elt F .bf16)
    (x5 : S8448x256.Idx → Elt F .bf16) (x6 : S1x128.Idx → Elt F .f32) : S8192x128.Idx → Elt F .bf16 := fun y =>
  block (qb x3 ((y 0).val / 512)) x2 x4 x5 x6 (ix2 (⟨(y 0).val % 512, Nat.mod_lt _ (by decide)⟩ : Fin 512) (y 1))

/-- Loads at equal offsets are equal. -/
theorem ld_off {Val : EltTy → Type} {s : Shape} {e : EltTy} (x : s.Idx → Val e) {off off' size : Fin s.rank → ℕ}
    (h : off = off') (p : ∀ a, off a + size a ≤ s.size a) (p' : ∀ a, off' a + size a ≤ s.size a) :
    View.ld x (Rect.unit off size p) = View.ld x (Rect.unit off' size p') := by subst h; rfl

/-- The two halves of a slot of the stacked-query scratch, stored last, are read back as the stack. -/
theorem readAt_stk (v : View sig .tc .vmem S2x1024x128 .bf16) (f : v.ty.Contents (Elt F)) (w : Vec F S512x128 .bf16)
    (L : List (View.Piece (Elt F) S2x1024x128 .bf16)) (t : ℕ)
    (p : ∀ a, (![t, 512, 0] : Fin 3 → ℕ) a + S1x512x128.size a ≤ S2x1024x128.size a)
    (q : ∀ a, (![t, 0, 0] : Fin 3 → ℕ) a + S1x512x128.size a ≤ S2x1024x128.size a)
    (r : ∀ a, (![t, 0, 0] : Fin 3 → ℕ) a + S1x1024x128.size a ≤ S2x1024x128.size a) :
    v.readAt (Elt F) (Rect.unit (s := S2x1024x128) ![t, 0, 0] S1x1024x128.size r).toLoadRect
      (v.writes (Elt F) f (⟨Rect.unit (s := S2x1024x128) ![t, 512, 0] S1x512x128.size p, k0_pay84 w⟩
        :: ⟨Rect.unit (s := S2x1024x128) ![t, 0, 0] S1x512x128.size q, k0_pay83 w⟩ :: L)) = stk w := by
  funext j
  rw [View.readAt_apply]
  have hj : (j 1).val < 1024 := (j 1).isLt
  have hj0 : (j 0).val < 1 := (j 0).isLt
  unfold stk
  by_cases h : (j 1).val < 512
  · rw [dif_pos h]
    refine (View.read_writes_cons_unit_of_not_mem v f p _ _ _ rfl (1 : Fin 3) (Or.inl ?_)).trans ?_
    · show 0 + 1 * (j 1).val < 512; omega
    refine View.read_writes_cons_unit_of_mem v f q _ _ _ (ix3 (0 : Fin 1) (⟨(j 1).val, h⟩ : Fin 512) (j 2)) rfl ?_
    intro a
    match a with
    | ⟨0, _⟩ => show t + 1 * (j 0).val = t + 0; omega
    | ⟨1, _⟩ => show 0 + 1 * (j 1).val = 0 + (j 1).val; omega
    | ⟨2, _⟩ => show 0 + 1 * (j 2).val = 0 + (j 2).val; omega
  · rw [dif_neg h]
    refine View.read_writes_cons_unit_of_mem v f p _ _ _ (ix3 (0 : Fin 1) (⟨(j 1).val - 512, by omega⟩ : Fin 512) (j 2)) rfl ?_
    intro a
    match a with
    | ⟨0, _⟩ => show t + 1 * (j 0).val = t + 0; omega
    | ⟨1, _⟩ => show 0 + 1 * (j 1).val = 512 + ((j 1).val - 512); omega
    | ⟨2, _⟩ => show 0 + 1 * (j 2).val = 0 + (j 2).val; omega

end Cert.KernelIdeal.Hand

end
-- ==== Proof.Trip.lean ====
module

public import proofs.«01_k».proof.Proof.Gen.KernelIdeal.Loops
public import proofs.«01_k».proof.Proof.Chunk
public import Idealize.ShloMosaic.Lib.Pipeline.ReadBack
public import Idealize.ShloMosaic.Lib.ValueIdxCore
public import Idealize.ShloMosaic.Lib.WritesUnit
public import Idealize.ShloMosaic.Lib.VecWindow

/-!
  One trip of the loop, read back value by value: each load the trip makes of what it stored earlier is a term of `fold`.
  The first block's chunks start from what the trip finds in the scratch, the second's from a fresh state.
-/

@[expose] public section

set_option maxRecDepth 16384

noncomputable section

namespace Cert.KernelIdeal.Hand

open Cert.KernelIdeal Cert.KernelIdeal.Gen Cert.KernelIdeal.Gen.trip_k0_t1
open Idealize.ShloMosaic Idealize.ShloMosaic.TcCoe Idealize.ShloMosaic.ValueIdx

variable {F : FTy → Type} [FloatOps F]

variable (arg2 : Memref sig .tc .smem S1x1 .f32) (arg3 : Memref sig .tc .vmem S8192x128 .bf16) (arg4 : Memref sig .tc .vmem S8448x128 .bf16) (arg5 : Memref sig .tc .vmem S8448x256 .bf16) (arg6 : Memref sig .tc .vmem S1x128 .f32) (arg8 : Memref sig .tc .vmem S2x1024x128 .bf16) (arg9 : Memref sig .tc .vmem S2x1024x768 .f32) (arg10 : Memref sig .tc .vmem S1024x128 .f32) (arg11 : Memref sig .tc .vmem S1024x256 .f32)
variable (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty)

/-- The first block's scores at chunk `n`, and its maximum and accumulator before chunk `n`, from what the trip finds. -/
def sA (n : ℕ) : Vec F S1x1024x768 .f32 := (sAt (kb (arg4.view.read (Elt F) X_arg4)) (View.readAt (Elt F) arg8.view (Rect.unit (s := S2x1024x128) ![0, 0, 0] S1x1024x128.size inb_S2x1024x128_S1x1024x128_0_0_0).toLoadRect f_arg8) (View.readAt (Elt F) arg9.view (Rect.unit (s := S2x1024x768) ![0, 0, 0] S1x1024x768.size inb_S2x1024x768_S1x1024x768_0_0_0).toLoadRect f_arg9) n)
def fA (n : ℕ) : Vec F S1024x128 .f32 × Vec F S1024x256 .f32 := (fold (kb (arg4.view.read (Elt F) X_arg4)) (vb (arg5.view.read (Elt F) X_arg5)) (View.readAt (Elt F) arg8.view (Rect.unit (s := S2x1024x128) ![0, 0, 0] S1x1024x128.size inb_S2x1024x128_S1x1024x128_0_0_0).toLoadRect f_arg8) (View.readAt (Elt F) arg9.view (Rect.unit (s := S2x1024x768) ![0, 0, 0] S1x1024x768.size inb_S2x1024x768_S1x1024x768_0_0_0).toLoadRect f_arg9) (View.readAt (Elt F) arg10.view (Rect.unit (s := S1024x128) ![0, 0] S1024x128.size inb_S1024x128_S1024x128_0_0).toLoadRect f_arg10) (View.readAt (Elt F) arg11.view (Rect.unit (s := S1024x256) ![0, 0] S1024x256.size inb_S1024x256_S1024x256_0_0).toLoadRect f_arg11) n)
/-- The second block's, from a fresh state. -/
def sB (n : ℕ) : Vec F S1x1024x768 .f32 := sAt (kb (arg4.view.read (Elt F) X_arg4)) (sl.v400 (F := F) arg3 arg8 X_arg3 k) (SC (kb (arg4.view.read (Elt F) X_arg4) 0) (sl.v400 (F := F) arg3 arg8 X_arg3 k)) n
def fB (n : ℕ) : Vec F S1024x128 .f32 × Vec F S1024x256 .f32 := fold (kb (arg4.view.read (Elt F) X_arg4)) (vb (arg5.view.read (Elt F) X_arg5)) (sl.v400 (F := F) arg3 arg8 X_arg3 k) (SC (kb (arg4.view.read (Elt F) X_arg4) 0) (sl.v400 (F := F) arg3 arg8 X_arg3 k)) M0 A0 n

/-- Scores 0 of the block. -/
theorem sA_0 : (sl.v45 (F := F) arg9 f_arg9) = sA (F := F) arg4 arg8 arg9 X_arg4 f_arg8 f_arg9 0 := by
  unfold sl.v45 sA; rfl

/-- Scores 1 of the block. -/
theorem sA_1 : (sl.v79 (F := F) arg4 arg8 arg9 X_arg4 f_arg8) = sA (F := F) arg4 arg8 arg9 X_arg4 f_arg8 f_arg9 1 := by
  unfold sl.v79 sl.HW_arg9_2
  rw [View.readCov_skip _ _ _ _ _ (by decide)]
  rw [View.readCov_cons_toLoadRect]
  unfold sA
  rfl

/-- Scores 2 of the block. -/
theorem sA_2 : (sl.v113 (F := F) arg4 arg8 arg9 X_arg4 f_arg8) = sA (F := F) arg4 arg8 arg9 X_arg4 f_arg8 f_arg9 2 := by
  unfold sl.v113 sl.HW_arg9_3
  rw [View.readCov_skip _ _ _ _ _ (by decide)]
  unfold sl.HW_arg9_2
  rw [View.readCov_cons_toLoadRect]
  unfold sA
  rfl

/-- Scores 3 of the block. -/
theorem sA_3 : (sl.v147 (F := F) arg4 arg8 arg9 X_arg4 f_arg8) = sA (F := F) arg4 arg8 arg9 X_arg4 f_arg8 f_arg9 3 := by
  unfold sl.v147 sl.HW_arg9_4
  rw [View.readCov_skip _ _ _ _ _ (by decide)]
  unfold sl.HW_arg9_3
  rw [View.readCov_cons_toLoadRect]
  unfold sA
  rfl

/-- Scores 4 of the block. -/
theorem sA_4 : (sl.v181 (F := F) arg4 arg8 arg9 X_arg4 f_arg8) = sA (F := F) arg4 arg8 arg9 X_arg4 f_arg8 f_arg9 4 := by
  unfold sl.v181 sl.HW_arg9_5
  rw [View.readCov_skip _ _ _ _ _ (by decide)]
  unfold sl.HW_arg9_4
  rw [View.readCov_cons_toLoadRect]
  unfold sA
  rfl

/-- Scores 5 of the block. -/
theorem sA_5 : (sl.v215 (F := F) arg4 arg8 arg9 X_arg4 f_arg8) = sA (F := F) arg4 arg8 arg9 X_arg4 f_arg8 f_arg9 5 := by
  unfold sl.v215 sl.HW_arg9_6
  rw [View.readCov_skip _ _ _ _ _ (by decide)]
  unfold sl.HW_arg9_5
  rw [View.readCov_cons_toLoadRect]
  unfold sA
  rfl

/-- Scores 6 of the block. -/
theorem sA_6 : (sl.v249 (F := F) arg4 arg8 arg9 X_arg4 f_arg8) = sA (F := F) arg4 arg8 arg9 X_arg4 f_arg8 f_arg9 6 := by
  unfold sl.v249 sl.HW_arg9_7
  rw [View.readCov_skip _ _ _ _ _ (by decide)]
  unfold sl.HW_arg9_6
  rw [View.readCov_cons_toLoadRect]
  unfold sA
  rfl

/-- Scores 7 of the block. -/
theorem sA_7 : (sl.v283 (F := F) arg4 arg8 arg9 X_arg4 f_arg8) = sA (F := F) arg4 arg8 arg9 X_arg4 f_arg8 f_arg9 7 := by
  unfold sl.v283 sl.HW_arg9_8
  rw [View.readCov_skip _ _ _ _ _ (by decide)]
  unfold sl.HW_arg9_7
  rw [View.readCov_cons_toLoadRect]
  unfold sA
  rfl

/-- Scores 8 of the block. -/
theorem sA_8 : (sl.v317 (F := F) arg4 arg8 arg9 X_arg4 f_arg8) = sA (F := F) arg4 arg8 arg9 X_arg4 f_arg8 f_arg9 8 := by
  unfold sl.v317 sl.HW_arg9_9
  rw [View.readCov_skip _ _ _ _ _ (by decide)]
  unfold sl.HW_arg9_8
  rw [View.readCov_cons_toLoadRect]
  unfold sA
  rfl

/-- Scores 9 of the block. -/
theorem sA_9 : (sl.v351 (F := F) arg4 arg8 arg9 X_arg4 f_arg8) = sA (F := F) arg4 arg8 arg9 X_arg4 f_arg8 f_arg9 9 := by
  unfold sl.v351 sl.HW_arg9_10
  rw [View.readCov_skip _ _ _ _ _ (by decide)]
  unfold sl.HW_arg9_9
  rw [View.readCov_cons_toLoadRect]
  unfold sA
  rfl

/-- Scores 10 of the block. -/
theorem sA_10 : (sl.v406 (F := F) arg3 arg4 arg8 arg9 X_arg3 X_arg4 k f_arg8) = sA (F := F) arg4 arg8 arg9 X_arg4 f_arg8 f_arg9 10 := by
  unfold sl.v406 sl.HW_arg9_11
  rw [View.readCov_skip _ _ _ _ _ (by decide)]
  unfold sl.HW_arg9_10
  rw [View.readCov_cons_toLoadRect]
  unfold sA
  rfl

/-- Scores 0 of the block. -/
theorem sB_0 : (sl.v481 (F := F) arg3 arg4 arg8 arg9 X_arg3 X_arg4 k f_arg8) = sB (F := F) arg3 arg4 arg8 X_arg3 X_arg4 k 0 := by
  unfold sl.v481 sl.HW_arg9_12
  rw [View.readCov_skip _ _ _ _ _ (by decide)]
  unfold sl.HW_arg9_11
  rw [View.readCov_cons_toLoadRect]
  unfold sl.r_27 sl.r_28 sB
  rfl

/-- Scores 1 of the block. -/
theorem sB_1 : (sl.v515 (F := F) arg3 arg4 arg8 arg9 X_arg3 X_arg4 k f_arg8) = sB (F := F) arg3 arg4 arg8 X_arg3 X_arg4 k 1 := by
  unfold sl.v515 sl.HW_arg9_13
  rw [View.readCov_skip _ _ _ _ _ (by decide)]
  unfold sl.HW_arg9_12
  rw [View.readCov_cons_toLoadRect]
  unfold sB
  rfl

/-- Scores 2 of the block. -/
theorem sB_2 : (sl.v549 (F := F) arg3 arg4 arg8 arg9 X_arg3 X_arg4 k f_arg8) = sB (F := F) arg3 arg4 arg8 X_arg3 X_arg4 k 2 := by
  unfold sl.v549 sl.HW_arg9_14
  rw [View.readCov_skip _ _ _ _ _ (by decide)]
  unfold sl.HW_arg9_13
  rw [View.readCov_cons_toLoadRect]
  unfold sB
  rfl

/-- Scores 3 of the block. -/
theorem sB_3 : (sl.v583 (F := F) arg3 arg4 arg8 arg9 X_arg3 X_arg4 k f_arg8) = sB (F := F) arg3 arg4 arg8 X_arg3 X_arg4 k 3 := by
  unfold sl.v583 sl.HW_arg9_15
  rw [View.readCov_skip _ _ _ _ _ (by decide)]
  unfold sl.HW_arg9_14
  rw [View.readCov_cons_toLoadRect]
  unfold sB
  rfl

/-- Scores 4 of the block. -/
theorem sB_4 : (sl.v617 (F := F) arg3 arg4 arg8 arg9 X_arg3 X_arg4 k f_arg8) = sB (F := F) arg3 arg4 arg8 X_arg3 X_arg4 k 4 := by
  unfold sl.v617 sl.HW_arg9_16
  rw [View.readCov_skip _ _ _ _ _ (by decide)]
  unfold sl.HW_arg9_15
  rw [View.readCov_cons_toLoadRect]
  unfold sB
  rfl

/-- Scores 5 of the block. -/
theorem sB_5 : (sl.v651 (F := F) arg3 arg4 arg8 arg9 X_arg3 X_arg4 k f_arg8) = sB (F := F) arg3 arg4 arg8 X_arg3 X_arg4 k 5 := by
  unfold sl.v651 sl.HW_arg9_17
  rw [View.readCov_skip _ _ _ _ _ (by decide)]
  unfold sl.HW_arg9_16
  rw [View.readCov_cons_toLoadRect]
  unfold sB
  rfl

/-- Scores 6 of the block. -/
theorem sB_6 : (sl.v685 (F := F) arg3 arg4 arg8 arg9 X_arg3 X_arg4 k f_arg8) = sB (F := F) arg3 arg4 arg8 X_arg3 X_arg4 k 6 := by
  unfold sl.v685 sl.HW_arg9_18
  rw [View.readCov_skip _ _ _ _ _ (by decide)]
  unfold sl.HW_arg9_17
  rw [View.readCov_cons_toLoadRect]
  unfold sB
  rfl

/-- Scores 7 of the block. -/
theorem sB_7 : (sl.v719 (F := F) arg3 arg4 arg8 arg9 X_arg3 X_arg4 k f_arg8) = sB (F := F) arg3 arg4 arg8 X_arg3 X_arg4 k 7 := by
  unfold sl.v719 sl.HW_arg9_19
  rw [View.readCov_skip _ _ _ _ _ (by decide)]
  unfold sl.HW_arg9_18
  rw [View.readCov_cons_toLoadRect]
  unfold sB
  rfl

/-- Scores 8 of the block. -/
theorem sB_8 : (sl.v753 (F := F) arg3 arg4 arg8 arg9 X_arg3 X_arg4 k f_arg8) = sB (F := F) arg3 arg4 arg8 X_arg3 X_arg4 k 8 := by
  unfold sl.v753 sl.HW_arg9_20
  rw [View.readCov_skip _ _ _ _ _ (by decide)]
  unfold sl.HW_arg9_19
  rw [View.readCov_cons_toLoadRect]
  unfold sB
  rfl

/-- Scores 9 of the block. -/
theorem sB_9 : (sl.v787 (F := F) arg3 arg4 arg8 arg9 X_arg3 X_arg4 k f_arg8) = sB (F := F) arg3 arg4 arg8 X_arg3 X_arg4 k 9 := by
  unfold sl.v787 sl.HW_arg9_21
  rw [View.readCov_skip _ _ _ _ _ (by decide)]
  unfold sl.HW_arg9_20
  rw [View.readCov_cons_toLoadRect]
  unfold sB
  rfl

/-- Scores 10 of the block. -/
theorem sB_10 : (sl.v842 (F := F) arg3 arg4 arg8 arg9 X_arg3 X_arg4 k f_arg8) = sB (F := F) arg3 arg4 arg8 X_arg3 X_arg4 k 10 := by
  unfold sl.v842 sl.HW_arg9_22
  rw [View.readCov_skip _ _ _ _ _ (by decide)]
  unfold sl.HW_arg9_21
  rw [View.readCov_cons_toLoadRect]
  unfold sB
  rfl

/-- The maximum before chunk 1 of the block. -/
theorem mA_1 : (sl.v83 (F := F) arg9 arg10 f_arg9 f_arg10) = (fA (F := F) arg4 arg5 arg8 arg9 arg10 arg11 X_arg4 X_arg5 f_arg8 f_arg9 f_arg10 f_arg11 1).1 := by
  unfold sl.v83 sl.HW_arg10_1
  rw [View.readCov_cons_toLoadRect]
  rw [sA_0 (arg4 := arg4) (arg8 := arg8) (arg9 := arg9) (X_arg4 := X_arg4) (f_arg8 := f_arg8) (f_arg9 := f_arg9)]
  rfl

/-- The accumulator before chunk 1 of the block. -/
theorem aA_1 : (sl.v96 (F := F) arg5 arg9 arg10 arg11 X_arg5 f_arg9 f_arg10 f_arg11) = (fA (F := F) arg4 arg5 arg8 arg9 arg10 arg11 X_arg4 X_arg5 f_arg8 f_arg9 f_arg10 f_arg11 1).2 := by
  unfold sl.v96 sl.HW_arg11_1
  rw [View.readCov_cons_toLoadRect]
  unfold sl.r
  rw [sA_0 (arg4 := arg4) (arg8 := arg8) (arg9 := arg9) (X_arg4 := X_arg4) (f_arg8 := f_arg8) (f_arg9 := f_arg9)]
  rfl

/-- The maximum before chunk 2 of the block. -/
theorem mA_2 : (sl.v117 (F := F) arg4 arg8 arg9 arg10 X_arg4 f_arg8 f_arg9 f_arg10) = (fA (F := F) arg4 arg5 arg8 arg9 arg10 arg11 X_arg4 X_arg5 f_arg8 f_arg9 f_arg10 f_arg11 2).1 := by
  unfold sl.v117 sl.HW_arg10_2
  rw [View.readCov_cons_toLoadRect]
  rw [sA_1 (arg4 := arg4) (arg8 := arg8) (arg9 := arg9) (X_arg4 := X_arg4) (f_arg8 := f_arg8) (f_arg9 := f_arg9), mA_1 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 2 of the block. -/
theorem aA_2 : (sl.v130 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 2).2 := by
  unfold sl.v130 sl.HW_arg11_2
  rw [View.readCov_cons_toLoadRect]
  unfold sl.r_1 sl.r_2
  rw [sA_1 (arg4 := arg4) (arg8 := arg8) (arg9 := arg9) (X_arg4 := X_arg4) (f_arg8 := f_arg8) (f_arg9 := f_arg9), mA_1 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_1 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 3 of the block. -/
theorem mA_3 : (sl.v151 (F := F) arg4 arg8 arg9 arg10 X_arg4 f_arg8 f_arg9 f_arg10) = (fA (F := F) arg4 arg5 arg8 arg9 arg10 arg11 X_arg4 X_arg5 f_arg8 f_arg9 f_arg10 f_arg11 3).1 := by
  unfold sl.v151 sl.HW_arg10_3
  rw [View.readCov_cons_toLoadRect]
  rw [sA_2 (arg4 := arg4) (arg8 := arg8) (arg9 := arg9) (X_arg4 := X_arg4) (f_arg8 := f_arg8) (f_arg9 := f_arg9), mA_2 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 3 of the block. -/
theorem aA_3 : (sl.v164 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 3).2 := by
  unfold sl.v164 sl.HW_arg11_3
  rw [View.readCov_cons_toLoadRect]
  unfold sl.r_3 sl.r_4 sl.r_5 sl.cst_89
  rw [sA_2 (arg4 := arg4) (arg8 := arg8) (arg9 := arg9) (X_arg4 := X_arg4) (f_arg8 := f_arg8) (f_arg9 := f_arg9), mA_2 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_2 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 4 of the block. -/
theorem mA_4 : (sl.v185 (F := F) arg4 arg8 arg9 arg10 X_arg4 f_arg8 f_arg9 f_arg10) = (fA (F := F) arg4 arg5 arg8 arg9 arg10 arg11 X_arg4 X_arg5 f_arg8 f_arg9 f_arg10 f_arg11 4).1 := by
  unfold sl.v185 sl.HW_arg10_4
  rw [View.readCov_cons_toLoadRect]
  rw [sA_3 (arg4 := arg4) (arg8 := arg8) (arg9 := arg9) (X_arg4 := X_arg4) (f_arg8 := f_arg8) (f_arg9 := f_arg9), mA_3 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 4 of the block. -/
theorem aA_4 : (sl.v198 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 4).2 := by
  unfold sl.v198 sl.HW_arg11_4
  rw [View.readCov_cons_toLoadRect]
  unfold sl.r_6 sl.r_7 sl.r_8
  rw [sA_3 (arg4 := arg4) (arg8 := arg8) (arg9 := arg9) (X_arg4 := X_arg4) (f_arg8 := f_arg8) (f_arg9 := f_arg9), mA_3 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_3 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 5 of the block. -/
theorem mA_5 : (sl.v219 (F := F) arg4 arg8 arg9 arg10 X_arg4 f_arg8 f_arg9 f_arg10) = (fA (F := F) arg4 arg5 arg8 arg9 arg10 arg11 X_arg4 X_arg5 f_arg8 f_arg9 f_arg10 f_arg11 5).1 := by
  unfold sl.v219 sl.HW_arg10_5
  rw [View.readCov_cons_toLoadRect]
  rw [sA_4 (arg4 := arg4) (arg8 := arg8) (arg9 := arg9) (X_arg4 := X_arg4) (f_arg8 := f_arg8) (f_arg9 := f_arg9), mA_4 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 5 of the block. -/
theorem aA_5 : (sl.v232 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 5).2 := by
  unfold sl.v232 sl.HW_arg11_5
  rw [View.readCov_cons_toLoadRect]
  unfold sl.r_9 sl.r_10 sl.r_11
  rw [sA_4 (arg4 := arg4) (arg8 := arg8) (arg9 := arg9) (X_arg4 := X_arg4) (f_arg8 := f_arg8) (f_arg9 := f_arg9), mA_4 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_4 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 6 of the block. -/
theorem mA_6 : (sl.v253 (F := F) arg4 arg8 arg9 arg10 X_arg4 f_arg8 f_arg9 f_arg10) = (fA (F := F) arg4 arg5 arg8 arg9 arg10 arg11 X_arg4 X_arg5 f_arg8 f_arg9 f_arg10 f_arg11 6).1 := by
  unfold sl.v253 sl.HW_arg10_6
  rw [View.readCov_cons_toLoadRect]
  rw [sA_5 (arg4 := arg4) (arg8 := arg8) (arg9 := arg9) (X_arg4 := X_arg4) (f_arg8 := f_arg8) (f_arg9 := f_arg9), mA_5 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 6 of the block. -/
theorem aA_6 : (sl.v266 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 6).2 := by
  unfold sl.v266 sl.HW_arg11_6
  rw [View.readCov_cons_toLoadRect]
  unfold sl.r_12 sl.r_13 sl.r_14
  rw [sA_5 (arg4 := arg4) (arg8 := arg8) (arg9 := arg9) (X_arg4 := X_arg4) (f_arg8 := f_arg8) (f_arg9 := f_arg9), mA_5 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_5 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 7 of the block. -/
theorem mA_7 : (sl.v287 (F := F) arg4 arg8 arg9 arg10 X_arg4 f_arg8 f_arg9 f_arg10) = (fA (F := F) arg4 arg5 arg8 arg9 arg10 arg11 X_arg4 X_arg5 f_arg8 f_arg9 f_arg10 f_arg11 7).1 := by
  unfold sl.v287 sl.HW_arg10_7
  rw [View.readCov_cons_toLoadRect]
  rw [sA_6 (arg4 := arg4) (arg8 := arg8) (arg9 := arg9) (X_arg4 := X_arg4) (f_arg8 := f_arg8) (f_arg9 := f_arg9), mA_6 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 7 of the block. -/
theorem aA_7 : (sl.v300 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 7).2 := by
  unfold sl.v300 sl.HW_arg11_7
  rw [View.readCov_cons_toLoadRect]
  unfold sl.r_15 sl.r_16 sl.r_17
  rw [sA_6 (arg4 := arg4) (arg8 := arg8) (arg9 := arg9) (X_arg4 := X_arg4) (f_arg8 := f_arg8) (f_arg9 := f_arg9), mA_6 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_6 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 8 of the block. -/
theorem mA_8 : (sl.v321 (F := F) arg4 arg8 arg9 arg10 X_arg4 f_arg8 f_arg9 f_arg10) = (fA (F := F) arg4 arg5 arg8 arg9 arg10 arg11 X_arg4 X_arg5 f_arg8 f_arg9 f_arg10 f_arg11 8).1 := by
  unfold sl.v321 sl.HW_arg10_8
  rw [View.readCov_cons_toLoadRect]
  rw [sA_7 (arg4 := arg4) (arg8 := arg8) (arg9 := arg9) (X_arg4 := X_arg4) (f_arg8 := f_arg8) (f_arg9 := f_arg9), mA_7 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 8 of the block. -/
theorem aA_8 : (sl.v334 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 8).2 := by
  unfold sl.v334 sl.HW_arg11_8
  rw [View.readCov_cons_toLoadRect]
  unfold sl.r_18 sl.r_19 sl.r_20
  rw [sA_7 (arg4 := arg4) (arg8 := arg8) (arg9 := arg9) (X_arg4 := X_arg4) (f_arg8 := f_arg8) (f_arg9 := f_arg9), mA_7 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_7 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 9 of the block. -/
theorem mA_9 : (sl.v355 (F := F) arg4 arg8 arg9 arg10 X_arg4 f_arg8 f_arg9 f_arg10) = (fA (F := F) arg4 arg5 arg8 arg9 arg10 arg11 X_arg4 X_arg5 f_arg8 f_arg9 f_arg10 f_arg11 9).1 := by
  unfold sl.v355 sl.HW_arg10_9
  rw [View.readCov_cons_toLoadRect]
  rw [sA_8 (arg4 := arg4) (arg8 := arg8) (arg9 := arg9) (X_arg4 := X_arg4) (f_arg8 := f_arg8) (f_arg9 := f_arg9), mA_8 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 9 of the block. -/
theorem aA_9 : (sl.v368 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 9).2 := by
  unfold sl.v368 sl.HW_arg11_9
  rw [View.readCov_cons_toLoadRect]
  unfold sl.r_21 sl.r_22 sl.r_23
  rw [sA_8 (arg4 := arg4) (arg8 := arg8) (arg9 := arg9) (X_arg4 := X_arg4) (f_arg8 := f_arg8) (f_arg9 := f_arg9), mA_8 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_8 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 10 of the block. -/
theorem mA_10 : (sl.v410 (F := F) arg4 arg8 arg9 arg10 X_arg4 f_arg8 f_arg9 f_arg10) = (fA (F := F) arg4 arg5 arg8 arg9 arg10 arg11 X_arg4 X_arg5 f_arg8 f_arg9 f_arg10 f_arg11 10).1 := by
  unfold sl.v410 sl.HW_arg10_10
  rw [View.readCov_cons_toLoadRect]
  rw [sA_9 (arg4 := arg4) (arg8 := arg8) (arg9 := arg9) (X_arg4 := X_arg4) (f_arg8 := f_arg8) (f_arg9 := f_arg9), mA_9 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The accumulator before chunk 10 of the block. -/
theorem aA_10 : (sl.v423 (F := F) arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 10).2 := by
  unfold sl.v423 sl.HW_arg11_10
  rw [View.readCov_cons_toLoadRect]
  unfold sl.r_24 sl.r_25 sl.r_26
  rw [sA_9 (arg4 := arg4) (arg8 := arg8) (arg9 := arg9) (X_arg4 := X_arg4) (f_arg8 := f_arg8) (f_arg9 := f_arg9), mA_9 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_9 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The maximum before chunk 0 of the block. -/
theorem mB_0 : (sl.v485 (F := F) arg3 arg4 arg8 arg9 arg10 X_arg3 X_arg4 k f_arg8 f_arg9 f_arg10) = (fB (F := F) arg3 arg4 arg5 arg8 X_arg3 X_arg4 X_arg5 k 0).1 := by
  unfold sl.v485 sl.HW_arg10_12
  rw [View.readCov_cons_toLoadRect]
  rfl

/-- The accumulator before chunk 0 of the block. -/
theorem aB_0 : (sl.v498 (F := F) arg3 arg4 arg5 arg8 arg9 arg10 arg11 X_arg3 X_arg4 X_arg5 k f_arg8 f_arg9 f_arg10 f_arg11) = (fB (F := F) arg3 arg4 arg5 arg8 X_arg3 X_arg4 X_arg5 k 0).2 := by
  unfold sl.v498 sl.HW_arg11_12
  rw [View.readCov_cons_toLoadRect]
  rfl

/-- The maximum before chunk 1 of the block. -/
theorem mB_1 : (sl.v519 (F := F) arg3 arg4 arg8 arg9 arg10 X_arg3 X_arg4 k f_arg8 f_arg9 f_arg10) = (fB (F := F) arg3 arg4 arg5 arg8 X_arg3 X_arg4 X_arg5 k 1).1 := by
  unfold sl.v519 sl.HW_arg10_13
  rw [View.readCov_cons_toLoadRect]
  rw [sB_0 (arg3 := arg3) (arg4 := arg4) (arg8 := arg8) (X_arg3 := X_arg3) (X_arg4 := X_arg4) (k := k), mB_0 (arg3 := arg3) (arg4 := arg4) (arg5 := arg5) (arg8 := arg8) (X_arg3 := X_arg3) (X_arg4 := X_arg4) (X_arg5 := X_arg5) (k := k)]
  rfl

/-- The accumulator before chunk 1 of the block. -/
theorem aB_1 : (sl.v532 (F := F) arg3 arg4 arg5 arg8 arg9 arg10 arg11 X_arg3 X_arg4 X_arg5 k f_arg8 f_arg9 f_arg10 f_arg11) = (fB (F := F) arg3 arg4 arg5 arg8 X_arg3 X_arg4 X_arg5 k 1).2 := by
  unfold sl.v532 sl.HW_arg11_13
  rw [View.readCov_cons_toLoadRect]
  unfold sl.r_31
  rw [sB_0 (arg3 := arg3) (arg4 := arg4) (arg8 := arg8) (X_arg3 := X_arg3) (X_arg4 := X_arg4) (k := k), mB_0 (arg3 := arg3) (arg4 := arg4) (arg5 := arg5) (arg8 := arg8) (X_arg3 := X_arg3) (X_arg4 := X_arg4) (X_arg5 := X_arg5) (k := k), aB_0 (arg3 := arg3) (arg4 := arg4) (arg5 := arg5) (arg8 := arg8) (X_arg3 := X_arg3) (X_arg4 := X_arg4) (X_arg5 := X_arg5) (k := k)]
  rfl

/-- The maximum before chunk 2 of the block. -/
theorem mB_2 : (sl.v553 (F := F) arg3 arg4 arg8 arg9 arg10 X_arg3 X_arg4 k f_arg8 f_arg9 f_arg10) = (fB (F := F) arg3 arg4 arg5 arg8 X_arg3 X_arg4 X_arg5 k 2).1 := by
  unfold sl.v553 sl.HW_arg10_14
  rw [View.readCov_cons_toLoadRect]
  rw [sB_1 (arg3 := arg3) (arg4 := arg4) (arg8 := arg8) (X_arg3 := X_arg3) (X_arg4 := X_arg4) (k := k), mB_1 (arg3 := arg3) (arg4 := arg4) (arg5 := arg5) (arg8 := arg8) (X_arg3 := X_arg3) (X_arg4 := X_arg4) (X_arg5 := X_arg5) (k := k)]
  rfl

/-- The accumulator before chunk 2 of the block. -/
theorem aB_2 : (sl.v566 (F := F) arg3 arg4 arg5 arg8 arg9 arg10 arg11 X_arg3 X_arg4 X_arg5 k f_arg8 f_arg9 f_arg10 f_arg11) = (fB (F := F) arg3 arg4 arg5 arg8 X_arg3 X_arg4 X_arg5 k 2).2 := by
  unfold sl.v566 sl.HW_arg11_14
  rw [View.readCov_cons_toLoadRect]
  unfold sl.r_32
  rw [sB_1 (arg3 := arg3) (arg4 := arg4) (arg8 := arg8) (X_arg3 := X_arg3) (X_arg4 := X_arg4) (k := k), mB_1 (arg3 := arg3) (arg4 := arg4) (arg5 := arg5) (arg8 := arg8) (X_arg3 := X_arg3) (X_arg4 := X_arg4) (X_arg5 := X_arg5) (k := k), aB_1 (arg3 := arg3) (arg4 := arg4) (arg5 := arg5) (arg8 := arg8) (X_arg3 := X_arg3) (X_arg4 := X_arg4) (X_arg5 := X_arg5) (k := k)]
  rfl

/-- The maximum before chunk 3 of the block. -/
theorem mB_3 : (sl.v587 (F := F) arg3 arg4 arg8 arg9 arg10 X_arg3 X_arg4 k f_arg8 f_arg9 f_arg10) = (fB (F := F) arg3 arg4 arg5 arg8 X_arg3 X_arg4 X_arg5 k 3).1 := by
  unfold sl.v587 sl.HW_arg10_15
  rw [View.readCov_cons_toLoadRect]
  rw [sB_2 (arg3 := arg3) (arg4 := arg4) (arg8 := arg8) (X_arg3 := X_arg3) (X_arg4 := X_arg4) (k := k), mB_2 (arg3 := arg3) (arg4 := arg4) (arg5 := arg5) (arg8 := arg8) (X_arg3 := X_arg3) (X_arg4 := X_arg4) (X_arg5 := X_arg5) (k := k)]
  rfl

/-- The accumulator before chunk 3 of the block. -/
theorem aB_3 : (sl.v600 (F := F) arg3 arg4 arg5 arg8 arg9 arg10 arg11 X_arg3 X_arg4 X_arg5 k f_arg8 f_arg9 f_arg10 f_arg11) = (fB (F := F) arg3 arg4 arg5 arg8 X_arg3 X_arg4 X_arg5 k 3).2 := by
  unfold sl.v600 sl.HW_arg11_15
  rw [View.readCov_cons_toLoadRect]
  unfold sl.r_33
  rw [sB_2 (arg3 := arg3) (arg4 := arg4) (arg8 := arg8) (X_arg3 := X_arg3) (X_arg4 := X_arg4) (k := k), mB_2 (arg3 := arg3) (arg4 := arg4) (arg5 := arg5) (arg8 := arg8) (X_arg3 := X_arg3) (X_arg4 := X_arg4) (X_arg5 := X_arg5) (k := k), aB_2 (arg3 := arg3) (arg4 := arg4) (arg5 := arg5) (arg8 := arg8) (X_arg3 := X_arg3) (X_arg4 := X_arg4) (X_arg5 := X_arg5) (k := k)]
  rfl

/-- The maximum before chunk 4 of the block. -/
theorem mB_4 : (sl.v621 (F := F) arg3 arg4 arg8 arg9 arg10 X_arg3 X_arg4 k f_arg8 f_arg9 f_arg10) = (fB (F := F) arg3 arg4 arg5 arg8 X_arg3 X_arg4 X_arg5 k 4).1 := by
  unfold sl.v621 sl.HW_arg10_16
  rw [View.readCov_cons_toLoadRect]
  rw [sB_3 (arg3 := arg3) (arg4 := arg4) (arg8 := arg8) (X_arg3 := X_arg3) (X_arg4 := X_arg4) (k := k), mB_3 (arg3 := arg3) (arg4 := arg4) (arg5 := arg5) (arg8 := arg8) (X_arg3 := X_arg3) (X_arg4 := X_arg4) (X_arg5 := X_arg5) (k := k)]
  rfl

/-- The accumulator before chunk 4 of the block. -/
theorem aB_4 : (sl.v634 (F := F) arg3 arg4 arg5 arg8 arg9 arg10 arg11 X_arg3 X_arg4 X_arg5 k f_arg8 f_arg9 f_arg10 f_arg11) = (fB (F := F) arg3 arg4 arg5 arg8 X_arg3 X_arg4 X_arg5 k 4).2 := by
  unfold sl.v634 sl.HW_arg11_16
  rw [View.readCov_cons_toLoadRect]
  unfold sl.r_34
  rw [sB_3 (arg3 := arg3) (arg4 := arg4) (arg8 := arg8) (X_arg3 := X_arg3) (X_arg4 := X_arg4) (k := k), mB_3 (arg3 := arg3) (arg4 := arg4) (arg5 := arg5) (arg8 := arg8) (X_arg3 := X_arg3) (X_arg4 := X_arg4) (X_arg5 := X_arg5) (k := k), aB_3 (arg3 := arg3) (arg4 := arg4) (arg5 := arg5) (arg8 := arg8) (X_arg3 := X_arg3) (X_arg4 := X_arg4) (X_arg5 := X_arg5) (k := k)]
  rfl

/-- The maximum before chunk 5 of the block. -/
theorem mB_5 : (sl.v655 (F := F) arg3 arg4 arg8 arg9 arg10 X_arg3 X_arg4 k f_arg8 f_arg9 f_arg10) = (fB (F := F) arg3 arg4 arg5 arg8 X_arg3 X_arg4 X_arg5 k 5).1 := by
  unfold sl.v655 sl.HW_arg10_17
  rw [View.readCov_cons_toLoadRect]
  rw [sB_4 (arg3 := arg3) (arg4 := arg4) (arg8 := arg8) (X_arg3 := X_arg3) (X_arg4 := X_arg4) (k := k), mB_4 (arg3 := arg3) (arg4 := arg4) (arg5 := arg5) (arg8 := arg8) (X_arg3 := X_arg3) (X_arg4 := X_arg4) (X_arg5 := X_arg5) (k := k)]
  rfl

/-- The accumulator before chunk 5 of the block. -/
theorem aB_5 : (sl.v668 (F := F) arg3 arg4 arg5 arg8 arg9 arg10 arg11 X_arg3 X_arg4 X_arg5 k f_arg8 f_arg9 f_arg10 f_arg11) = (fB (F := F) arg3 arg4 arg5 arg8 X_arg3 X_arg4 X_arg5 k 5).2 := by
  unfold sl.v668 sl.HW_arg11_17
  rw [View.readCov_cons_toLoadRect]
  unfold sl.r_35 sl.r_36
  rw [sB_4 (arg3 := arg3) (arg4 := arg4) (arg8 := arg8) (X_arg3 := X_arg3) (X_arg4 := X_arg4) (k := k), mB_4 (arg3 := arg3) (arg4 := arg4) (arg5 := arg5) (arg8 := arg8) (X_arg3 := X_arg3) (X_arg4 := X_arg4) (X_arg5 := X_arg5) (k := k), aB_4 (arg3 := arg3) (arg4 := arg4) (arg5 := arg5) (arg8 := arg8) (X_arg3 := X_arg3) (X_arg4 := X_arg4) (X_arg5 := X_arg5) (k := k)]
  rfl

/-- The maximum before chunk 6 of the block. -/
theorem mB_6 : (sl.v689 (F := F) arg3 arg4 arg8 arg9 arg10 X_arg3 X_arg4 k f_arg8 f_arg9 f_arg10) = (fB (F := F) arg3 arg4 arg5 arg8 X_arg3 X_arg4 X_arg5 k 6).1 := by
  unfold sl.v689 sl.HW_arg10_18
  rw [View.readCov_cons_toLoadRect]
  rw [sB_5 (arg3 := arg3) (arg4 := arg4) (arg8 := arg8) (X_arg3 := X_arg3) (X_arg4 := X_arg4) (k := k), mB_5 (arg3 := arg3) (arg4 := arg4) (arg5 := arg5) (arg8 := arg8) (X_arg3 := X_arg3) (X_arg4 := X_arg4) (X_arg5 := X_arg5) (k := k)]
  rfl

/-- The accumulator before chunk 6 of the block. -/
theorem aB_6 : (sl.v702 (F := F) arg3 arg4 arg5 arg8 arg9 arg10 arg11 X_arg3 X_arg4 X_arg5 k f_arg8 f_arg9 f_arg10 f_arg11) = (fB (F := F) arg3 arg4 arg5 arg8 X_arg3 X_arg4 X_arg5 k 6).2 := by
  unfold sl.v702 sl.HW_arg11_18
  rw [View.readCov_cons_toLoadRect]
  unfold sl.r_37 sl.r_38 sl.r_39 sl.cst_89
  rw [sB_5 (arg3 := arg3) (arg4 := arg4) (arg8 := arg8) (X_arg3 := X_arg3) (X_arg4 := X_arg4) (k := k), mB_5 (arg3 := arg3) (arg4 := arg4) (arg5 := arg5) (arg8 := arg8) (X_arg3 := X_arg3) (X_arg4 := X_arg4) (X_arg5 := X_arg5) (k := k), aB_5 (arg3 := arg3) (arg4 := arg4) (arg5 := arg5) (arg8 := arg8) (X_arg3 := X_arg3) (X_arg4 := X_arg4) (X_arg5 := X_arg5) (k := k)]
  rfl

/-- The maximum before chunk 7 of the block. -/
theorem mB_7 : (sl.v723 (F := F) arg3 arg4 arg8 arg9 arg10 X_arg3 X_arg4 k f_arg8 f_arg9 f_arg10) = (fB (F := F) arg3 arg4 arg5 arg8 X_arg3 X_arg4 X_arg5 k 7).1 := by
  unfold sl.v723 sl.HW_arg10_19
  rw [View.readCov_cons_toLoadRect]
  rw [sB_6 (arg3 := arg3) (arg4 := arg4) (arg8 := arg8) (X_arg3 := X_arg3) (X_arg4 := X_arg4) (k := k), mB_6 (arg3 := arg3) (arg4 := arg4) (arg5 := arg5) (arg8 := arg8) (X_arg3 := X_arg3) (X_arg4 := X_arg4) (X_arg5 := X_arg5) (k := k)]
  rfl

/-- The accumulator before chunk 7 of the block. -/
theorem aB_7 : (sl.v736 (F := F) arg3 arg4 arg5 arg8 arg9 arg10 arg11 X_arg3 X_arg4 X_arg5 k f_arg8 f_arg9 f_arg10 f_arg11) = (fB (F := F) arg3 arg4 arg5 arg8 X_arg3 X_arg4 X_arg5 k 7).2 := by
  unfold sl.v736 sl.HW_arg11_19
  rw [View.readCov_cons_toLoadRect]
  unfold sl.r_40 sl.r_41 sl.r_42
  rw [sB_6 (arg3 := arg3) (arg4 := arg4) (arg8 := arg8) (X_arg3 := X_arg3) (X_arg4 := X_arg4) (k := k), mB_6 (arg3 := arg3) (arg4 := arg4) (arg5 := arg5) (arg8 := arg8) (X_arg3 := X_arg3) (X_arg4 := X_arg4) (X_arg5 := X_arg5) (k := k), aB_6 (arg3 := arg3) (arg4 := arg4) (arg5 := arg5) (arg8 := arg8) (X_arg3 := X_arg3) (X_arg4 := X_arg4) (X_arg5 := X_arg5) (k := k)]
  rfl

/-- The maximum before chunk 8 of the block. -/
theorem mB_8 : (sl.v757 (F := F) arg3 arg4 arg8 arg9 arg10 X_arg3 X_arg4 k f_arg8 f_arg9 f_arg10) = (fB (F := F) arg3 arg4 arg5 arg8 X_arg3 X_arg4 X_arg5 k 8).1 := by
  unfold sl.v757 sl.HW_arg10_20
  rw [View.readCov_cons_toLoadRect]
  rw [sB_7 (arg3 := arg3) (arg4 := arg4) (arg8 := arg8) (X_arg3 := X_arg3) (X_arg4 := X_arg4) (k := k), mB_7 (arg3 := arg3) (arg4 := arg4) (arg5 := arg5) (arg8 := arg8) (X_arg3 := X_arg3) (X_arg4 := X_arg4) (X_arg5 := X_arg5) (k := k)]
  rfl

/-- The accumulator before chunk 8 of the block. -/
theorem aB_8 : (sl.v770 (F := F) arg3 arg4 arg5 arg8 arg9 arg10 arg11 X_arg3 X_arg4 X_arg5 k f_arg8 f_arg9 f_arg10 f_arg11) = (fB (F := F) arg3 arg4 arg5 arg8 X_arg3 X_arg4 X_arg5 k 8).2 := by
  unfold sl.v770 sl.HW_arg11_20
  rw [View.readCov_cons_toLoadRect]
  unfold sl.r_43 sl.r_44 sl.r_45
  rw [sB_7 (arg3 := arg3) (arg4 := arg4) (arg8 := arg8) (X_arg3 := X_arg3) (X_arg4 := X_arg4) (k := k), mB_7 (arg3 := arg3) (arg4 := arg4) (arg5 := arg5) (arg8 := arg8) (X_arg3 := X_arg3) (X_arg4 := X_arg4) (X_arg5 := X_arg5) (k := k), aB_7 (arg3 := arg3) (arg4 := arg4) (arg5 := arg5) (arg8 := arg8) (X_arg3 := X_arg3) (X_arg4 := X_arg4) (X_arg5 := X_arg5) (k := k)]
  rfl

/-- The maximum before chunk 9 of the block. -/
theorem mB_9 : (sl.v791 (F := F) arg3 arg4 arg8 arg9 arg10 X_arg3 X_arg4 k f_arg8 f_arg9 f_arg10) = (fB (F := F) arg3 arg4 arg5 arg8 X_arg3 X_arg4 X_arg5 k 9).1 := by
  unfold sl.v791 sl.HW_arg10_21
  rw [View.readCov_cons_toLoadRect]
  rw [sB_8 (arg3 := arg3) (arg4 := arg4) (arg8 := arg8) (X_arg3 := X_arg3) (X_arg4 := X_arg4) (k := k), mB_8 (arg3 := arg3) (arg4 := arg4) (arg5 := arg5) (arg8 := arg8) (X_arg3 := X_arg3) (X_arg4 := X_arg4) (X_arg5 := X_arg5) (k := k)]
  rfl

/-- The accumulator before chunk 9 of the block. -/
theorem aB_9 : (sl.v804 (F := F) arg3 arg4 arg5 arg8 arg9 arg10 arg11 X_arg3 X_arg4 X_arg5 k f_arg8 f_arg9 f_arg10 f_arg11) = (fB (F := F) arg3 arg4 arg5 arg8 X_arg3 X_arg4 X_arg5 k 9).2 := by
  unfold sl.v804 sl.HW_arg11_21
  rw [View.readCov_cons_toLoadRect]
  unfold sl.r_46 sl.r_47 sl.r_48
  rw [sB_8 (arg3 := arg3) (arg4 := arg4) (arg8 := arg8) (X_arg3 := X_arg3) (X_arg4 := X_arg4) (k := k), mB_8 (arg3 := arg3) (arg4 := arg4) (arg5 := arg5) (arg8 := arg8) (X_arg3 := X_arg3) (X_arg4 := X_arg4) (X_arg5 := X_arg5) (k := k), aB_8 (arg3 := arg3) (arg4 := arg4) (arg5 := arg5) (arg8 := arg8) (X_arg3 := X_arg3) (X_arg4 := X_arg4) (X_arg5 := X_arg5) (k := k)]
  rfl

/-- The maximum before chunk 10 of the block. -/
theorem mB_10 : (sl.v846 (F := F) arg3 arg4 arg8 arg9 arg10 X_arg3 X_arg4 k f_arg8 f_arg9 f_arg10) = (fB (F := F) arg3 arg4 arg5 arg8 X_arg3 X_arg4 X_arg5 k 10).1 := by
  unfold sl.v846 sl.HW_arg10_22
  rw [View.readCov_cons_toLoadRect]
  rw [sB_9 (arg3 := arg3) (arg4 := arg4) (arg8 := arg8) (X_arg3 := X_arg3) (X_arg4 := X_arg4) (k := k), mB_9 (arg3 := arg3) (arg4 := arg4) (arg5 := arg5) (arg8 := arg8) (X_arg3 := X_arg3) (X_arg4 := X_arg4) (X_arg5 := X_arg5) (k := k)]
  rfl

/-- The accumulator before chunk 10 of the block. -/
theorem aB_10 : (sl.v859 (F := F) arg3 arg4 arg5 arg8 arg9 arg10 arg11 X_arg3 X_arg4 X_arg5 k f_arg8 f_arg9 f_arg10 f_arg11) = (fB (F := F) arg3 arg4 arg5 arg8 X_arg3 X_arg4 X_arg5 k 10).2 := by
  unfold sl.v859 sl.HW_arg11_22
  rw [View.readCov_cons_toLoadRect]
  unfold sl.r_49 sl.r_50 sl.r_51
  rw [sB_9 (arg3 := arg3) (arg4 := arg4) (arg8 := arg8) (X_arg3 := X_arg3) (X_arg4 := X_arg4) (k := k), mB_9 (arg3 := arg3) (arg4 := arg4) (arg5 := arg5) (arg8 := arg8) (X_arg3 := X_arg3) (X_arg4 := X_arg4) (X_arg5 := X_arg5) (k := k), aB_9 (arg3 := arg3) (arg4 := arg4) (arg5 := arg5) (arg8 := arg8) (X_arg3 := X_arg3) (X_arg4 := X_arg4) (X_arg5 := X_arg5) (k := k)]
  rfl

/-- The block's final accumulator. -/
theorem aA_11 : k0_pay91 (sl.v406 arg3 arg4 arg8 arg9 X_arg3 X_arg4 k f_arg8) (View.readAt (Elt F) arg5.view (Rect.unit (s := S8448x256) ![7680, 0] S768x256.size inb_S8448x256_S768x256_7680_0).toLoadRect X_arg5) (sl.v410 arg4 arg8 arg9 arg10 X_arg4 f_arg8 f_arg9 f_arg10) (sl.v423 arg4 arg5 arg8 arg9 arg10 arg11 X_arg4 X_arg5 f_arg8 f_arg9 f_arg10 f_arg11) = (fA (F := F) arg4 arg5 arg8 arg9 arg10 arg11 X_arg4 X_arg5 f_arg8 f_arg9 f_arg10 f_arg11 11).2 := by
  rw [sA_10 (arg4 := arg4) (arg8 := arg8) (arg9 := arg9) (X_arg4 := X_arg4) (f_arg8 := f_arg8) (f_arg9 := f_arg9), mA_10 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), aA_10 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The block's final accumulator. -/
theorem aB_11 : k0_pay176 (sl.v842 arg3 arg4 arg8 arg9 X_arg3 X_arg4 k f_arg8) (View.readAt (Elt F) arg5.view (Rect.unit (s := S8448x256) ![7680, 0] S768x256.size inb_S8448x256_S768x256_7680_0).toLoadRect X_arg5) (sl.v846 arg3 arg4 arg8 arg9 arg10 X_arg3 X_arg4 k f_arg8 f_arg9 f_arg10) (sl.v859 arg3 arg4 arg5 arg8 arg9 arg10 arg11 X_arg3 X_arg4 X_arg5 k f_arg8 f_arg9 f_arg10 f_arg11) = (fB (F := F) arg3 arg4 arg5 arg8 X_arg3 X_arg4 X_arg5 k 11).2 := by
  rw [sB_10 (arg3 := arg3) (arg4 := arg4) (arg8 := arg8) (X_arg3 := X_arg3) (X_arg4 := X_arg4) (k := k), mB_10 (arg3 := arg3) (arg4 := arg4) (arg5 := arg5) (arg8 := arg8) (X_arg3 := X_arg3) (X_arg4 := X_arg4) (X_arg5 := X_arg5) (k := k), aB_10 (arg3 := arg3) (arg4 := arg4) (arg5 := arg5) (arg8 := arg8) (X_arg3 := X_arg3) (X_arg4 := X_arg4) (X_arg5 := X_arg5) (k := k)]
  rfl

/-- A quarter of the block's final accumulator. -/
theorem qA_0_0 : (sl.v432 (F := F) arg3 arg4 arg5 arg8 arg9 arg10 arg11 X_arg3 X_arg4 X_arg5 k f_arg8 f_arg9 f_arg10 f_arg11) = View.ld (fA (F := F) arg4 arg5 arg8 arg9 arg10 arg11 X_arg4 X_arg5 f_arg8 f_arg9 f_arg10 f_arg11 11).2 (Rect.unit (s := S1024x256) ![0, 0] S512x128.size inb_S1024x256_S512x128_0_0) := by
  unfold sl.v432 sl.HW_arg11_11
  rw [aA_11 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  exact View.readCov_fill _ _ _ _ _ (by intro a; fin_cases a <;> rfl)

/-- A quarter of the block's final accumulator. -/
theorem qA_0_128 : (sl.v433 (F := F) arg3 arg4 arg5 arg8 arg9 arg10 arg11 X_arg3 X_arg4 X_arg5 k f_arg8 f_arg9 f_arg10 f_arg11) = View.ld (fA (F := F) arg4 arg5 arg8 arg9 arg10 arg11 X_arg4 X_arg5 f_arg8 f_arg9 f_arg10 f_arg11 11).2 (Rect.unit (s := S1024x256) ![0, 128] S512x128.size inb_S1024x256_S512x128_0_128) := by
  unfold sl.v433 sl.HW_arg11_11
  rw [aA_11 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  exact View.readCov_fill _ _ _ _ _ (by intro a; fin_cases a <;> rfl)

/-- A quarter of the block's final accumulator. -/
theorem qA_512_0 : (sl.v435 (F := F) arg3 arg4 arg5 arg8 arg9 arg10 arg11 X_arg3 X_arg4 X_arg5 k f_arg8 f_arg9 f_arg10 f_arg11) = View.ld (fA (F := F) arg4 arg5 arg8 arg9 arg10 arg11 X_arg4 X_arg5 f_arg8 f_arg9 f_arg10 f_arg11 11).2 (Rect.unit (s := S1024x256) ![512, 0] S512x128.size inb_S1024x256_S512x128_512_0) := by
  unfold sl.v435 sl.HW_arg11_11
  rw [aA_11 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  exact View.readCov_fill _ _ _ _ _ (by intro a; fin_cases a <;> rfl)

/-- A quarter of the block's final accumulator. -/
theorem qA_512_128 : (sl.v436 (F := F) arg3 arg4 arg5 arg8 arg9 arg10 arg11 X_arg3 X_arg4 X_arg5 k f_arg8 f_arg9 f_arg10 f_arg11) = View.ld (fA (F := F) arg4 arg5 arg8 arg9 arg10 arg11 X_arg4 X_arg5 f_arg8 f_arg9 f_arg10 f_arg11 11).2 (Rect.unit (s := S1024x256) ![512, 128] S512x128.size inb_S1024x256_S512x128_512_128) := by
  unfold sl.v436 sl.HW_arg11_11
  rw [aA_11 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  exact View.readCov_fill _ _ _ _ _ (by intro a; fin_cases a <;> rfl)

/-- A quarter of the block's final accumulator. -/
theorem qB_0_0 : (sl.v868 (F := F) arg3 arg4 arg5 arg8 arg9 arg10 arg11 X_arg3 X_arg4 X_arg5 k f_arg8 f_arg9 f_arg10 f_arg11) = View.ld (fB (F := F) arg3 arg4 arg5 arg8 X_arg3 X_arg4 X_arg5 k 11).2 (Rect.unit (s := S1024x256) ![0, 0] S512x128.size inb_S1024x256_S512x128_0_0) := by
  unfold sl.v868 sl.HW_arg11_23
  rw [aB_11 (arg3 := arg3) (arg4 := arg4) (arg5 := arg5) (arg8 := arg8) (X_arg3 := X_arg3) (X_arg4 := X_arg4) (X_arg5 := X_arg5) (k := k)]
  exact View.readCov_fill _ _ _ _ _ (by intro a; fin_cases a <;> rfl)

/-- A quarter of the block's final accumulator. -/
theorem qB_0_128 : (sl.v869 (F := F) arg3 arg4 arg5 arg8 arg9 arg10 arg11 X_arg3 X_arg4 X_arg5 k f_arg8 f_arg9 f_arg10 f_arg11) = View.ld (fB (F := F) arg3 arg4 arg5 arg8 X_arg3 X_arg4 X_arg5 k 11).2 (Rect.unit (s := S1024x256) ![0, 128] S512x128.size inb_S1024x256_S512x128_0_128) := by
  unfold sl.v869 sl.HW_arg11_23
  rw [aB_11 (arg3 := arg3) (arg4 := arg4) (arg5 := arg5) (arg8 := arg8) (X_arg3 := X_arg3) (X_arg4 := X_arg4) (X_arg5 := X_arg5) (k := k)]
  exact View.readCov_fill _ _ _ _ _ (by intro a; fin_cases a <;> rfl)

/-- A quarter of the block's final accumulator. -/
theorem qB_512_0 : (sl.v871 (F := F) arg3 arg4 arg5 arg8 arg9 arg10 arg11 X_arg3 X_arg4 X_arg5 k f_arg8 f_arg9 f_arg10 f_arg11) = View.ld (fB (F := F) arg3 arg4 arg5 arg8 X_arg3 X_arg4 X_arg5 k 11).2 (Rect.unit (s := S1024x256) ![512, 0] S512x128.size inb_S1024x256_S512x128_512_0) := by
  unfold sl.v871 sl.HW_arg11_23
  rw [aB_11 (arg3 := arg3) (arg4 := arg4) (arg5 := arg5) (arg8 := arg8) (X_arg3 := X_arg3) (X_arg4 := X_arg4) (X_arg5 := X_arg5) (k := k)]
  exact View.readCov_fill _ _ _ _ _ (by intro a; fin_cases a <;> rfl)

/-- A quarter of the block's final accumulator. -/
theorem qB_512_128 : (sl.v872 (F := F) arg3 arg4 arg5 arg8 arg9 arg10 arg11 X_arg3 X_arg4 X_arg5 k f_arg8 f_arg9 f_arg10 f_arg11) = View.ld (fB (F := F) arg3 arg4 arg5 arg8 X_arg3 X_arg4 X_arg5 k 11).2 (Rect.unit (s := S1024x256) ![512, 128] S512x128.size inb_S1024x256_S512x128_512_128) := by
  unfold sl.v872 sl.HW_arg11_23
  rw [aB_11 (arg3 := arg3) (arg4 := arg4) (arg5 := arg5) (arg8 := arg8) (X_arg3 := X_arg3) (X_arg4 := X_arg4) (X_arg5 := X_arg5) (k := k)]
  exact View.readCov_fill _ _ _ _ _ (by intro a; fin_cases a <;> rfl)

/-- The first block's output. -/
theorem outA : k0_pay93 (sl.r_29 arg3 arg4 arg5 arg8 arg9 arg10 arg11 X_arg3 X_arg4 X_arg5 k f_arg8 f_arg9 f_arg10 f_arg11) (sl.v435 arg3 arg4 arg5 arg8 arg9 arg10 arg11 X_arg3 X_arg4 X_arg5 k f_arg8 f_arg9 f_arg10 f_arg11) (sl.v436 arg3 arg4 arg5 arg8 arg9 arg10 arg11 X_arg3 X_arg4 X_arg5 k f_arg8 f_arg9 f_arg10 f_arg11) (sl.r_30 arg2 X_arg2) (View.readAt (Elt F) arg6.view (Rect.unit (s := S1x128) ![0, 0] S1x128.size inb_S1x128_S1x128_0_0).toLoadRect X_arg6) = OUTA (fA (F := F) arg4 arg5 arg8 arg9 arg10 arg11 X_arg4 X_arg5 f_arg8 f_arg9 f_arg10 f_arg11 11).2 (sl.r_30 (F := F) arg2 X_arg2) (View.readAt (Elt F) arg6.view (Rect.unit (s := S1x128) ![0, 0] S1x128.size inb_S1x128_S1x128_0_0).toLoadRect X_arg6) := by
  unfold sl.r_29
  rw [qA_0_0 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), qA_0_128 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), qA_512_0 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11), qA_512_128 (arg4 := arg4) (arg5 := arg5) (arg8 := arg8) (arg9 := arg9) (arg10 := arg10) (arg11 := arg11) (X_arg4 := X_arg4) (X_arg5 := X_arg5) (f_arg8 := f_arg8) (f_arg9 := f_arg9) (f_arg10 := f_arg10) (f_arg11 := f_arg11)]
  rfl

/-- The second block's output. -/
theorem outB : (sl.r_54 (F := F) arg2 arg3 arg4 arg5 arg6 arg8 arg9 arg10 arg11 X_arg2 X_arg3 X_arg4 X_arg5 X_arg6 k f_arg8 f_arg9 f_arg10 f_arg11) = OUTA (fB (F := F) arg3 arg4 arg5 arg8 X_arg3 X_arg4 X_arg5 k 11).2 (sl.r_30 (F := F) arg2 X_arg2) (View.readAt (Elt F) arg6.view (Rect.unit (s := S1x128) ![0, 0] S1x128.size inb_S1x128_S1x128_0_0).toLoadRect X_arg6) := by
  unfold sl.r_54 sl.r_53
  rw [qB_0_0 (arg3 := arg3) (arg4 := arg4) (arg5 := arg5) (arg8 := arg8) (X_arg3 := X_arg3) (X_arg4 := X_arg4) (X_arg5 := X_arg5) (k := k), qB_0_128 (arg3 := arg3) (arg4 := arg4) (arg5 := arg5) (arg8 := arg8) (X_arg3 := X_arg3) (X_arg4 := X_arg4) (X_arg5 := X_arg5) (k := k), qB_512_0 (arg3 := arg3) (arg4 := arg4) (arg5 := arg5) (arg8 := arg8) (X_arg3 := X_arg3) (X_arg4 := X_arg4) (X_arg5 := X_arg5) (k := k), qB_512_128 (arg3 := arg3) (arg4 := arg4) (arg5 := arg5) (arg8 := arg8) (X_arg3 := X_arg3) (X_arg4 := X_arg4) (X_arg5 := X_arg5) (k := k)]
  rfl

end Cert.KernelIdeal.Hand

end
-- ==== Proof.Loop.lean ====
module

public import proofs.«01_k».proof.Proof.Gen.KernelIdeal.Loops
public import proofs.«01_k».proof.Proof.Trip
public import Idealize.ShloMosaic.Lib.Pipeline.ReadBack
public import Idealize.ShloMosaic.Lib.ValueIdxCore
public import Idealize.ShloMosaic.Lib.WritesUnit
public import Idealize.ShloMosaic.Lib.VecWindow

/-!
  The loop's eight trips: each writes two blocks of the output window and leaves the scratch ready for the next.
-/

@[expose] public section

set_option maxRecDepth 16384

noncomputable section

namespace Cert.KernelIdeal.Hand

open Cert.KernelIdeal Cert.KernelIdeal.Gen Cert.KernelIdeal.Gen.trip_k0_t1
open Idealize.ShloMosaic Idealize.ShloMosaic.TcCoe Idealize.ShloMosaic.ValueIdx

variable {F : FTy → Type} [FloatOps F]

/-- What the scratch holds between query blocks: block `b`'s stacked queries, their scores against the first key chunk,
    a fresh maximum and a fresh accumulator. -/
structure Ready (arg8 : Memref sig .tc .vmem S2x1024x128 .bf16) (arg9 : Memref sig .tc .vmem S2x1024x768 .f32)
    (arg10 : Memref sig .tc .vmem S1024x128 .f32) (arg11 : Memref sig .tc .vmem S1024x256 .f32)
    (x3 : S8192x128.Idx → Elt F .bf16) (x4 : S8448x128.Idx → Elt F .bf16) (b : ℕ)
    (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : Prop where
  q : View.readAt (Elt F) arg8.view (Rect.unit (s := S2x1024x128) ![0, 0, 0] S1x1024x128.size inb_S2x1024x128_S1x1024x128_0_0_0).toLoadRect f_arg8 = stk (qb x3 b)
  s : View.readAt (Elt F) arg9.view (Rect.unit (s := S2x1024x768) ![0, 0, 0] S1x1024x768.size inb_S2x1024x768_S1x1024x768_0_0_0).toLoadRect f_arg9 = SC (kb x4 0) (stk (qb x3 b))
  m : View.readAt (Elt F) arg10.view (Rect.unit (s := S1024x128) ![0, 0] S1024x128.size inb_S1024x128_S1024x128_0_0).toLoadRect f_arg10 = M0
  a : View.readAt (Elt F) arg11.view (Rect.unit (s := S1024x256) ![0, 0] S1024x256.size inb_S1024x256_S1024x256_0_0).toLoadRect f_arg11 = A0

/-- A block of queries loaded at the offsets a trip computes. -/
theorem off1_eq : ∀ k : Fin k0_t1_loop.trips, k0_off1 k 0#32 = ![512 * ((2 * k.val + 1) % 16), 0]
    ∧ k0_off1 k 1#32 = ![512 * ((min (2 * k.val + 2) 15) % 16), 0] := by decide
/-- The rows a trip writes its two output blocks at. -/
theorem off2_eq : ∀ k : Fin k0_t1_loop.trips, k0_off2 k 0#32 = ![512 * (2 * k.val), 0]
    ∧ k0_off2 k 1#32 = ![512 * (2 * k.val + 1), 0] := by decide
/-- Both blocks lie in the window. -/
theorem off2_inb : ∀ k : Fin k0_t1_loop.trips, (∀ a, k0_off2 k 0#32 a + S512x128.size a ≤ S8192x128.size a)
    ∧ (∀ a, k0_off2 k 1#32 a + S512x128.size a ≤ S8192x128.size a) := by decide

/-- The mixing scalar a trip loads. -/
theorem lam_eq (arg2 : Memref sig .tc .smem S1x1 .f32) (X_arg2 : BufTy.Contents (Elt F) arg2.view.ty) :
    sl.r_30 (F := F) arg2 X_arg2 = lamOf (arg2.view.read (Elt F) X_arg2) := by
  unfold sl.r_30 lamOf
  rw [View.readAt_apply]
  congr 1
  funext a
  match a with
  | ⟨0, _⟩ => exact Subsingleton.elim (α := Fin 1) _ _
  | ⟨1, _⟩ => exact Subsingleton.elim (α := Fin 1) _ _

/-- The gain row a trip loads. -/
theorem gain_eq (arg6 : Memref sig .tc .vmem S1x128 .f32) (X_arg6 : BufTy.Contents (Elt F) arg6.view.ty) :
    View.readAt (Elt F) arg6.view (Rect.unit (s := S1x128) ![0, 0] S1x128.size inb_S1x128_S1x128_0_0).toLoadRect X_arg6
      = arg6.view.read (Elt F) X_arg6 := View.readAt_full _ _ _

/-- The second block's stacked queries. -/
theorem v400_eq (arg3 : Memref sig .tc .vmem S8192x128 .bf16) (arg8 : Memref sig .tc .vmem S2x1024x128 .bf16)
    (X_arg3 : BufTy.Contents (Elt F) arg3.view.ty) (k : Fin k0_t1_loop.trips) :
    sl.v400 (F := F) arg3 arg8 X_arg3 k = stk (qb (arg3.view.read (Elt F) X_arg3) (2 * k.val + 1)) := by
  unfold sl.v400 sl.HW_arg8_2
  refine (readAt_stk arg8.view _ _ [] 1 _ _ _).trans (congrArg stk ?_)
  exact ld_off (Val := Elt F) (arg3.view.read (Elt F) X_arg3) (off1_eq k).1 _ _

/-- The next trip's stacked queries, over whatever the scratch held. -/
theorem next_stk (arg3 : Memref sig .tc .vmem S8192x128 .bf16) (arg8 : Memref sig .tc .vmem S2x1024x128 .bf16)
    (X_arg3 : BufTy.Contents (Elt F) arg3.view.ty) (k : Fin k0_t1_loop.trips) (f : BufTy.Contents (Elt F) arg8.view.ty) :
    View.readAt (Elt F) arg8.view (Rect.unit (s := S2x1024x128) ![0, 0, 0] S1x1024x128.size inb_S2x1024x128_S1x1024x128_0_0_0).toLoadRect
      (arg8.view.writes (Elt F) f (sl.HW_arg8_4 arg3 X_arg3 k))
      = stk (qb (arg3.view.read (Elt F) X_arg3) (min (2 * k.val + 2) 15)) := by
  unfold sl.HW_arg8_4
  refine (readAt_stk arg8.view _ _ _ 0 _ _ _).trans (congrArg stk ?_)
  exact ld_off (Val := Elt F) (arg3.view.read (Elt F) X_arg3) (off1_eq k).2 _ _

/-- A load at the rectangle stored last reads what was stored. -/
theorem readAt_head {κ : Kind} {sp : Space} {s : Shape} {e : EltTy} (v : View sig κ sp s e) (f : v.ty.Contents (Elt F)) (r : Rect s)
    (w : r.shape.Idx → Elt F e) (L : List (View.Piece (Elt F) s e)) :
    v.readAt (Elt F) r.toLoadRect (v.writes (Elt F) f (⟨r, w⟩ :: L)) = w := by
  funext j
  rw [View.readAt_apply]
  exact View.read_writes_cons_emb v f r w L j

section
variable (𝒱 : Variants) (c : Dev nD) (bd : Option 𝒱.V) (i : grid0.Coords) (arg2 : Memref sig .tc .smem S1x1 .f32) (harg2 : arg2.IsWhole) (arg3 : Memref sig .tc .vmem S8192x128 .bf16) (harg3 : arg3.IsWhole) (arg4 : Memref sig .tc .vmem S8448x128 .bf16) (harg4 : arg4.IsWhole) (arg5 : Memref sig .tc .vmem S8448x256 .bf16) (harg5 : arg5.IsWhole) (arg6 : Memref sig .tc .vmem S1x128 .f32) (harg6 : arg6.IsWhole) (arg7 : Memref sig .tc .vmem S8192x128 .bf16) (harg7 : arg7.IsWhole) (arg8 : Memref sig .tc .vmem S2x1024x128 .bf16) (harg8 : arg8.IsWhole) (arg9 : Memref sig .tc .vmem S2x1024x768 .f32) (harg9 : arg9.IsWhole) (arg10 : Memref sig .tc .vmem S1024x128 .f32) (harg10 : arg10.IsWhole) (arg11 : Memref sig .tc .vmem S1024x256 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)

/-- The pieces a trip writes to the output window: the two blocks' outputs. -/
theorem trip_out (k : Fin k0_t1_loop.trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty)
    (h : Ready arg8 arg9 arg10 arg11 (arg3.view.read (Elt F) X_arg3) (arg4.view.read (Elt F) X_arg4) (2 * k.val) f_arg8 f_arg9 f_arg10 f_arg11) :
    ∃ p q, (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 k f_arg7 f_arg8 f_arg9 f_arg10 f_arg11).1
      = [⟨Rect.unit (s := S8192x128) (k0_off2 k 1#32) S512x128.size p, block (qb (arg3.view.read (Elt F) X_arg3) (2 * k.val + 1)) (arg2.view.read (Elt F) X_arg2) (arg4.view.read (Elt F) X_arg4) (arg5.view.read (Elt F) X_arg5) (arg6.view.read (Elt F) X_arg6)⟩,
         ⟨Rect.unit (s := S8192x128) (k0_off2 k 0#32) S512x128.size q, block (qb (arg3.view.read (Elt F) X_arg3) (2 * k.val)) (arg2.view.read (Elt F) X_arg2) (arg4.view.read (Elt F) X_arg4) (arg5.view.read (Elt F) X_arg5) (arg6.view.read (Elt F) X_arg6)⟩] := by
  have eB := outB arg2 arg3 arg4 arg5 arg6 arg8 arg9 arg10 arg11 X_arg2 X_arg3 X_arg4 X_arg5 X_arg6 k f_arg8 f_arg9 f_arg10 f_arg11
  have eA := outA arg2 arg3 arg4 arg5 arg6 arg8 arg9 arg10 arg11 X_arg2 X_arg3 X_arg4 X_arg5 X_arg6 k f_arg8 f_arg9 f_arg10 f_arg11
  unfold fB at eB
  rw [v400_eq, lam_eq, gain_eq] at eB
  unfold fA at eA
  rw [h.q, h.s, h.m, h.a, lam_eq, gain_eq] at eA
  refine ⟨(off2_inb k).2, (off2_inb k).1, ?_⟩
  unfold tripL_k0_t1 trip_k0_t1
  dsimp only
  rw [eB, lam_eq, gain_eq, eA]
  rfl

/-- A trip leaves the scratch ready for the next. -/
theorem trip_ready (k : Fin k0_t1_loop.trips) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) :
    Ready arg8 arg9 arg10 arg11 (arg3.view.read (Elt F) X_arg3) (arg4.view.read (Elt F) X_arg4) (min (2 * k.val + 2) 15)
      (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 k f_arg7 f_arg8 f_arg9 f_arg10 f_arg11).2.1) (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 k f_arg7 f_arg8 f_arg9 f_arg10 f_arg11).2.2.1)
      (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 k f_arg7 f_arg8 f_arg9 f_arg10 f_arg11).2.2.2.1) (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 k f_arg7 f_arg8 f_arg9 f_arg10 f_arg11).2.2.2.2) := by
  unfold tripL_k0_t1 trip_k0_t1
  dsimp only
  refine ⟨next_stk arg3 arg8 X_arg3 k _, ?_, readAt_head _ _ _ _ _, readAt_head _ _ _ _ _⟩
  unfold sl.HW_arg9_22
  refine (readAt_head _ _ _ _ _).trans ?_
  unfold sl.r_52
  show SC (F := F) _ (sl.v836 arg3 arg8 X_arg3 k) = _
  rw [show sl.v836 arg3 arg8 X_arg3 k = _ from next_stk arg3 arg8 X_arg3 k arg8.view.junk]
  rfl
end

section
variable (𝒱 : Variants) (c : Dev nD) (bd : Option 𝒱.V) (i : grid0.Coords) (arg2 : Memref sig .tc .smem S1x1 .f32) (harg2 : arg2.IsWhole) (arg3 : Memref sig .tc .vmem S8192x128 .bf16) (harg3 : arg3.IsWhole) (arg4 : Memref sig .tc .vmem S8448x128 .bf16) (harg4 : arg4.IsWhole) (arg5 : Memref sig .tc .vmem S8448x256 .bf16) (harg5 : arg5.IsWhole) (arg6 : Memref sig .tc .vmem S1x128 .f32) (harg6 : arg6.IsWhole) (arg7 : Memref sig .tc .vmem S8192x128 .bf16) (harg7 : arg7.IsWhole) (arg8 : Memref sig .tc .vmem S2x1024x128 .bf16) (harg8 : arg8.IsWhole) (arg9 : Memref sig .tc .vmem S2x1024x768 .f32) (harg9 : arg9.IsWhole) (arg10 : Memref sig .tc .vmem S1024x128 .f32) (harg10 : arg10.IsWhole) (arg11 : Memref sig .tc .vmem S1024x256 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
variable (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty)

/-- Before trip `k` the scratch is ready for block `2 k` and the output's first `1024 k` rows are done. -/
theorem loop_inv (h0 : Ready arg8 arg9 arg10 arg11 (arg3.view.read (Elt F) X_arg3) (arg4.view.read (Elt F) X_arg4) 0 G_arg8 G_arg9 G_arg10 G_arg11) :
    ∀ k : ℕ, k ≤ 8 →
      Ready arg8 arg9 arg10 arg11 (arg3.view.read (Elt F) X_arg3) (arg4.view.read (Elt F) X_arg4) (min (2 * k) 15)
        (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.1)
        (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.2)
      ∧ ∀ y : S8192x128.Idx, (y 0).val < 1024 * k → arg7.view.read (Elt F) (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).1) y
          = tile (arg2.view.read (Elt F) X_arg2) (arg3.view.read (Elt F) X_arg3) (arg4.view.read (Elt F) X_arg4) (arg5.view.read (Elt F) X_arg5) (arg6.view.read (Elt F) X_arg6) y := by
  intro k
  induction k with
  | zero => exact fun _ => ⟨h0, fun y hy => absurd hy (by omega)⟩
  | succ k ih =>
    intro hk
    obtain ⟨hr, hy⟩ := ih (by omega)
    have hkt : k < k0_t1_loop.trips := lt_of_lt_of_le (Nat.lt_of_succ_le hk) (by decide)
    have e := pb_k0_t1_succ (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 ⟨k, hkt⟩
    dsimp only at e
    constructor
    · rw [e]
      have := trip_ready 𝒱 c bd i arg2 harg2 arg3 harg3 arg4 harg4 arg5 harg5 arg6 harg6 arg7 harg7 arg8 harg8 arg9 harg9 arg10 harg10 arg11 harg11 X_arg2 X_arg3 X_arg4 X_arg5 X_arg6 ⟨k, hkt⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).1) (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.2)
      simp only [View.writes_append]
      exact this
    · intro y hlt
      rw [Nat.min_eq_left (by omega)] at hr
      obtain ⟨p, q, eo⟩ := trip_out 𝒱 c bd i arg2 harg2 arg3 harg3 arg4 harg4 arg5 harg5 arg6 harg6 arg7 harg7 arg8 harg8 arg9 harg9 arg10 harg10 arg11 harg11 X_arg2 X_arg3 X_arg4 X_arg5 X_arg6 ⟨k, hkt⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).1) (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k).2.2.2.2) hr
      rw [show (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 (k + 1)).1 = _ from (congrArg Prod.fst e).trans (congrArg (· ++ _) eo)]
      have hy1 : (y 1).val < 128 := (y 1).isLt
      by_cases h1 : 512 * (2 * k + 1) ≤ (y 0).val
      · refine (View.read_writes_cons_unit_of_mem arg7.view _ p _ _ y (ix2 (⟨(y 0).val % 512, Nat.mod_lt _ (by decide)⟩ : Fin 512) (y 1)) (off2_eq ⟨k, hkt⟩).2 ?_).trans ?_
        · intro a
          match a with
          | ⟨0, _⟩ => show (y 0).val = 512 * (2 * k + 1) + (y 0).val % 512; omega
          | ⟨1, _⟩ => show (y 1).val = 0 + (y 1).val; omega
        · unfold tile
          rw [show (y 0).val / 512 = 2 * k + 1 by omega]
      · refine (View.read_writes_cons_unit_of_not_mem arg7.view _ p _ _ y (off2_eq ⟨k, hkt⟩).2 (0 : Fin 2) (Or.inl (by show (y 0).val < 512 * (2 * k + 1); omega))).trans ?_
        by_cases h2 : 512 * (2 * k) ≤ (y 0).val
        · refine (View.read_writes_cons_unit_of_mem arg7.view _ q _ _ y (ix2 (⟨(y 0).val % 512, Nat.mod_lt _ (by decide)⟩ : Fin 512) (y 1)) (off2_eq ⟨k, hkt⟩).1 ?_).trans ?_
          · intro a
            match a with
            | ⟨0, _⟩ => show (y 0).val = 512 * (2 * k) + (y 0).val % 512; omega
            | ⟨1, _⟩ => show (y 1).val = 0 + (y 1).val; omega
          · unfold tile
            rw [show (y 0).val / 512 = 2 * k by omega]
        · refine (View.read_writes_cons_unit_of_not_mem arg7.view _ q _ _ y (off2_eq ⟨k, hkt⟩).1 (0 : Fin 2) (Or.inl (by show (y 0).val < 512 * (2 * k); omega))).trans ?_
          exact hy y (by omega)

/-- After the loop the output window is the tile. -/
theorem loop_out (h0 : Ready arg8 arg9 arg10 arg11 (arg3.view.read (Elt F) X_arg3) (arg4.view.read (Elt F) X_arg4) 0 G_arg8 G_arg9 G_arg10 G_arg11) :
    arg7.view.read (Elt F) (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 k0_t1_loop.trips).1)
      = tile (arg2.view.read (Elt F) X_arg2) (arg3.view.read (Elt F) X_arg3) (arg4.view.read (Elt F) X_arg4) (arg5.view.read (Elt F) X_arg5) (arg6.view.read (Elt F) X_arg6) :=
  funext fun y => (loop_inv 𝒱 c bd i arg2 harg2 arg3 harg3 arg4 harg4 arg5 harg5 arg6 harg6 arg7 harg7 arg8 harg8 arg9 harg9 arg10 harg10 arg11 harg11 X_arg2 X_arg3 X_arg4 X_arg5 X_arg6 G_arg7 G_arg8 G_arg9 G_arg10 G_arg11 h0 k0_t1_loop.trips (by decide)).2 y (lt_of_lt_of_eq (y 0).isLt (by decide))
end

end Cert.KernelIdeal.Hand

end
-- ==== Proof.KernelIdealRun.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Loop
public import Idealize.ShloMosaic.Lib.Pipeline.Frame
public import Idealize.ShloMosaic.Lib.Tactic

/-!
  The attention call of `KernelIdeal` terminates, its output array filled window by window with `tile` of the input
  windows; its arguments are left alone and every counter ends at zero. The body is run once by `sl_exec` (its loop by
  the generated invariant), the scratch at anything before and after.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

/-- What the kernel stores before the loop leaves the scratch ready for the first block. -/
theorem start_ready (arg3 : Memref sig .tc .vmem S8192x128 .bf16) (arg4 : Memref sig .tc .vmem S8448x128 .bf16)
    (arg8 : Memref sig .tc .vmem S2x1024x128 .bf16) (arg9 : Memref sig .tc .vmem S2x1024x768 .f32)
    (arg10 : Memref sig .tc .vmem S1024x128 .f32) (arg11 : Memref sig .tc .vmem S1024x256 .f32)
    (f3 : BufTy.Contents (Elt F) arg3.view.ty) (f4 : BufTy.Contents (Elt F) arg4.view.ty) (f8 : BufTy.Contents (Elt F) arg8.view.ty) (f9 : BufTy.Contents (Elt F) arg9.view.ty)
    (f10 : BufTy.Contents (Elt F) arg10.view.ty) (f11 : BufTy.Contents (Elt F) arg11.view.ty) :
    Ready arg8 arg9 arg10 arg11 (arg3.view.read (Elt F) f3) (arg4.view.read (Elt F) f4) 0
      (arg8.view.writes (Elt F) f8 [⟨Rect.unit (s := S2x1024x128) ![0, 512, 0] S1x512x128.size inb_S2x1024x128_S1x512x128_0_512_0, k0_pay182 (View.readAt (Elt F) arg3.view (Rect.unit (s := S8192x128) ![0, 0] S512x128.size inb_S8192x128_S512x128_0_0).toLoadRect f3)⟩,
        ⟨Rect.unit (s := S2x1024x128) ![0, 0, 0] S1x512x128.size inb_S2x1024x128_S1x512x128_0_0_0, k0_pay181 (View.readAt (Elt F) arg3.view (Rect.unit (s := S8192x128) ![0, 0] S512x128.size inb_S8192x128_S512x128_0_0).toLoadRect f3)⟩])
      (arg9.view.writes (Elt F) f9 [⟨Rect.unit (s := S2x1024x768) ![0, 0, 0] S1x1024x768.size inb_S2x1024x768_S1x1024x768_0_0_0, k0_pay183 (View.readAt (Elt F) arg4.view (Rect.unit (s := S8448x128) ![0, 0] S768x128.size inb_S8448x128_S768x128_0_0).toLoadRect f4) (arg8.view.readCov [⟨Rect.unit (s := S2x1024x128) ![0, 512, 0] S1x512x128.size inb_S2x1024x128_S1x512x128_0_512_0, k0_pay182 (View.readAt (Elt F) arg3.view (Rect.unit (s := S8192x128) ![0, 0] S512x128.size inb_S8192x128_S512x128_0_0).toLoadRect f3)⟩,
        ⟨Rect.unit (s := S2x1024x128) ![0, 0, 0] S1x512x128.size inb_S2x1024x128_S1x512x128_0_0_0, k0_pay181 (View.readAt (Elt F) arg3.view (Rect.unit (s := S8192x128) ![0, 0] S512x128.size inb_S8192x128_S512x128_0_0).toLoadRect f3)⟩] (Rect.unit (s := S2x1024x128) ![0, 0, 0] S1x1024x128.size inb_S2x1024x128_S1x1024x128_0_0_0).toLoadRect)⟩])
      (arg10.view.writes (Elt F) f10 [⟨Rect.unit (s := S1024x128) ![0, 0] S1024x128.size inb_S1024x128_S1024x128_0_0, k0_pay184⟩])
      (arg11.view.writes (Elt F) f11 [⟨Rect.unit (s := S1024x256) ![0, 0] S1024x256.size inb_S1024x256_S1024x256_0_0, k0_pay1 (Scalar.ofBits .f32 0x00000000#32)⟩]) := by
  refine ⟨readAt_stk arg8.view _ _ _ 0 _ _ _, ?_, readAt_head _ _ _ _ _, readAt_head _ _ _ _ _⟩
  refine (readAt_head _ _ _ _ _).trans ?_
  exact congrArg (SC (kb (arg4.view.read (Elt F) f4) 0)) (readAt_stk arg8.view arg8.view.junk (qb (arg3.view.read (Elt F) f3) 0) [] 0 _ _ _)

/-- From the five inputs at given contents and the output and the four scratch buffers at any, the kernel runs to its
    return and hands everything back, the inputs as they were, the output at their `tile`. -/
theorem kernelRun (c : Dev nD) (i : grid0.Coords)
    (arg2 : Memref sig .tc .smem S1x1 .f32) (harg2 : arg2.IsWhole)
    (arg3 : Memref sig .tc .vmem S8192x128 .bf16) (harg3 : arg3.IsWhole)
    (arg4 : Memref sig .tc .vmem S8448x128 .bf16) (harg4 : arg4.IsWhole)
    (arg5 : Memref sig .tc .vmem S8448x256 .bf16) (harg5 : arg5.IsWhole)
    (arg6 : Memref sig .tc .vmem S1x128 .f32) (harg6 : arg6.IsWhole)
    (arg7 : Memref sig .tc .vmem S8192x128 .bf16) (harg7 : arg7.IsWhole)
    (arg8 : Memref sig .tc .vmem S2x1024x128 .bf16) (harg8 : arg8.IsWhole)
    (arg9 : Memref sig .tc .vmem S2x1024x768 .f32) (harg9 : arg9.IsWhole)
    (arg10 : Memref sig .tc .vmem S1024x128 .f32) (harg10 : arg10.IsWhole)
    (arg11 : Memref sig .tc .vmem S1024x256 .f32) (harg11 : arg11.IsWhole)
    (x2 : S1x1.Idx → Elt F .f32) (x3 : S8192x128.Idx → Elt F .bf16) (x4 : S8448x128.Idx → Elt F .bf16) (x5 : S8448x256.Idx → Elt F .bf16) (x6 : S1x128.Idx → Elt F .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare (tile x2 x3 x4 x5 x6)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)) -∗ K ⟨⟩))
      ⊢ wp frame (wpE (defs₀ (F := F)) Variants.none (c : Thread nD τ) none) Set.univ
          (cc0_diff_attn i arg2 harg2 arg3 harg3 arg4 harg4 arg5 harg5 arg6 harg6 arg7 harg7 arg8 harg8 arg9 harg9 arg10 harg10 arg11 harg11) K := by
  simp only [cc0_diff_attn_eq_skeleton]; unfold cc0_diff_attn_skel
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr; swap; · iexact H7
    ipureintro
    subst h2 h3 h4 h5 h6
    refine loop_out _ _ _ _ _ _ _ _ _ _ _ _ _ _ _ _ _ _ _ _ _ _ _ _ _ _ _ _ _ _ _ _ _ _ ?_
    exact start_ready arg3 arg4 arg8 arg9 arg10 arg11 f3 f4 _ _ _ _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

/-- The proof data on core `c`: every array as the region finds it, every input block left in place, the output's at `tile` of them;
    the scratch and the generator register at anything; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => tile (iblk m c 0 t) (iblk m c 1 t) (iblk m c 2 t) (iblk m c 3 t) (iblk m c 4 t)
  Φ _ := Pipeline.ΦA spec0 c
  q _ := fullShare
  owed _ := 0

/-- The four scratch buffers at anything, as memrefs. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗  owns (c : Thread nD τ) (win0_5.stage (cfg0.slots t 5)) fullShare ((dats m 0 c).after 5 t))

/-- The body at a point: the invariant opened, the inputs' blocks named, `kernelRun`, the invariant closed. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  iintro ⟨⟨⟨H8, H9, H10, H11⟩, Hg⟩, HO, ⟨%d0, H2⟩, ⟨%d1, H3⟩, ⟨%d2, H4⟩, ⟨%d3, H5⟩, ⟨%d4, H6⟩, ⟨%d5, H7⟩⟩
  iapply (kernelRun c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (Memref.isWhole_whole _) _ (Memref.isWhole_whole _) _ (Memref.isWhole_whole _) _ (Memref.isWhole_whole _) _ _ _ _ _ _)
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  iintro ⟨H2, H3, H4, H5, H6, H7, H8, H9, H10, H11⟩
  isplitl [H8 H9 H10 H11 Hg]
  · isplitl [H8 H9 H10 H11]
    · isplitl [H8]; · iexact H8
      isplitl [H9]; · iexact H9
      isplitl [H10]; · iexact H10
      iexact H11
    iexact Hg
  isplitl [HO]; · iexact HO
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- Every weakly fair execution terminates; every array ends at what the proof data make of it, every buffer that is no
    window's array as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hΦ := fun _ _ => rfl) (hQ' := fun _ h => h)

/-- Every run of `KernelIdeal` ends with its result the array the windows' tiles make up, its arguments as they began,
    every counter at zero. -/
theorem run_out :
    θ_run defs (onTc (τ := τ) (main (F := F))) ⟨m, fun _ => 0, ρ⟩ (fun r => (∀ c : Dev nD,
      r.2.mem ((c.tc : Thread nD τ).loc main_v13) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 0).trans (((dats m 0 c).arrAt_in 0 rfl _).trans (V_main_arg3 m c)),
      ((h.1 c).2 main_arg4 (Pipeline.mem_restRefs_of main_arg4 (by decide) (by decide))).trans (V_main_arg4 m c)⟩, h.2⟩) (run_main m ρ)

end Cert.KernelIdeal.Hand

end
-- ==== Proof.Finite.lean ====
module

public import proofs.«01_k».proof.Defs
public import Idealize.ShloMosaic.Lib.Pointwise

/-!
  What the precondition says of an array: all its elements are real.
-/

@[expose] public section
noncomputable section
namespace Cert.Attn
open Idealize.ShloMosaic

/-- An extended real whose absolute value compares below the infinity is a real. -/
theorem real_of_cmp (x : EReal) (h : FloatOps.cmpf (F := Ideal) (φ := .f32) .olt (FloatOps.absf (F := Ideal) (φ := .f32) x) (Ideal.ofBits FTy.f32 0x7F800000#32) = 1#1) : ∃ r : ℝ, x = (r : EReal) := by
  have ht : Ideal.ofBits FTy.f32 0x7F800000#32 = (⊤ : EReal) := by simp [Ideal.ofBits, Ideal.ieee, -EReal.coe_mul]
  rw [ht, Ideal.cmpf_def, Ideal.absf_def] at h
  have h2 : max x (-x) < ⊤ := by
    by_contra hc
    simp [Ideal.cmp, hc] at h
  induction x using EReal.rec with
  | bot => simp at h2
  | top => simp at h2
  | coe r => exact ⟨r, rfl⟩

/-- An array whose absolute values all compare below the infinity is an array of reals. -/
theorem real_of_all {s : Shape} (x : FVec Ideal s .f32) (b : FVec Ideal s .f32) (hb : ∀ i, b i = Ideal.ofBits FTy.f32 0x7F800000#32)
    (h : cmpf .olt (Host.absf x) b = fun _ => 1#1) : ∃ X : s.Idx → ℝ, ∀ i, x i = (X i : EReal) := by
  have : ∀ i, ∃ r : ℝ, x i = (r : EReal) := fun i => real_of_cmp (x i) (by
    rw [← hb i]
    exact congrFun h i)
  choose X hX using this
  exact ⟨X, hX⟩

end Cert.Attn
end
-- ==== Proof.Geom.lean ====
module

public import proofs.«01_k».proof.Proof.KernelIdealRun
public import Idealize.ShloMosaic.Lib.Pipeline.ValueKit
public import Idealize.ShloMosaic.Lib.Claim
public import Idealize.ShloMosaic.Lib.Pointwise

/-!
  Where each window's block lies in its array, and what the arrays hold when the attention call is entered.
-/

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- Every window's block index at a grid point: the point is four times the batch plus the head. -/
theorem idx0 : ∀ t : Fin cfg0.N, win0_0.index t = ![0, 0] := (by decide +kernel : ∀ t : Fin grid0.N, _)
theorem idx1 : ∀ t : Fin cfg0.N, win0_1.index t = ![t.val / 4, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, t.val % 4] := (by decide +kernel : ∀ t : Fin grid0.N, _)

theorem lt16 (t : Fin cfg0.N) : t.val < 16 := Nat.lt_of_lt_of_eq t.isLt N_0

theorem iblk1_apply (c : Dev nD) (t : Fin cfg0.N) (a : Fin 8192) (d : Fin 128) :
    iblk m c 1 t (ix2 a d) = (V m c main_v5 : S32768x512.Idx → EReal)
      (ix2 (⟨8192 * (t.val / 4) + a.val, by have := lt16 t; omega⟩ : Fin 32768) (⟨128 * (t.val % 4) + d.val, by omega⟩ : Fin 512)) := by
  blk_simp [iblk]
  refine congrArg (V m c main_v5 : S32768x512.Idx → EReal) ?_
  blk_ext [idx1]

theorem iblk2_apply (c : Dev nD) (t : Fin cfg0.N) (a : Fin 8448) (d : Fin 128) :
    iblk m c 2 t (ix2 a d) = (V m c main_v11 : S33792x512.Idx → EReal)
      (ix2 (⟨8448 * (t.val / 4) + a.val, by have := lt16 t; omega⟩ : Fin 33792) (⟨128 * (t.val % 4) + d.val, by omega⟩ : Fin 512)) := by
  blk_simp [iblk]
  refine congrArg (V m c main_v11 : S33792x512.Idx → EReal) ?_
  blk_ext [idx2]

theorem iblk3_apply (c : Dev nD) (t : Fin cfg0.N) (a : Fin 8448) (d : Fin 256) :
    iblk m c 3 t (ix2 a d) = (V m c main_v10 : S33792x1024.Idx → EReal)
      (ix2 (⟨8448 * (t.val / 4) + a.val, by have := lt16 t; omega⟩ : Fin 33792) (⟨256 * (t.val % 4) + d.val, by omega⟩ : Fin 1024)) := by
  blk_simp [iblk]
  refine congrArg (V m c main_v10 : S33792x1024.Idx → EReal) ?_
  blk_ext [idx3]

theorem iblk4_apply (c : Dev nD) (t : Fin cfg0.N) (d : Fin 128) :
    iblk m c 4 t (ix2 (0 : Fin 1) d) = (V m c main_v12 : S1x128.Idx → EReal) (ix2 (0 : Fin 1) d) := by
  blk_simp [iblk]
  refine congrArg (V m c main_v12 : S1x128.Idx → EReal) ?_
  blk_ext [idx4]

theorem iblk0_apply (c : Dev nD) (t : Fin cfg0.N) :
    iblk m c 0 t (ix2 (0 : Fin 1) (0 : Fin 1)) = (V m c main_arg3 : S1x1.Idx → EReal) (ix2 (0 : Fin 1) (0 : Fin 1)) := by
  blk_simp [iblk]
  refine congrArg (V m c main_arg3 : S1x1.Idx → EReal) ?_
  blk_ext [idx0]

/-- The constants of the host's scaling. -/
theorem ofBits_eighth : Ideal.ofBits FTy.f32 0x3E000000#32 = ((1 / 8 : ℝ) : EReal) := by
  simp [Ideal.ofBits, Ideal.ieee, -EReal.coe_mul]; norm_num
theorem ofBits_two : Ideal.ofBits FTy.f32 0x40000000#32 = ((2 : ℝ) : EReal) := by
  simp [Ideal.ofBits, Ideal.ieee, -EReal.coe_mul]; norm_num

/-- The five arguments as arrays of extended reals. -/
abbrev argQ (c : Dev nD) : S32768x512.Idx → EReal := m ((c.tc : Thread nD τ).loc main_arg0)
abbrev argK (c : Dev nD) : S33792x512.Idx → EReal := m ((c.tc : Thread nD τ).loc main_arg1)
abbrev argV (c : Dev nD) : S33792x512.Idx → EReal := m ((c.tc : Thread nD τ).loc main_arg2)
abbrev argL (c : Dev nD) : S1x1.Idx → EReal := m ((c.tc : Thread nD τ).loc main_arg3)
abbrev argG (c : Dev nD) : S128.Idx → EReal := m ((c.tc : Thread nD τ).loc main_arg4)

/-- The queries handed to the call: scaled by an eighth and divided by the logarithm of two. -/
theorem val_v5 (c : Dev nD) (i : Fin 32768) (j : Fin 512) (x : ℝ)
    (hx : argQ m c (ix2 i j) = (x : EReal)) :
    (V m c main_v5 : S32768x512.Idx → EReal) (ix2 i j) = ((x / 8 / Real.log 2 : ℝ) : EReal) := by
  have h : (V m c main_v5 : S32768x512.Idx → EReal) (ix2 i j)
      = Ideal.div (argQ m c (ix2 i j) * Ideal.ofBits FTy.f32 0x3E000000#32)
          (Ideal.log (Ideal.ofBits FTy.f32 0x40000000#32)) := by
    entry_read
    pointwise
  have hl : Real.log 2 ≠ 0 := (Real.log_pos (by norm_num)).ne'
  rw [h, hx, ofBits_eighth, ofBits_two, Ideal.log_coe, if_neg (by norm_num), ← EReal.coe_mul, Ideal.div_coe hl, ← EReal.coe_mul]
  congr 1
  ring

/-- The keys handed to the call are the argument's. -/
theorem val_v11 (c : Dev nD) (i : Fin 33792) (j : Fin 512) :
    (V m c main_v11 : S33792x512.Idx → EReal) (ix2 i j) = argK m c (ix2 i j) := by
  entry_read
  pointwise

/-- The values handed to the call: head by head 128 columns of the argument's, then 128 ones. -/
theorem val_v10_lo (c : Dev nD) (i : Fin 33792) (h : Fin 4) (e : Fin 128) :
    (V m c main_v10 : S33792x1024.Idx → EReal) (ix2 i (⟨256 * h.val + e.val, by omega⟩ : Fin 1024))
      = argV m c (ix2 i (⟨128 * h.val + e.val, by omega⟩ : Fin 512)) := by
  entry_read
  pointwise
  have e1 : (256 * h.val + e.val) % 256 = e.val := by omega
  have e2 : (256 * h.val + e.val) / 256 = h.val := by omega
  rw [dif_pos (by omega)]
  refine congrArg (fun b : Fin 512 => argV m c (ix2 i b)) (Fin.ext ?_)
  show h.val * 128 + (256 * h.val + e.val) % 256 = 128 * h.val + e.val
  omega
theorem val_v10_hi (c : Dev nD) (i : Fin 33792) (h : Fin 4) (e : Fin 128) :
    @Eq EReal ((V m c main_v10 : S33792x1024.Idx → EReal) (ix2 i (⟨256 * h.val + (128 + e.val), by omega⟩ : Fin 1024))) 1 := by
  entry_read
  pointwise
  rw [dif_neg (by omega)]

/-- The gain row handed to the call is the argument's. -/
theorem val_v12 (c : Dev nD) (d : Fin 128) :
    (V m c main_v12 : S1x128.Idx → EReal) (ix2 (0 : Fin 1) d) = argG m c (ix1 d) := by
  entry_read
  pointwise

/-- The grid point that writes an element of the result. -/
def pt (r : Fin 32768) (j : Fin 512) : Fin cfg0.N := ⟨4 * (r.val / 8192) + j.val / 128, by rw [show cfg0.N = 16 from N_0]; omega⟩

theorem pt_val (r : Fin 32768) (j : Fin 512) : (pt r j).val = 4 * (r.val / 8192) + j.val / 128 := rfl

/-- Window `t` of the result at a place in it. -/
def win (c : Dev nD) (t : Fin cfg0.N) (a : Fin 8192) (b : Fin 128) : EReal :=
  (tile (iblk m c 0 t) (iblk m c 1 t) (iblk m c 2 t) (iblk m c 3 t) (iblk m c 4 t) : S8192x128.Idx → EReal) (ix2 a b)

/-- The result's value at row `r` and column `j`: the window of its grid point, at its place there. -/
def res2 (c : Dev nD) (r : Fin 32768) (j : Fin 512) : EReal :=
  win m c (pt r j) (⟨r.val % 8192, Nat.mod_lt _ (by decide)⟩ : Fin 8192) (⟨j.val % 128, Nat.mod_lt _ (by decide)⟩ : Fin 128)
def res (c : Dev nD) (i : S32768x512.Idx) : EReal := res2 m c (i 0) (i 1)

/-- Window `t` at a place is the result's value at the array index it goes to. -/
theorem res2_of (c : Dev nD) (t : Fin cfg0.N) (a : Fin 8192) (b : Fin 128) (r : Fin 32768) (j : Fin 512)
    (h0 : r.val = 8192 * (t.val / 4) + a.val) (h1 : j.val = 128 * (t.val % 4) + b.val) : win m c t a b = res2 m c r j := by
  have ht := lt16 t
  have et : pt r j = t := Fin.ext (by rw [pt_val, h0, h1]; omega)
  have g0 : (⟨r.val % 8192, Nat.mod_lt _ (by decide)⟩ : Fin 8192) = a := Fin.ext (by show r.val % 8192 = a.val; omega)
  have g1 : (⟨j.val % 128, Nat.mod_lt _ (by decide)⟩ : Fin 128) = b := Fin.ext (by show j.val % 128 = b.val; omega)
  rw [res2, et, g0, g1]

/-- The result array, element by element. -/
theorem arr_eq (c : Dev nD) : (dats m 0 c).arrAt 5 cfg0.N = res m c := by
  refine (dats m 0 c).arrAt_eq_of_covers 5 _ (by decide +kernel) fun t hf y => ?_
  idx_vars y
  refine res2_of m c t _ _ _ _ ?_ ?_
  · blk_simp [idx5]; dsimp only; omega
  · blk_simp [idx5]; dsimp only; omega

end Cert.KernelIdeal.Hand

end
-- ==== Proof.Flash.lean ====
module

public import Idealize.ShloMosaic.PureOps.Ideal

/-!
  The weighted average of values by exponential weights, and two ways to compute it over the extended reals: with the
  largest score subtracted from every score, or chunk by chunk with a running maximum.
-/

@[expose] public section

noncomputable section

namespace Cert.Attn

open Idealize.ShloMosaic

/-- The average of `v` by the weights `exp (s k)`. -/
def wavg {ι : Type} [Fintype ι] (s v : ι → ℝ) : ℝ := (∑ k, Real.exp (s k) * v k) / ∑ k, Real.exp (s k)

/-- The largest of a nonempty family of reals, taken over the extended reals from below, is a real. -/
theorem fold_max_real {ι : Type} [Fintype ι] [Nonempty ι] (s : ι → ℝ) :
    ∃ r : ℝ, Finset.univ.fold max (⊥ : EReal) (fun k => (s k : EReal)) = r := by
  refine ⟨_, (EReal.coe_toReal (ne_of_lt ?_) (ne_of_gt ?_)).symm⟩
  · rw [Finset.fold_max_lt]
    exact ⟨bot_lt_top, fun x _ => EReal.coe_lt_top _⟩
  · rw [Finset.lt_fold_max]
    exact .inr ⟨Classical.arbitrary ι, Finset.mem_univ _, EReal.bot_lt_coe _⟩

/-- A sum of reals, over the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S h ih => rw [Finset.sum_insert h, Finset.sum_insert h, EReal.coe_add, ih]

/-- The running maximum is a real from the first chunk on. -/
theorem running_real (s : ℕ → Fin 768 → ℝ) (M : ℕ → EReal) (h0 : M 0 = ⊥)
    (hM : ∀ n, M (n + 1) = max (M n) (Finset.univ.fold max ⊥ fun k => (s n k : EReal))) (n : ℕ) :
    ∃ μ : ℝ, M (n + 1) = μ := by
  induction n with
  | zero => obtain ⟨r, hr⟩ := fold_max_real (s 0); exact ⟨r, by rw [hM, h0, hr]; simp⟩
  | succ n ih =>
    obtain ⟨μ, hμ⟩ := ih
    obtain ⟨r, hr⟩ := fold_max_real (s (n + 1))
    exact ⟨max μ r, by rw [hM, hμ, hr]; exact (Monotone.map_max EReal.coe_strictMono.monotone).symm⟩

/-- What the accumulator holds after `n + 1` chunks: every weight taken against the running maximum reached. -/
theorem running_sum (s v : ℕ → Fin 768 → ℝ) (M A : ℕ → EReal) (μ : ℕ → ℝ) (h0 : M 0 = ⊥) (hA0 : A 0 = 0)
    (hμ : ∀ n, M (n + 1) = μ n)
    (hA : ∀ n, A (n + 1) = A n * Ideal.exp2 (M n - M (n + 1)) + ∑ k, Ideal.exp2 (s n k - M (n + 1)) * v n k) (n : ℕ) :
    A (n + 1) = ((∑ j ∈ Finset.range (n + 1), ∑ k, (2 : ℝ) ^ (s j k - μ n) * v j k : ℝ) : EReal) := by
  have step : ∀ n, (∑ k, Ideal.exp2 ((s n k : EReal) - M (n + 1)) * (v n k : EReal))
      = ((∑ k, (2 : ℝ) ^ (s n k - μ n) * v n k : ℝ) : EReal) := by
    intro n
    rw [coe_sum]
    refine Finset.sum_congr rfl fun k _ => ?_
    rw [hμ, ← EReal.coe_sub, Ideal.exp2_coe, ← EReal.coe_mul]; rfl
  induction n with
  | zero => rw [hA, step, hA0]; simp
  | succ n ih =>
    rw [hA, step, ih, hμ, hμ, ← EReal.coe_sub, Ideal.exp2_coe, ← EReal.coe_mul, ← EReal.coe_add,
      Finset.sum_range_succ _ (n + 1), Finset.sum_mul]
    congr 2
    refine Finset.sum_congr rfl fun j _ => ?_
    rw [Finset.sum_mul]
    refine Finset.sum_congr rfl fun k _ => ?_
    show (2 : ℝ) ^ (s j k - μ n) * v j k * (2 : ℝ) ^ (μ n - μ (n + 1)) = (2 : ℝ) ^ (s j k - μ (n + 1)) * v j k
    rw [mul_right_comm, ← Real.rpow_add (by norm_num)]
    congr 2; ring

/-- A power of two with a common factor taken out. -/
theorem two_pow_sub (s μ : ℝ) : (2 : ℝ) ^ (s - μ) = Real.exp (Real.log 2 * s) * (2 : ℝ) ^ (-μ) := by
  rw [sub_eq_add_neg, Real.rpow_add (by norm_num), Real.rpow_def_of_pos (by norm_num)]

/-- Eleven chunks of 768 are all 8448 keys. -/
theorem sum_chunks (f : ℕ → Fin 768 → ℝ) :
    ∑ j ∈ Finset.range 11, ∑ k, f j k = ∑ i : Fin 8448, f (i.val / 768) ⟨i.val % 768, Nat.mod_lt _ (by norm_num)⟩ := by
  rw [Finset.sum_range, ← Fintype.sum_prod_type' (fun (j : Fin 11) (k : Fin 768) => f j k)]
  refine Fintype.sum_equiv (finProdFinEquiv (m := 11) (n := 768)) _ _ fun x => ?_
  obtain ⟨j, k⟩ := x
  have h1 : (finProdFinEquiv (m := 11) (n := 768) (j, k)).val = k.val + 768 * j.val := rfl
  have h2 := k.isLt
  have e1 : (k.val + 768 * j.val) / 768 = j.val := by omega
  have e2 : (k.val + 768 * j.val) % 768 = k.val := by omega
  have h3 : ((⟨(finProdFinEquiv (m := 11) (n := 768) (j, k)).val % 768, Nat.mod_lt _ (by norm_num)⟩ : Fin 768)) = k := by
    apply Fin.ext; show (finProdFinEquiv (m := 11) (n := 768) (j, k)).val % 768 = k.val; rw [h1, e2]
  show f j k = f ((finProdFinEquiv (m := 11) (n := 768) (j, k)).val / 768) _
  rw [h3, h1, e1]

/-- A common positive factor leaves a quotient by a positive real alone. -/
theorem div_scale (a b p : ℝ) (hb : 0 < b) (hp : 0 < p) :
    Ideal.div ((a * p : ℝ) : EReal) ((b * p : ℝ) : EReal) = ((a / b : ℝ) : EReal) := by
  rw [Ideal.div_coe (mul_pos hb hp).ne', ← EReal.coe_mul, mul_one_div, mul_div_mul_right _ _ hp.ne']

/-- Chunk by chunk: the quotient of the accumulated values by the accumulated weights is the weighted average. -/
theorem running_div (s v : ℕ → Fin 768 → ℝ) (M A B : ℕ → EReal) (h0 : M 0 = ⊥) (hA0 : A 0 = 0) (hB0 : B 0 = 0)
    (hM : ∀ n, M (n + 1) = max (M n) (Finset.univ.fold max ⊥ fun k => (s n k : EReal)))
    (hA : ∀ n, A (n + 1) = A n * Ideal.exp2 (M n - M (n + 1)) + ∑ k, Ideal.exp2 (s n k - M (n + 1)) * v n k)
    (hB : ∀ n, B (n + 1) = B n * Ideal.exp2 (M n - M (n + 1)) + ∑ k, Ideal.exp2 (s n k - M (n + 1)) * (1 : ℝ)) :
    Ideal.div (A 11) (B 11)
      = ((wavg (fun i : Fin 8448 => Real.log 2 * s (i.val / 768) ⟨i.val % 768, Nat.mod_lt _ (by norm_num)⟩)
          (fun i : Fin 8448 => v (i.val / 768) ⟨i.val % 768, Nat.mod_lt _ (by norm_num)⟩) : ℝ) : EReal) := by
  choose μ hμ using running_real s M h0 hM
  have ea := running_sum s v M A μ h0 hA0 hμ hA 10
  have eb := running_sum s (fun _ _ => 1) M B μ h0 hB0 hμ hB 10
  simp only [Nat.reduceAdd] at ea eb
  rw [ea, eb]
  have key : ∀ w : ℕ → Fin 768 → ℝ, (∑ j ∈ Finset.range 11, ∑ k, (2 : ℝ) ^ (s j k - μ 10) * w j k)
      = (∑ i : Fin 8448, Real.exp (Real.log 2 * s (i.val / 768) ⟨i.val % 768, Nat.mod_lt _ (by norm_num)⟩)
          * w (i.val / 768) ⟨i.val % 768, Nat.mod_lt _ (by norm_num)⟩) * (2 : ℝ) ^ (-μ 10) := by
    intro w
    rw [sum_chunks, Finset.sum_mul]
    refine Finset.sum_congr rfl fun i _ => ?_
    rw [two_pow_sub]; ring
  rw [key, key, div_scale _ _ _ ?_ (by positivity)]
  · unfold wavg
    simp only [mul_one]
  · exact Finset.sum_pos (fun i _ => by positivity) Finset.univ_nonempty

/-- All at once: the values summed by the weights taken against any common real and divided by their sum. -/
theorem shifted_sum {ι : Type} [Fintype ι] [Nonempty ι] (s : ι → ℝ) (μ : ℝ) (k : ι) :
    Real.exp (s k - μ) / ∑ i, Real.exp (s i - μ) = Real.exp (s k) / ∑ i, Real.exp (s i) := by
  simp only [Real.exp_sub]
  rw [← Finset.sum_div, div_div_div_cancel_right₀ (Real.exp_pos μ).ne']

/-- The weighted average as a sum of the values by normalized weights. -/
theorem wavg_eq {ι : Type} [Fintype ι] [Nonempty ι] (s v : ι → ℝ) :
    wavg s v = ∑ k, v k * (Real.exp (s k) / ∑ i, Real.exp (s i)) := by
  unfold wavg
  rw [Finset.sum_div]
  refine Finset.sum_congr rfl fun k _ => ?_
  ring

/-- The tail both programs end with: the root mean square of a row of 128 scaled to one, times the gain and the factor. -/
def rnorm (y : Fin 128 → EReal) (g : EReal) (d : Fin 128) : EReal :=
  y d * Ideal.rsqrt (Ideal.div (∑ e, y e * y e) (Ideal.ofBits FTy.f32 0x43000000#32) + Ideal.ofBits FTy.f32 0x3727C5AC#32) * g
    * Ideal.ofBits FTy.f32 0x3F4CCCCD#32

/-- Half of a sum over 128 columns, picked by a condition on the column, is the sum over that half's 64. -/
theorem half_sum (f g : Fin 128 → ℝ) (j : Fin 2) :
    (∑ x : Fin 128, (if x.val / 64 = j.val then f x else 0) * g x)
      = ∑ x : Fin 64, f ⟨j.val * 64 + x.val, by omega⟩ * g ⟨j.val * 64 + x.val, by omega⟩ := by
  rw [← (finProdFinEquiv (m := 2) (n := 64)).sum_comp (fun x : Fin 128 => (if x.val / 64 = j.val then f x else 0) * g x), Fintype.sum_prod_type]
  rw [Finset.sum_eq_single j]
  · refine Finset.sum_congr rfl fun x _ => ?_
    have e : (finProdFinEquiv (m := 2) (n := 64) (j, x) : Fin 128) = ⟨j.val * 64 + x.val, by omega⟩ := Fin.ext (by
      show x.val + 64 * j.val = j.val * 64 + x.val; omega)
    rw [e, if_pos (by show (j.val * 64 + x.val) / 64 = j.val; omega)]
  · intro i _ hij
    refine Finset.sum_eq_zero fun x _ => ?_
    rw [if_neg, zero_mul]
    show ¬ (x.val + 64 * i.val) / 64 = j.val
    intro h
    exact hij (Fin.ext (by omega))
  · intro h; exact absurd (Finset.mem_univ j) h

end Cert.Attn

end
-- ==== Proof.Pay.lean ====
module

public import proofs.«01_k».proof.Proof.Chunk
public import proofs.«01_k».proof.Proof.Flash
public import Idealize.ShloMosaic.Lib.Pointwise

/-!
  The pieces of the attention call read at an index, over the extended reals.
-/

@[expose] public section

set_option maxRecDepth 16384

noncomputable section

namespace Cert.KernelIdeal.Hand

open Cert.KernelIdeal Cert.KernelIdeal.Gen Cert.Attn
open Idealize.ShloMosaic

/-- A score is the product of a stacked query row with a key row. -/
theorem SC_apply (K : Vec Ideal S768x128 .bf16) (qs : Vec Ideal S1x1024x128 .bf16) (r : Fin 1024) (k : Fin 768) :
    SC K qs (ix3 (0 : Fin 1) r k) = ∑ d : Fin 128, qs (ix3 (0 : Fin 1) r d) * K (ix2 k d) := by
  pointwise [SC, k0_pay4]

/-- The word the running maximum starts from is below every real. -/
theorem ofBits_bot : Ideal.ofBits FTy.f32 0xFF800000#32 = ⊥ := by
  simp [Ideal.ofBits, Ideal.ieee]

/-- The running maximum after a chunk is the larger of the one before and the chunk's largest score, in every lane. -/
theorem pay6_apply (s : Vec Ideal S1x1024x768 .f32) (mx : Vec Ideal S1024x128 .f32) (r : Fin 1024) (l : Fin 128) :
    k0_pay6 s mx (ix2 r l) = max (mx (ix2 r l)) (Finset.univ.fold max ⊥ fun k : Fin 768 => s (ix3 (0 : Fin 1) r k)) := by
  pointwise [k0_pay6, k0_pay5]
  rw [← ofBits_bot]

theorem MN_apply (s : Vec Ideal S1x1024x768 .f32) (mx : Vec Ideal S1024x128 .f32) (r : Fin 1024) (l : Fin 128) :
    MN s mx (ix2 r l) = max (mx (ix2 r l)) (Finset.univ.fold max ⊥ fun k : Fin 768 => s (ix3 (0 : Fin 1) r k)) := by
  rw [← pay6_apply]
  pointwise [MN, k0_pay7]

/-- The accumulator after a chunk, in a row whose running maximum is `M` before the chunk and `M'` after it. -/
theorem AN_apply (s : Vec Ideal S1x1024x768 .f32) (vb : Vec Ideal S768x256 .bf16) (mx : Vec Ideal S1024x128 .f32) (a : Vec Ideal S1024x256 .f32)
    (r : Fin 1024) (c : Fin 256) (M M' : EReal) (hM : ∀ l, mx (ix2 r l) = M) (hM' : ∀ l, MN s mx (ix2 r l) = M') :
    AN s vb mx a (ix2 r c) = a (ix2 r c) * Ideal.exp2 (M - M')
      + ∑ k : Fin 768, Ideal.exp2 (s (ix3 (0 : Fin 1) r k) - M') * vb (ix2 k c) := by
  have hM'' : ∀ l, k0_pay6 s mx (ix2 r l) = M' := fun l => (pay6_apply s mx r l).trans ((MN_apply s mx r l).symm.trans (hM' l))
  pointwise [AN, k0_pay9, k0_pay8, k0_pay5]
  simp only [hM, hM'', dite_eq_ite, ite_self]
  rfl

/-- The first head's queries of a block, the second head's columns at zero. -/
theorem pay83_apply (w : Vec Ideal S512x128 .bf16) (a : Fin 512) (d : Fin 128) :
    k0_pay83 w (ix3 (0 : Fin 1) a d) = if d.val / 64 = 0 then w (ix2 a d) else 0 := by
  pointwise [k0_pay83, k0_pay81, k0_pay82]
  have e : ∀ x : Fin 128, IntOp.cmpi CmpIPredicate.slt (BitVec.ofNat 32 x.val) 64#32 = if x.val / 64 = 0 then 1#1 else 0#1 := by
    decide
  rw [e]
  split <;> rfl

/-- The second head's queries of a block, the first head's columns at zero. -/
theorem pay84_apply (w : Vec Ideal S512x128 .bf16) (a : Fin 512) (d : Fin 128) :
    k0_pay84 w (ix3 (0 : Fin 1) a d) = if d.val / 64 = 1 then w (ix2 a d) else 0 := by
  pointwise [k0_pay84, k0_pay81, k0_pay82]
  have e : ∀ x : Fin 128, IntOp.cmpi CmpIPredicate.sge (BitVec.ofNat 32 x.val) 64#32 = if x.val / 64 = 1 then 1#1 else 0#1 := by
    decide
  rw [e]
  split <;> rfl

/-- The stacked queries: row `a` of the first half keeps the first head's columns of row `a`. -/
theorem stk_lo (w : Vec Ideal S512x128 .bf16) (a : Fin 512) (d : Fin 128) (h : a.val < 1024) :
    stk w (ix3 (0 : Fin 1) (⟨a.val, h⟩ : Fin 1024) d) = if d.val / 64 = 0 then w (ix2 a d) else 0 :=
  (dif_pos (show a.val < 512 from a.isLt)).trans (pay83_apply w a d)

/-- Row `a` of the second half keeps the second head's. -/
theorem stk_hi (w : Vec Ideal S512x128 .bf16) (a : Fin 512) (d : Fin 128) (h : 512 + a.val < 1024) :
    stk w (ix3 (0 : Fin 1) (⟨512 + a.val, h⟩ : Fin 1024) d) = if d.val / 64 = 1 then w (ix2 a d) else 0 := by
  refine (dif_neg (show ¬ 512 + a.val < 512 by omega)).trans ?_
  rw [← pay84_apply]
  have e : (⟨512 + a.val - 512, by omega⟩ : Fin 512) = a := Fin.ext (by show 512 + a.val - 512 = a.val; omega)
  exact congrArg (fun b : Fin 512 => k0_pay84 w (ix3 (0 : Fin 1) b d)) e

theorem OUT_apply (p q r t : Vec Ideal S512x128 .f32) (lam : EReal) (g : Vec Ideal S1x128 .f32) (i : Fin 512) (d : Fin 128) :
    OUT p q r t lam g (ix2 i d)
      = rnorm (fun e => Ideal.div (p (ix2 i e)) (q (ix2 i e)) - lam * Ideal.div (r (ix2 i e)) (t (ix2 i e))) (g (ix2 (0 : Fin 1) d)) d := by
  pointwise [OUT, k0_pay93, k0_pay92]
  rfl

theorem M0_apply (r : Fin 1024) (l : Fin 128) : (M0 (F := Ideal)) (ix2 r l) = ⊥ := by
  pointwise [M0, k0_pay94]
  exact ofBits_bot

theorem A0_apply (r : Fin 1024) (l : Fin 256) : (A0 (F := Ideal)) (ix2 r l) = 0 := by
  pointwise [A0, k0_pay95]

end Cert.KernelIdeal.Hand

end
-- ==== Proof.Tile.lean ====
module

public import proofs.«01_k».proof.Proof.Pay
public import proofs.«01_k».proof.Proof.Flash

/-!
  A query block of the attention call in closed form: the difference of two weighted averages of the values, normalized.
-/

@[expose] public section

set_option maxRecDepth 16384

noncomputable section

namespace Cert.KernelIdeal.Hand

open Cert.KernelIdeal Cert.KernelIdeal.Gen Cert.Attn
open Idealize.ShloMosaic

/-- Row `k` of key chunk `n`, row `k` of value chunk `n`. -/
theorem kb_apply (x : S8448x128.Idx → EReal) (n : ℕ) (k : Fin 768) (d : Fin 128) :
    (kb (F := Ideal) x n : S768x128.Idx → EReal) (ix2 k d)
      = x (ix2 (⟨768 * (n % 11) + k.val, by have := Nat.mod_lt n (show 0 < 11 by decide); omega⟩ : Fin 8448) d) := by
  pointwise [kb]
theorem vb_apply (x : S8448x256.Idx → EReal) (n : ℕ) (k : Fin 768) (d : Fin 256) :
    (vb (F := Ideal) x n : S768x256.Idx → EReal) (ix2 k d)
      = x (ix2 (⟨768 * (n % 11) + k.val, by have := Nat.mod_lt n (show 0 < 11 by decide); omega⟩ : Fin 8448) d) := by
  pointwise [vb]

/-- Key `i` is row `i % 768` of chunk `i / 768`. -/
theorem chunk_row (i : Fin 8448) (h : 768 * ((i.val / 768) % 11) + i.val % 768 < 8448) :
    (⟨768 * ((i.val / 768) % 11) + i.val % 768, h⟩ : Fin 8448) = i := Fin.ext (by
  show 768 * ((i.val / 768) % 11) + i.val % 768 = i.val
  have := i.isLt; omega)

section
variable (x4 : S8448x128.Idx → EReal) (x5 : S8448x256.Idx → EReal) (qs : Vec Ideal S1x1024x128 .bf16) (R : Fin 1024)
  (qr : Fin 128 → ℝ) (K : Fin 8448 → Fin 128 → ℝ) (W : Fin 8448 → Fin 128 → ℝ)
  (hq : ∀ d, qs (ix3 (0 : Fin 1) R d) = (qr d : EReal)) (h4 : ∀ k d, x4 (ix2 k d) = (K k d : EReal))

/-- The real scores of chunk `n`. -/
def scr (qr : Fin 128 → ℝ) (K : Fin 8448 → Fin 128 → ℝ) (n : ℕ) (k : Fin 768) : ℝ :=
  ∑ d, qr d * K (⟨768 * (n % 11) + k.val, by have := Nat.mod_lt n (show 0 < 11 by decide); omega⟩ : Fin 8448) d

include hq h4 in
/-- The scores a row is handled with are real. -/
theorem sAt_real (n : ℕ) (k : Fin 768) :
    sAt (kb (F := Ideal) x4) qs (SC (kb (F := Ideal) x4 0) qs) n (ix3 (0 : Fin 1) R k) = (scr qr K n k : EReal) := by
  have h : ∀ n, SC (kb (F := Ideal) x4 n) qs (ix3 (0 : Fin 1) R k) = (scr qr K n k : EReal) := by
    intro n
    rw [SC_apply, scr, coe_sum]
    refine Finset.sum_congr rfl fun d _ => ?_
    rw [hq, kb_apply, h4, EReal.coe_mul]
  cases n with
  | zero => exact h 0
  | succ n => exact h (n + 1)

/-- The running maximum before chunk `n`. -/
def mrow (s : ℕ → Fin 768 → ℝ) : ℕ → EReal
  | 0 => ⊥
  | n + 1 => max (mrow s n) (Finset.univ.fold max ⊥ fun k => (s n k : EReal))

include hq h4 in
/-- Every lane of a row of the running maximum holds it. -/
theorem fold_max (n : ℕ) (l : Fin 128) :
    (fold (kb (F := Ideal) x4) (vb (F := Ideal) x5) qs (SC (kb (F := Ideal) x4 0) qs) M0 A0 n).1 (ix2 R l) = mrow (scr qr K) n := by
  induction n generalizing l with
  | zero => exact M0_apply R l
  | succ n ih =>
    refine (MN_apply _ _ R l).trans ?_
    rw [ih]
    show max _ _ = max _ _
    congr 1
    exact congrArg (fun f => Finset.univ.fold max (⊥ : EReal) f) (funext fun k => sAt_real x4 qs R qr K hq h4 n k)

include hq h4 in
/-- The accumulator after a chunk, in a row. -/
theorem fold_acc (n : ℕ) (c : Fin 256) (w : ℕ → Fin 768 → ℝ)
    (hw : ∀ n k, (vb (F := Ideal) x5 n : S768x256.Idx → EReal) (ix2 k c) = (w n k : EReal)) :
    (fold (kb (F := Ideal) x4) (vb (F := Ideal) x5) qs (SC (kb (F := Ideal) x4 0) qs) M0 A0 (n + 1)).2 (ix2 R c)
      = (fold (kb (F := Ideal) x4) (vb (F := Ideal) x5) qs (SC (kb (F := Ideal) x4 0) qs) M0 A0 n).2 (ix2 R c)
          * Ideal.exp2 (mrow (scr qr K) n - mrow (scr qr K) (n + 1))
        + ∑ k, Ideal.exp2 ((scr qr K n k : EReal) - mrow (scr qr K) (n + 1)) * (w n k : EReal) := by
  refine (AN_apply _ _ _ _ R c (mrow (scr qr K) n) (mrow (scr qr K) (n + 1)) (fun l => fold_max x4 x5 qs R qr K hq h4 n l)
    (fun l => fold_max x4 x5 qs R qr K hq h4 (n + 1) l)).trans ?_
  congr 1
  refine Finset.sum_congr rfl fun k _ => ?_
  rw [sAt_real x4 qs R qr K hq h4, hw]

include hq h4 in
/-- The quotient a row ends with is the weighted average of the values by the exponentials of the scores. -/
theorem fold_div (e : Fin 128) (h5 : ∀ k, x5 (ix2 k (⟨e.val, by omega⟩ : Fin 256)) = (W k e : EReal))
    (h5' : ∀ k, x5 (ix2 k (⟨128 + e.val, by omega⟩ : Fin 256)) = 1) :
    Ideal.div
      ((fold (kb (F := Ideal) x4) (vb (F := Ideal) x5) qs (SC (kb (F := Ideal) x4 0) qs) M0 A0 11).2 (ix2 R (⟨e.val, by omega⟩ : Fin 256)))
      ((fold (kb (F := Ideal) x4) (vb (F := Ideal) x5) qs (SC (kb (F := Ideal) x4 0) qs) M0 A0 11).2 (ix2 R (⟨128 + e.val, by omega⟩ : Fin 256)))
      = ((wavg (fun i => Real.log 2 * ∑ d, qr d * K i d) (fun i => W i e) : ℝ) : EReal) := by
  refine (running_div (scr qr K)
    (fun n k => W (⟨768 * (n % 11) + k.val, by have := Nat.mod_lt n (show 0 < 11 by decide); omega⟩ : Fin 8448) e)
    (mrow (scr qr K)) (fun n => (fold (kb (F := Ideal) x4) (vb (F := Ideal) x5) qs (SC (kb (F := Ideal) x4 0) qs) M0 A0 n).2 (ix2 R (⟨e.val, by omega⟩ : Fin 256)))
    (fun n => (fold (kb (F := Ideal) x4) (vb (F := Ideal) x5) qs (SC (kb (F := Ideal) x4 0) qs) M0 A0 n).2 (ix2 R (⟨128 + e.val, by omega⟩ : Fin 256)))
    rfl (A0_apply R (⟨e.val, by omega⟩ : Fin 256)) (A0_apply R (⟨128 + e.val, by omega⟩ : Fin 256)) (fun _ => rfl)
    (fun n => fold_acc x4 x5 qs R qr K hq h4 n _
      (fun n k => W (⟨768 * (n % 11) + k.val, by have := Nat.mod_lt n (show 0 < 11 by decide); omega⟩ : Fin 8448) e) fun n k => ?_)
    (fun n => fold_acc x4 x5 qs R qr K hq h4 n _ (fun _ _ => 1) fun n k => ?_)).trans ?_
  · rw [vb_apply, h5]
  · rw [vb_apply, h5', EReal.coe_one]
  · have e1 : ∀ i : Fin 8448, scr qr K (i.val / 768) ⟨i.val % 768, Nat.mod_lt _ (by norm_num)⟩ = ∑ d, qr d * K i d := fun i => by
      unfold scr; simp only [chunk_row]
    simp only [e1, chunk_row]

end

/-- A query block's output, its rows, the keys and the values real: the difference of the two heads' weighted averages, normalized. -/
theorem block_apply (w : Vec Ideal S512x128 .bf16) (x2 : S1x1.Idx → EReal) (x4 : S8448x128.Idx → EReal) (x5 : S8448x256.Idx → EReal)
    (x6 : S1x128.Idx → EReal) (q : Fin 512 → Fin 128 → ℝ) (K W : Fin 8448 → Fin 128 → ℝ) (lam : ℝ)
    (hw : ∀ a d, w (ix2 a d) = (q a d : EReal)) (h2 : x2 (ix2 (0 : Fin 1) (0 : Fin 1)) = (lam : EReal))
    (h4 : ∀ k d, x4 (ix2 k d) = (K k d : EReal)) (h5 : ∀ k (e : Fin 128), x5 (ix2 k (⟨e.val, by omega⟩ : Fin 256)) = (W k e : EReal))
    (h5' : ∀ k (e : Fin 128), x5 (ix2 k (⟨128 + e.val, by omega⟩ : Fin 256)) = 1) (a : Fin 512) (d : Fin 128) :
    (block (F := Ideal) w x2 x4 x5 x6 : S512x128.Idx → EReal) (ix2 a d)
      = rnorm (fun e => ((wavg (fun i => Real.log 2 * ∑ x : Fin 128, (if x.val / 64 = 0 then q a x else 0) * K i x) (fun i => W i e)
            - lam * wavg (fun i => Real.log 2 * ∑ x : Fin 128, (if x.val / 64 = 1 then q a x else 0) * K i x) (fun i => W i e) : ℝ) : EReal))
          (x6 (ix2 (0 : Fin 1) d)) d := by
  unfold block OUTA
  refine (OUT_apply _ _ _ _ _ _ a d).trans ?_
  congr 1
  funext e
  rw [EReal.coe_sub, EReal.coe_mul]
  have h2' : lamOf (F := Ideal) x2 = (lam : EReal) := h2
  have lo : ∀ x, stk w (ix3 (0 : Fin 1) (⟨a.val, by omega⟩ : Fin 1024) x) = (((if x.val / 64 = 0 then q a x else 0) : ℝ) : EReal) := fun x => by
    rw [stk_lo, hw]; split <;> simp
  have hi : ∀ x, stk w (ix3 (0 : Fin 1) (⟨512 + a.val, by omega⟩ : Fin 1024) x) = (((if x.val / 64 = 1 then q a x else 0) : ℝ) : EReal) := fun x => by
    rw [stk_hi, hw]; split <;> simp
  rw [← fold_div x4 x5 (stk w) _ _ K W lo h4 e (fun k => h5 k e) (fun k => h5' k e),
    ← fold_div x4 x5 (stk w) _ _ K W hi h4 e (fun k => h5 k e) (fun k => h5' k e), ← h2']
  pointwise

end Cert.KernelIdeal.Hand

end
-- ==== Proof.Ref.lean ====
module

public import proofs.«01_k».proof.Proof.Gen.ReferenceIdeal.Run
public import proofs.«01_k».proof.Proof.Flash
public import Idealize.ShloMosaic.Lib.Pointwise

/-!
  The reference's result, element by element.
-/

@[expose] public section

set_option maxRecDepth 16384

noncomputable section

namespace Cert.ReferenceIdeal.Hand

open Cert.ReferenceIdeal Cert.ReferenceIdeal.Gen Cert.Attn
open Idealize.ShloMosaic Idealize.ShloMosaic.TcCoe Idealize.SL.Sem Idealize.ShloMosaic.StableHlo

/-- The scores. -/
def sco (q : FVec Ideal S32768x512 .f32) (k : FVec Ideal S33792x512 .f32) : FVec Ideal S4x4x2x8192x8448 .f32 :=
  mulf (Host.dotGeneral dot_S4x8192x4x2x64_S4x8448x4x2x64_S4x4x2x8192x8448_4_4_1_1_023_023 none
      (shapeCast S4x8192x4x2x64 q shapeCasts_S32768x512_S4x8192x4x2x64) (shapeCast S4x8448x4x2x64 k shapeCasts_S33792x512_S4x8448x4x2x64))
    (broadcastInDim S4x4x2x8192x8448 ![] bcast_S_S4x4x2x8192x8448 (constant S_ .f32 0x3E000000#32))

/-- A row's largest score. -/
def top (s : FVec Ideal S4x4x2x8192x8448 .f32) : FVec Ideal S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8448_S4x4x2x8192_d4 h_S_)

/-- The exponentials of the scores, shifted. -/
def exs (s : FVec Ideal S4x4x2x8192x8448 .f32) : FVec Ideal S4x4x2x8192x8448 .f32 :=
  Host.exp (subf s (broadcastInDim S4x4x2x8192x8448 ![0, 1, 2, 3, 4] bcast_S4x4x2x8192x1_S4x4x2x8192x8448_0_1_2_3_4
    (broadcastInDim S4x4x2x8192x1 ![0, 1, 2, 3] bcast_S4x4x2x8192_S4x4x2x8192x1_0_1_2_3 (top s))))

/-- The softmax over the keys. -/
def smx (e : FVec Ideal S4x4x2x8192x8448 .f32) : FVec Ideal S4x4x2x8192x8448 .f32 :=
  Host.divf e (broadcastInDim S4x4x2x8192x8448 ![0, 1, 2, 3, 4] bcast_S4x4x2x8192x1_S4x4x2x8192x8448_0_1_2_3_4
    (broadcastInDim S4x4x2x8192x1 ![0, 1, 2, 3] bcast_S4x4x2x8192_S4x4x2x8192x1_0_1_2_3
      (Host.reduceAdd e (constant S_ .f32 0x00000000#32) reducesTo_S4x4x2x8192x8448_S4x4x2x8192_d4 h_S_)))

/-- The difference of the two heads' weights. -/
def wts (a : FVec Ideal S4x4x2x8192x8448 .f32) (l : FVec Ideal S1x1 .f32) : FVec Ideal S4x4x8192x8448 .f32 :=
  subf (shapeCast S4x4x8192x8448 (extractStridedSlice S4x4x1x8192x8448 ![0, 0, 0, 0, 0] a slices_S4x4x2x8192x8448_S4x4x1x8192x8448_0_0_0_0_0)
      shapeCasts_S4x4x1x8192x8448_S4x4x8192x8448)
    (mulf (broadcastInDim S4x4x8192x8448 ![0, 1, 2, 3] bcast_S1x1x1x1_S4x4x8192x8448_0_1_2_3
        (broadcastInDim S1x1x1x1 ![2, 3] bcast_S1x1_S1x1x1x1_2_3 l))
      (shapeCast S4x4x8192x8448 (extractStridedSlice S4x4x1x8192x8448 ![0, 0, 1, 0, 0] a slices_S4x4x2x8192x8448_S4x4x1x8192x8448_0_0_1_0_0)
        shapeCasts_S4x4x1x8192x8448_S4x4x8192x8448))

/-- The weighted values. -/
def wvs (w : FVec Ideal S4x4x8192x8448 .f32) (v : FVec Ideal S33792x512 .f32) : FVec Ideal S4x8192x4x128 .f32 :=
  transpose S4x8192x4x128 [0, 3, 1, 2] (Host.dotGeneral dot_S4x8448x4x128_S4x4x8192x8448_S4x4x128x8192_1_3_3_2_02_01 none
    (shapeCast S4x8448x4x128 v shapeCasts_S33792x512_S4x8448x4x128) w) transposes_S4x4x128x8192_S4x8192x4x128_0_3_1_2

/-- The normalization by the root of the mean square, the gain, the constant factor. -/
def nrm (o : FVec Ideal S4x8192x4x128 .f32) (g : FVec Ideal S128 .f32) : FVec Ideal S32768x512 .bf16 :=
  truncf .bf16 (shapeCast S32768x512 (mulf (mulf (mulf o (broadcastInDim S4x8192x4x128 ![0, 1, 2, 3] bcast_S4x8192x4x1_S4x8192x4x128_0_1_2_3
      (Host.rsqrt (addf (Host.divf (broadcastInDim S4x8192x4x1 ![0, 1, 2] bcast_S4x8192x4_S4x8192x4x1_0_1_2
          (Host.reduceAdd (mulf o o) (constant S_ .f32 0x00000000#32) reducesTo_S4x8192x4x128_S4x8192x4_d3 h_S_))
        (broadcastInDim S4x8192x4x1 ![] bcast_S_S4x8192x4x1 (constant S_ .f32 0x43000000#32)))
        (broadcastInDim S4x8192x4x1 ![] bcast_S_S4x8192x4x1 (constant S_ .f32 0x3727C5AC#32))))))
      (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))) shapeCasts_S4x8192x4x128_S32768x512) bitsLt_bf16_f32

/-- The reference's result is these steps, one after another. -/
theorem res_eq (m : (ℓ : Loc nD τ sig) → Buf (Elt Ideal) ℓ) (c : Dev nD) :
    Value.res_main_v43 m c
      = nrm (wvs (wts (smx (exs (sco (m ((c.tc : Thread nD τ).loc main_arg0)) (m ((c.tc : Thread nD τ).loc main_arg1)))))
          (m ((c.tc : Thread nD τ).loc main_arg3))) (m ((c.tc : Thread nD τ).loc main_arg2))) (m ((c.tc : Thread nD τ).loc main_arg4)) := rfl

theorem sco_apply (q : FVec Ideal S32768x512 .f32) (k : FVec Ideal S33792x512 .f32) (b h : Fin 4) (j : Fin 2) (l : Fin 8192) (i : Fin 8448) :
    sco q k (ix5 b h j l i)
      = (∑ x : Fin 64, q (ix2 (⟨b.val * 8192 + l.val, by omega⟩ : Fin 32768) (⟨h.val * 128 + j.val * 64 + x.val, by omega⟩ : Fin 512))
          * k (ix2 (⟨b.val * 8448 + i.val, by omega⟩ : Fin 33792) (⟨h.val * 128 + j.val * 64 + x.val, by omega⟩ : Fin 512)))
        * Ideal.ofBits FTy.f32 0x3E000000#32 := by
  pointwise [sco]

theorem exs_apply (s : FVec Ideal S4x4x2x8192x8448 .f32) (b h : Fin 4) (j : Fin 2) (l : Fin 8192) (i : Fin 8448) :
    exs s (ix5 b h j l i) = Ideal.exp (s (ix5 b h j l i) - top s (ix4 b h j l)) := by
  pointwise [exs]

theorem smx_apply (s : FVec Ideal S4x4x2x8192x8448 .f32) (b h : Fin 4) (j : Fin 2) (l : Fin 8192) (i : Fin 8448) :
    smx s (ix5 b h j l i) = Ideal.div (s (ix5 b h j l i)) (∑ x : Fin 8448, s (ix5 b h j l x)) := by
  pointwise [smx]

theorem wts_apply (s : FVec Ideal S4x4x2x8192x8448 .f32) (lam : FVec Ideal S1x1 .f32) (b h : Fin 4) (l : Fin 8192) (i : Fin 8448) :
    wts s lam (ix4 b h l i)
      = s (ix5 b h (0 : Fin 2) l i) - lam (ix2 (0 : Fin 1) (0 : Fin 1)) * s (ix5 b h (1 : Fin 2) l i) := by
  pointwise [wts]

theorem wvs_apply (w : FVec Ideal S4x4x8192x8448 .f32) (v : FVec Ideal S33792x512 .f32) (b h : Fin 4) (l : Fin 8192) (e : Fin 128) :
    wvs w v (ix4 b l h e)
      = ∑ x : Fin 8448, v (ix2 (⟨b.val * 8448 + x.val, by omega⟩ : Fin 33792) (⟨h.val * 128 + e.val, by omega⟩ : Fin 512)) * w (ix4 b h l x) := by
  pointwise [wvs]

theorem nrm_apply (o : FVec Ideal S4x8192x4x128 .f32) (g : FVec Ideal S128 .f32) (r : Fin 32768) (c : Fin 512) :
    nrm o g (ix2 r c)
      = rnorm (fun e => o (ix4 (⟨r.val / 8192, by omega⟩ : Fin 4) (⟨r.val % 8192, by omega⟩ : Fin 8192) (⟨c.val / 128, by omega⟩ : Fin 4) e))
          (g (ix1 (⟨c.val % 128, by omega⟩ : Fin 128))) ⟨c.val % 128, by omega⟩ := by
  unfold rnorm
  pointwise [nrm]

/-- A maximum over one axis of real elements, from below every real, is real. -/
theorem reduce_real {s t u : Shape} {a : Fin s.rank} (x : s.Idx → EReal) (init : u.Idx → EReal) (h' : s.ReducesTo [a] t) (h : s.Reduces [a] t)
    (hu : 0 < u.numel) (j : t.Idx) [Nonempty (Fin (s.size a))] (hi : init (Shape.Idx.first hu) = ⊥) (hx : ∀ i, ∃ r : ℝ, x i = (r : EReal)) :
    ∃ r : ℝ, Host.reduce max x init h' hu j = (r : EReal) := by
  choose f hf using hx
  obtain ⟨r, hr⟩ := fold_max_real (fun k => f (h.lift j k))
  refine ⟨r, ?_⟩
  rw [Host.reduce_eq_fold_single max x init h' h hu j, hi, ← hr]
  exact congrArg (fun g => Finset.univ.fold max ⊥ g) (funext fun k => hf _)

/-- The maximum's body is the order's. -/
theorem max_body : (FloatOps.maximumf (F := Ideal) (φ := .f32)) = (max : EReal → EReal → EReal) := rfl
theorem max_apply {s : Shape} (a b : FVec Ideal s .f32) (j : s.Idx) : maximumf a b j = (max (a j) (b j) : EReal) := rfl
theorem ofBits_low : Ideal.ofBits FTy.f32 0xFF800000#32 = (⊥ : EReal) := by simp [Ideal.ofBits, Ideal.ieee, -EReal.coe_mul]
theorem low_apply (j : S4x4x2x8192.Idx) :
    broadcastInDim S4x4x2x8192 ![] bcast_S_S4x4x2x8192 (constant (F := Ideal) S_ .f32 0xFF800000#32) j = (⊥ : EReal) := ofBits_low

/-- The largest of real scores is real. -/
theorem top_real (s : FVec Ideal S4x4x2x8192x8448 .f32) (hs : ∀ i, ∃ r : ℝ, s i = (r : EReal)) (j : S4x4x2x8192.Idx) :
    ∃ r : ℝ, top s j = (r : EReal) := by
  have hn : Nonempty (Fin (S4x4x2x8192x8448.size 4)) := ⟨⟨0, by decide⟩⟩
  obtain ⟨r, hr⟩ := reduce_real s (constant (F := Ideal) S_ .f32 0xFF800000#32) reducesTo_S4x4x2x8192x8448_S4x4x2x8192_d4 (by decide) h_S_ j
    ofBits_low hs
  refine ⟨r, ?_⟩
  unfold top
  rw [max_apply, low_apply, max_body, hr]
  exact max_eq_right bot_le

/-- The softmax of real scores: each exponential over the sum of them. -/
theorem smx_real (s : FVec Ideal S4x4x2x8192x8448 .f32) (b h : Fin 4) (j : Fin 2) (l : Fin 8192) (σ : Fin 8448 → ℝ)
    (hs : ∀ i, ∃ r : ℝ, s i = (r : EReal)) (hσ : ∀ i, s (ix5 b h j l i) = (σ i : EReal)) (i : Fin 8448) :
    smx (exs s) (ix5 b h j l i) = ((Real.exp (σ i) / ∑ k, Real.exp (σ k) : ℝ) : EReal) := by
  obtain ⟨μ, hμ⟩ := top_real s hs (ix4 b h j l)
  have he : ∀ i, exs s (ix5 b h j l i) = ((Real.exp (σ i - μ) : ℝ) : EReal) := fun i => by
    rw [exs_apply, hσ, hμ, ← EReal.coe_sub, Ideal.exp_coe]
  have hne : (∑ k, Real.exp (σ k - μ)) ≠ 0 :=
    (Finset.sum_pos (fun k _ => Real.exp_pos _) Finset.univ_nonempty).ne'
  rw [smx_apply, he]
  simp only [he]
  rw [← coe_sum, Ideal.div_coe hne, ← EReal.coe_mul, mul_one_div, shifted_sum]

/-- A score over the reals. -/
def rsc (Q : S32768x512.Idx → ℝ) (K : S33792x512.Idx → ℝ) (b h : Fin 4) (j : Fin 2) (l : Fin 8192) (i : Fin 8448) : ℝ :=
  (∑ x : Fin 64, Q (ix2 (⟨b.val * 8192 + l.val, by omega⟩ : Fin 32768) (⟨h.val * 128 + j.val * 64 + x.val, by omega⟩ : Fin 512))
          * K (ix2 (⟨b.val * 8448 + i.val, by omega⟩ : Fin 33792) (⟨h.val * 128 + j.val * 64 + x.val, by omega⟩ : Fin 512))) * (1 / 8)

theorem sco_real (q : FVec Ideal S32768x512 .f32) (k : FVec Ideal S33792x512 .f32) (Q : S32768x512.Idx → ℝ) (K : S33792x512.Idx → ℝ)
    (hq : ∀ i, q i = (Q i : EReal)) (hk : ∀ i, k i = (K i : EReal)) (b h : Fin 4) (j : Fin 2) (l : Fin 8192) (i : Fin 8448) :
    sco q k (ix5 b h j l i) = (rsc Q K b h j l i : EReal) := by
  have h8 : Ideal.ofBits FTy.f32 0x3E000000#32 = ((1 / 8 : ℝ) : EReal) := by
    simp [Ideal.ofBits, Ideal.ieee, -EReal.coe_mul]; norm_num
  rw [sco_apply, h8, rsc, EReal.coe_mul, coe_sum]
  simp only [hq, hk, EReal.coe_mul]

/-- The reference's result at an index, of real queries, keys, values and `lam`. -/
theorem ref_apply (q : FVec Ideal S32768x512 .f32) (k v : FVec Ideal S33792x512 .f32) (lam : FVec Ideal S1x1 .f32) (g : FVec Ideal S128 .f32)
    (Q : S32768x512.Idx → ℝ) (K V : S33792x512.Idx → ℝ) (L : ℝ) (hq : ∀ i, q i = (Q i : EReal)) (hk : ∀ i, k i = (K i : EReal))
    (hv : ∀ i, v i = (V i : EReal)) (hl : lam (ix2 (0 : Fin 1) (0 : Fin 1)) = (L : EReal)) (r : Fin 32768) (c : Fin 512)
    (b h : Fin 4) (l : Fin 8192) (d : Fin 128) (hb : b.val = r.val / 8192) (hh : h.val = c.val / 128) (hl' : l.val = r.val % 8192)
    (hd : d.val = c.val % 128) :
    nrm (wvs (wts (smx (exs (sco q k))) lam) v) g (ix2 r c)
      = rnorm (fun e => ((wavg (fun i => rsc Q K b h 0 l i) (fun i => V (ix2 (⟨b.val * 8448 + i.val, by omega⟩ : Fin 33792) (⟨h.val * 128 + e.val, by omega⟩ : Fin 512)))
            - L * wavg (fun i => rsc Q K b h 1 l i) (fun i => V (ix2 (⟨b.val * 8448 + i.val, by omega⟩ : Fin 33792) (⟨h.val * 128 + e.val, by omega⟩ : Fin 512))) : ℝ) : EReal))
          (g (ix1 d)) d := by
  have hs : ∀ i, ∃ r : ℝ, sco q k i = (r : EReal) := fun i => by
    idx_vars i
    exact ⟨_, sco_real q k Q K hq hk _ _ _ _ _⟩
  rw [nrm_apply, show (⟨r.val / 8192, by omega⟩ : Fin 4) = b from Fin.ext hb.symm, show (⟨r.val % 8192, by omega⟩ : Fin 8192) = l from Fin.ext hl'.symm,
    show (⟨c.val / 128, by omega⟩ : Fin 4) = h from Fin.ext hh.symm, show (⟨c.val % 128, by omega⟩ : Fin 128) = d from Fin.ext hd.symm]
  congr 1
  funext e
  rw [wvs_apply]
  simp only [wts_apply, hl, hv,
    smx_real (sco q k) b h 0 l _ hs (sco_real q k Q K hq hk b h 0 l), smx_real (sco q k) b h 1 l _ hs (sco_real q k Q K hq hk b h 1 l),
    ← EReal.coe_mul, ← EReal.coe_sub]
  rw [← coe_sum]
  congr 1
  rw [wavg_eq, wavg_eq, Finset.mul_sum, ← Finset.sum_sub_distrib]
  refine Finset.sum_congr rfl fun x _ => ?_
  ring

end Cert.ReferenceIdeal.Hand

end
-- ==== Proof.Value.lean ====
module

public import proofs.«01_k».proof.Proof.Geom
public import proofs.«01_k».proof.Proof.Tile
public import proofs.«01_k».proof.Proof.Ref

/-!
  The kernel's result at an index, of real queries, keys, values and `lam`: the reference's expression there.
-/

@[expose] public section

set_option maxRecDepth 16384

noncomputable section

namespace Cert.KernelIdeal.Hand

open Cert.KernelIdeal Cert.KernelIdeal.Gen Cert.Attn
open Idealize.ShloMosaic Idealize.ShloMosaic.TcCoe Idealize.SL.Sem

/-- A row of a query block. -/
theorem qb_apply (x : S8192x128.Idx → EReal) (b : ℕ) (a : Fin 512) (d : Fin 128) :
    (qb (F := Ideal) x b : S512x128.Idx → EReal) (ix2 a d)
      = x (ix2 (⟨512 * (b % 16) + a.val, by have := Nat.mod_lt b (show 0 < 16 by decide); omega⟩ : Fin 8192) d) := by
  pointwise [qb]

/-- The kernel's score, its base-two scaling undone, is the reference's: half of the 128 columns, an eighth of the product. -/
theorem score_eq (Q : S32768x512.Idx → ℝ) (K : S33792x512.Idx → ℝ) (b h : Fin 4) (j : Fin 2) (l : Fin 8192) (i : Fin 8448)
    (f g : Fin 128 → ℝ)
    (hf : ∀ x : Fin 128, f x = Q (ix2 (⟨b.val * 8192 + l.val, by omega⟩ : Fin 32768) (⟨h.val * 128 + x.val, by omega⟩ : Fin 512)) / 8 / Real.log 2)
    (hg : ∀ x : Fin 128, g x = K (ix2 (⟨b.val * 8448 + i.val, by omega⟩ : Fin 33792) (⟨h.val * 128 + x.val, by omega⟩ : Fin 512))) :
    Real.log 2 * (∑ x : Fin 128, (if x.val / 64 = j.val then f x else 0) * g x) = Cert.ReferenceIdeal.Hand.rsc Q K b h j l i := by
  have hl : Real.log 2 ≠ 0 := (Real.log_pos (by norm_num)).ne'
  rw [half_sum, Cert.ReferenceIdeal.Hand.rsc, Finset.mul_sum, Finset.sum_mul]
  refine Finset.sum_congr rfl fun x _ => ?_
  rw [hf, hg]
  have e : (⟨h.val * 128 + (j.val * 64 + x.val), by omega⟩ : Fin 512) = ⟨h.val * 128 + j.val * 64 + x.val, by omega⟩ := Fin.ext (by
    show h.val * 128 + (j.val * 64 + x.val) = h.val * 128 + j.val * 64 + x.val; omega)
  show Real.log 2 * (Q (ix2 _ (⟨h.val * 128 + (j.val * 64 + x.val), _⟩ : Fin 512)) / 8 / Real.log 2
    * K (ix2 _ (⟨h.val * 128 + (j.val * 64 + x.val), _⟩ : Fin 512))) = _
  rw [e]
  field_simp

variable (m : (ℓ : Loc nD τ sig) → Buf (Elt Ideal) ℓ)

/-- The kernel's result at row `r` and column `j`. -/
theorem res2_apply (c : Dev nD) (Q : S32768x512.Idx → ℝ) (K V' : S33792x512.Idx → ℝ) (L : ℝ)
    (hq : ∀ i, argQ m c i = (Q i : EReal)) (hk : ∀ i, argK m c i = (K i : EReal)) (hv : ∀ i, argV m c i = (V' i : EReal))
    (hl : argL m c (ix2 (0 : Fin 1) (0 : Fin 1)) = (L : EReal)) (r : Fin 32768) (j : Fin 512)
    (b h : Fin 4) (l : Fin 8192) (d : Fin 128) (hb : b.val = r.val / 8192) (hh : h.val = j.val / 128) (hl' : l.val = r.val % 8192)
    (hd : d.val = j.val % 128) :
    res2 m c r j
      = rnorm (fun e => ((wavg (fun i => Cert.ReferenceIdeal.Hand.rsc Q K b h 0 l i) (fun i => V' (ix2 (⟨b.val * 8448 + i.val, by omega⟩ : Fin 33792) (⟨h.val * 128 + e.val, by omega⟩ : Fin 512)))
            - L * wavg (fun i => Cert.ReferenceIdeal.Hand.rsc Q K b h 1 l i) (fun i => V' (ix2 (⟨b.val * 8448 + i.val, by omega⟩ : Fin 33792) (⟨h.val * 128 + e.val, by omega⟩ : Fin 512))) : ℝ) : EReal))
          (argG m c (ix1 d)) d := by
  have ht4 : (pt r j).val / 4 = b.val := by rw [pt_val]; omega
  have htm : (pt r j).val % 4 = h.val := by rw [pt_val]; omega
  have ed : (⟨j.val % 128, Nat.mod_lt _ (by decide)⟩ : Fin 128) = d := Fin.ext hd.symm
  have el : (⟨r.val % 8192, Nat.mod_lt _ (by decide)⟩ : Fin 8192) = l := Fin.ext hl'.symm
  unfold res2
  rw [ed, el]
  generalize ht : pt r j = t at ht4 htm ⊢
  have hL := l.isLt
  have hw : ∀ (a : Fin 512) (x : Fin 128), (qb (F := Ideal) (iblk m c 1 t) (l.val / 512) : S512x128.Idx → EReal) (ix2 a x)
      = ((Q (ix2 (⟨b.val * 8192 + (512 * (l.val / 512) + a.val), by omega⟩ : Fin 32768) (⟨h.val * 128 + x.val, by omega⟩ : Fin 512)) / 8 / Real.log 2 : ℝ) : EReal) := fun a x => by
    rw [qb_apply, iblk1_apply]
    refine (val_v5 m c _ _ _ (hq _)).trans ?_
    refine congrArg (fun z => ((Q z / 8 / Real.log 2 : ℝ) : EReal)) (congrArg₂ (fun a b => ix2 a b) (Fin.ext ?_) (Fin.ext ?_))
    · show 8192 * (t.val / 4) + (512 * (l.val / 512 % 16) + a.val) = b.val * 8192 + (512 * (l.val / 512) + a.val)
      omega
    · show 128 * (t.val % 4) + x.val = h.val * 128 + x.val
      omega
  have h4 : ∀ (k : Fin 8448) (x : Fin 128), (iblk m c 2 t : S8448x128.Idx → EReal) (ix2 k x)
      = (K (ix2 (⟨b.val * 8448 + k.val, by omega⟩ : Fin 33792) (⟨h.val * 128 + x.val, by omega⟩ : Fin 512)) : EReal) := fun k x => by
    refine (iblk2_apply m c t k x).trans ((val_v11 m c _ _).trans ((hk _).trans ?_))
    refine congrArg (fun z => (K z : EReal)) (congrArg₂ (fun a b => ix2 a b) (Fin.ext ?_) (Fin.ext ?_))
    · show 8448 * (t.val / 4) + k.val = b.val * 8448 + k.val
      omega
    · show 128 * (t.val % 4) + x.val = h.val * 128 + x.val
      omega
  have h5 : ∀ (k : Fin 8448) (e : Fin 128), (iblk m c 3 t : S8448x256.Idx → EReal) (ix2 k (⟨e.val, by omega⟩ : Fin 256))
      = (V' (ix2 (⟨b.val * 8448 + k.val, by omega⟩ : Fin 33792) (⟨h.val * 128 + e.val, by omega⟩ : Fin 512)) : EReal) := fun k e => by
    refine (iblk3_apply m c t k _).trans ((val_v10_lo m c _ (⟨t.val % 4, by omega⟩ : Fin 4) e).trans ((hv _).trans ?_))
    refine congrArg (fun z => (V' z : EReal)) (congrArg₂ (fun a b => ix2 a b) (Fin.ext ?_) (Fin.ext ?_))
    · show 8448 * (t.val / 4) + k.val = b.val * 8448 + k.val
      omega
    · show 128 * (t.val % 4) + e.val = h.val * 128 + e.val
      omega
  have h5' : ∀ (k : Fin 8448) (e : Fin 128), (iblk m c 3 t : S8448x256.Idx → EReal) (ix2 k (⟨128 + e.val, by omega⟩ : Fin 256)) = (1 : EReal) :=
    fun k e => (iblk3_apply m c t k _).trans (val_v10_hi m c _ (⟨t.val % 4, by omega⟩ : Fin 4) e)
  have h2 : (iblk m c 0 t : S1x1.Idx → EReal) (ix2 (0 : Fin 1) (0 : Fin 1)) = (L : EReal) :=
    (iblk0_apply m c t).trans ((congrFun (V_main_arg3 m c) _).trans hl)
  have h6 : (iblk m c 4 t : S1x128.Idx → EReal) (ix2 (0 : Fin 1) d) = argG m c (ix1 d) := (iblk4_apply m c t d).trans (val_v12 m c d)
  refine (block_apply (qb (F := Ideal) (iblk m c 1 t) (l.val / 512)) (iblk m c 0 t) (iblk m c 2 t) (iblk m c 3 t) (iblk m c 4 t) _ _ _ L hw h2 h4 h5 h5'
    (⟨l.val % 512, Nat.mod_lt _ (by decide)⟩ : Fin 512) d).trans ?_
  rw [h6]
  congr 1
  funext e
  have er : (⟨b.val * 8192 + (512 * (l.val / 512) + l.val % 512), by omega⟩ : Fin 32768) = ⟨b.val * 8192 + l.val, by omega⟩ := Fin.ext (by
    show b.val * 8192 + (512 * (l.val / 512) + l.val % 512) = b.val * 8192 + l.val; omega)
  congr 4
  · funext i
    exact score_eq Q K b h 0 l i _ _ (fun x => by rw [er]) (fun x => rfl)
  · funext i
    exact score_eq Q K b h 1 l i _ _ (fun x => by rw [er]) (fun x => rfl)

end Cert.KernelIdeal.Hand

end
-- ==== Proof.Algebraic.lean ====
module

public import proofs.«01_k».proof.Defs
public import proofs.«01_k».proof.Proof.Gen.ReferenceIdeal
public import proofs.«01_k».proof.Proof.Gen.Pre_finite_inputs
public import proofs.«01_k».proof.Proof.Finite
public import proofs.«01_k».proof.Proof.Value

/-!
  Over the extended reals the kernel and the reference end with the same array.
-/

@[expose] public section

noncomputable section

namespace Cert.Proof

open Idealize.ShloMosaic Idealize.ShloMosaic.TcCoe Idealize.SL.Sem Cert.Attn

attribute [local instance] Cert.KernelIdeal.Gen.facts Cert.ReferenceIdeal.Gen.facts Cert.Pre_finite_inputs.Gen.facts

/-- The two results, of arrays that are real. -/
theorem result_eq (m : (ℓ : Loc Cert.KernelIdeal.nD Cert.KernelIdeal.τ Cert.KernelIdeal.sig) → Buf (Elt Ideal) ℓ)
    (c : Dev Cert.KernelIdeal.nD) (hpre : Cert.Pre_KernelIdeal_finite_inputs m) :
    Cert.ReferenceIdeal.Hand.nrm (Cert.ReferenceIdeal.Hand.wvs (Cert.ReferenceIdeal.Hand.wts (Cert.ReferenceIdeal.Hand.smx
      (Cert.ReferenceIdeal.Hand.exs (Cert.ReferenceIdeal.Hand.sco (Cert.KernelIdeal.Hand.argQ m c) (Cert.KernelIdeal.Hand.argK m c))))
        (Cert.KernelIdeal.Hand.argL m c)) (Cert.KernelIdeal.Hand.argV m c)) (Cert.KernelIdeal.Hand.argG m c) = Cert.KernelIdeal.Hand.res m c := by
  obtain ⟨Q, hq⟩ := real_of_all (Cert.KernelIdeal.Hand.argQ m c) _ (fun _ => rfl) (hpre c).1
  obtain ⟨K, hk⟩ := real_of_all (Cert.KernelIdeal.Hand.argK m c) _ (fun _ => rfl) (hpre c).2.1
  obtain ⟨V, hv⟩ := real_of_all (Cert.KernelIdeal.Hand.argV m c) _ (fun _ => rfl) (hpre c).2.2.1
  obtain ⟨L, hl⟩ := real_of_all (Cert.KernelIdeal.Hand.argL m c) _ (fun _ => rfl) (hpre c).2.2.2
  funext i
  idx_vars i
  show _ = Cert.KernelIdeal.Hand.res2 m c i0 i1
  have hi0 := i0.isLt
  have hi1 := i1.isLt
  exact (Cert.ReferenceIdeal.Hand.ref_apply _ _ _ _ _ Q K V (L (ix2 0 0)) hq hk hv (hl _) i0 i1 ⟨i0.val / 8192, by omega⟩ ⟨i1.val / 128, by omega⟩
      ⟨i0.val % 8192, by omega⟩ ⟨i1.val % 128, by omega⟩ rfl rfl rfl rfl).trans
    (Cert.KernelIdeal.Hand.res2_apply m c Q K V (L (ix2 0 0)) hq hk hv (hl _) i0 i1 ⟨i0.val / 8192, by omega⟩ ⟨i1.val / 128, by omega⟩
      ⟨i0.val % 8192, by omega⟩ ⟨i1.val % 128, by omega⟩ rfl rfl rfl rfl).symm

/-- Kernel and reference end with the same array, on real queries, keys, values and `lam`. -/
theorem algebraic_attn : Cert.algebraic_KernelIdeal_ReferenceIdeal_pre_finite_inputs := by
  intro m g m' g' hpre hagree
  refine ⟨fun c => Cert.KernelIdeal.Hand.res m c, ?_, ?_⟩
  · exact (θ_run Cert.KernelIdeal.defs _ _).mono
      (fun r h c => ⟨((h.1 c).1).trans (Cert.KernelIdeal.Hand.arr_eq m c), (h.1 c).2⟩) (Cert.KernelIdeal.Hand.run_out m g)
  · refine (θ_run Cert.ReferenceIdeal.defs _ _).mono (fun r h c => ⟨((h c).1).trans ?_, (h c).2⟩) (Cert.ReferenceIdeal.Value.run (F := Ideal) m' g')
    obtain ⟨a0, a1, a2, a3, a4⟩ := hagree c
    refine (Cert.ReferenceIdeal.Hand.res_eq m' c).trans ?_
    rw [a0, a1, a2, a3, a4]
    exact result_eq m c hpre

end Cert.Proof

end
-- ==== Proof.ExpertBody.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.ValueKit
public import Idealize.ShloMosaic.Lib.VecWindow
public import Idealize.ShloMosaic.Lib.Ring
public import Idealize.ShloMosaic.Lib.Tactic

/-!
  The body of the expert call, run once. At a block the tables call new it writes the block's expert's first weights,
  their columns regrouped by the 0/1 matrix, and its second weights into the scratch; at an active block it writes the
  expert's output of the block's rows, at any other zeros.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.Kernel2Ideal.Gen.facts

variable {F : FTy → Type} [FloatOps F]

local notation "𝕄" => MT nD τ sig Unit (Elt F) ℕ (UR sig nD τ) ℕ

/-! ## What the body computes -/

/-- The 32-bit entry of a table at a grid point. -/
def word (x : S296.Idx → Elt F .i32) (i : grid0.Coords) : BitVec 32 := x (ix1 (⟨(i 0).val, (i 0).isLt⟩ : Fin 296))

/-- Columns `256 k … 256 k + 255` of the first weights. -/
def wcol (x : S1x1x1024x2048.Idx → Elt F .f32) (k : Fin 8) : Vec F S1x1x1024x256 .f32 :=
  View.ld x (Rect.unit (s := S1x1x1024x2048) ![0, 0, 0, 256 * k.val] S1x1x1024x256.size (by
    intro a; have := k.isLt; fin_cases a <;> simp [S1x1x1024x2048, S1x1x1024x256] <;> omega))

/-- The first weights with each group of 256 columns multiplied by the 0/1 matrix. -/
def w1p (x5 : S1x1x1024x2048.Idx → Elt F .f32) (x9 : S256x256.Idx → Elt F .bf16) : S1024x2048.Idx → Elt F .bf16 := fun y =>
  k0_pay1 (wcol x5 ⟨(y 1).val / 256, by have : (y 1).val < 2048 := (y 1).isLt; omega⟩) x9
    (ix2 (y 0) (⟨(y 1).val % 256, Nat.mod_lt _ (by decide)⟩ : Fin 256))

/-- An expert's output of a block of rows: the activation of the eight groups of the first product, side by side, times
    the second weights. -/
def yBlk (x4 : Vec F S512x1024 .bf16) (w1 : Vec F S1024x2048 .bf16) (x6 : Vec F S1x1x2048 .f32) (w2 : Vec F S1024x1024 .bf16)
    (x8 : Vec F S1x1x1024 .f32) : S512x1024.Idx → Elt F .bf16 :=
  k0_pay4 (k0_pay13 x4 w1 x6) (k0_pay14 x4 w1 x6) (k0_pay16 (k0_pay12 x4 w1 x6) (k0_pay15 x4 w1 x6) (Scalar.ofBits .f32 0x40E00000#32))
    (k0_pay17 (k0_pay12 x4 w1 x6)) (k0_pay19 (k0_pay18 (k0_pay12 x4 w1 x6))) (k0_pay20 (k0_pay12 x4 w1 x6))
    (k0_pay21 (k0_pay12 x4 w1 x6)) (k0_pay22 (k0_pay12 x4 w1 x6)) (k0_pay23 (k0_pay12 x4 w1 x6)) (Scalar.ofBits .f32 0x3F800000#32) w2 x8

/-- The first scratch after a block: rewritten if the block is new. -/
def up1 (n : BitVec 32) (x5 : S1x1x1024x2048.Idx → Elt F .f32) (x9 : S256x256.Idx → Elt F .bf16) (x11 : S1024x2048.Idx → Elt F .bf16) :
    S1024x2048.Idx → Elt F .bf16 := if n = 1#32 then w1p x5 x9 else x11

/-- The second scratch after a block: rewritten if the block is new. -/
def up2 (n : BitVec 32) (x7 : S1x1x1024x1024.Idx → Elt F .f32) (x12 : S1024x1024.Idx → Elt F .bf16) :
    S1024x1024.Idx → Elt F .bf16 := if n = 1#32 then k0_pay3 x7 else x12

/-- The output block: the expert's output if the block is active, zeros if not. -/
def outBlk (b : BitVec 32) (x4 : Vec F S512x1024 .bf16) (w1 : Vec F S1024x2048 .bf16) (x6 : Vec F S1x1x2048 .f32)
    (w2 : Vec F S1024x1024 .bf16) (x8 : Vec F S1x1x1024 .f32) : S512x1024.Idx → Elt F .bf16 :=
  if b = 1#32 then yBlk x4 w1 x6 w2 x8 else k0_pay5

/-! ## Reading the body's words and boxes -/

/-- The element a table's load at a grid point returns is the table's entry there. -/
theorem word_of (v : View sig .tc .smem S296 .i32) (f : v.ty.Contents (Elt F)) (i : grid0.Coords) (off : Fin 1 → ℕ)
    (hoff : off 0 = (i 0).val) (inb : ∀ a, off a + S1.size a ≤ S296.size a)
    (h : 0 < (Rect.unit (s := S296) off S1.size inb).shape.numel) :
    v.readAt (Elt F) (Rect.unit (s := S296) off S1.size inb).toLoadRect f (Shape.Idx.first h) = word (v.read (Elt F) f) i := by
  refine congrArg (v.read (Elt F) f) ?_
  funext a
  refine Fin.ext ?_
  fin_cases a
  have h0 : ((Shape.Idx.first h) 0).val = 0 := by
    have : ((Shape.Idx.first h) 0).val < 1 := ((Shape.Idx.first h) 0).isLt
    omega
  show off 0 + 1 * ((Shape.Idx.first h) 0).val = (i 0).val
  rw [h0, hoff]; simp

theorem off_val (i : grid0.Coords) : (BitVec.ofNat 32 (i 0).val).toNat = (i 0).val := by
  have : (i 0).val < 296 := (i 0).isLt
  rw [BitVec.toNat_ofNat]; exact Nat.mod_eq_of_lt (by omega)

/-- A group of columns as the body stores it agrees with the regrouped weights. -/
theorem group_eq (x5 : S1x1x1024x2048.Idx → Elt F .f32) (x9 : S256x256.Idx → Elt F .bf16) (o : ℕ) (k : Fin 8) (ho : o = 256 * k.val)
    (inb5 : ∀ a, (![0, 0, 0, o] : Fin 4 → ℕ) a + S1x1x1024x256.size a ≤ S1x1x1024x2048.size a)
    (inb : ∀ a, (![0, o] : Fin 2 → ℕ) a + S1024x256.size a ≤ S1024x2048.size a)
    (x : (Rect.unit (s := S1024x2048) ![0, o] S1024x256.size inb).shape.Idx) :
    k0_pay1 (View.ld x5 (Rect.unit (s := S1x1x1024x2048) ![0, 0, 0, o] S1x1x1024x256.size inb5)) x9 x
      = w1p x5 x9 ((Rect.unit (s := S1024x2048) ![0, o] S1024x256.size inb).emb x) := by
  subst ho
  have h1 : (x 1).val < 256 := (x 1).isLt
  have e0 : ((Rect.unit (s := S1024x2048) ![0, 256 * k.val] S1024x256.size inb).emb x 0).val = (x 0).val := by
    show 0 + 1 * (x 0).val = _; omega
  have e1 : ((Rect.unit (s := S1024x2048) ![0, 256 * k.val] S1024x256.size inb).emb x 1).val = 256 * k.val + (x 1).val := by
    show 256 * k.val + 1 * (x 1).val = _; omega
  have ek : (⟨((Rect.unit (s := S1024x2048) ![0, 256 * k.val] S1024x256.size inb).emb x 1).val / 256, by
      rw [e1]; have := k.isLt; omega⟩ : Fin 8) = k := Fin.ext (by show _ / 256 = _; rw [e1]; omega)
  unfold w1p
  rw [ek]
  refine congrArg (k0_pay1 (wcol x5 k) x9) ?_
  funext a
  refine Fin.ext ?_
  fin_cases a
  · exact e0.symm
  · show (x 1).val = _ % 256; rw [e1]; omega

/-- The eight stores of a new block leave the regrouped weights. -/
theorem read_groups (v : View sig .tc .vmem S1024x2048 .bf16) (f : v.ty.Contents (Elt F)) (v5 : View sig .tc .vmem S1x1x1024x2048 .f32)
    (f5 : v5.ty.Contents (Elt F)) (x9 : S256x256.Idx → Elt F .bf16) :
    v.read (Elt F) (v.writes (Elt F) f [⟨Rect.unit (s := S1024x2048) ![0, 1792] S1024x256.size inb_S1024x2048_S1024x256_0_1792, k0_pay2 (v5.readAt (Elt F) (Rect.unit (s := S1x1x1024x2048) ![0, 0, 0, 1792] S1x1x1024x256.size inb_S1x1x1024x2048_S1x1x1024x256_0_0_0_1792).toLoadRect f5) x9⟩,
        ⟨Rect.unit (s := S1024x2048) ![0, 1536] S1024x256.size inb_S1024x2048_S1024x256_0_1536, k0_pay1 (v5.readAt (Elt F) (Rect.unit (s := S1x1x1024x2048) ![0, 0, 0, 1536] S1x1x1024x256.size inb_S1x1x1024x2048_S1x1x1024x256_0_0_0_1536).toLoadRect f5) x9⟩,
        ⟨Rect.unit (s := S1024x2048) ![0, 1280] S1024x256.size inb_S1024x2048_S1024x256_0_1280, k0_pay11 (v5.readAt (Elt F) (Rect.unit (s := S1x1x1024x2048) ![0, 0, 0, 1280] S1x1x1024x256.size inb_S1x1x1024x2048_S1x1x1024x256_0_0_0_1280).toLoadRect f5) x9⟩,
        ⟨Rect.unit (s := S1024x2048) ![0, 1024] S1024x256.size inb_S1024x2048_S1024x256_0_1024, k0_pay10 (v5.readAt (Elt F) (Rect.unit (s := S1x1x1024x2048) ![0, 0, 0, 1024] S1x1x1024x256.size inb_S1x1x1024x2048_S1x1x1024x256_0_0_0_1024).toLoadRect f5) x9⟩,
        ⟨Rect.unit (s := S1024x2048) ![0, 768] S1024x256.size inb_S1024x2048_S1024x256_0_768, k0_pay9 (v5.readAt (Elt F) (Rect.unit (s := S1x1x1024x2048) ![0, 0, 0, 768] S1x1x1024x256.size inb_S1x1x1024x2048_S1x1x1024x256_0_0_0_768).toLoadRect f5) x9⟩,
        ⟨Rect.unit (s := S1024x2048) ![0, 512] S1024x256.size inb_S1024x2048_S1024x256_0_512, k0_pay8 (v5.readAt (Elt F) (Rect.unit (s := S1x1x1024x2048) ![0, 0, 0, 512] S1x1x1024x256.size inb_S1x1x1024x2048_S1x1x1024x256_0_0_0_512).toLoadRect f5) x9⟩,
        ⟨Rect.unit (s := S1024x2048) ![0, 256] S1024x256.size inb_S1024x2048_S1024x256_0_256, k0_pay7 (v5.readAt (Elt F) (Rect.unit (s := S1x1x1024x2048) ![0, 0, 0, 256] S1x1x1024x256.size inb_S1x1x1024x2048_S1x1x1024x256_0_0_0_256).toLoadRect f5) x9⟩,
        ⟨Rect.unit (s := S1024x2048) ![0, 0] S1024x256.size inb_S1024x2048_S1024x256_0_0, k0_pay6 (v5.readAt (Elt F) (Rect.unit (s := S1x1x1024x2048) ![0, 0, 0, 0] S1x1x1024x256.size inb_S1x1x1024x2048_S1x1x1024x256_0_0_0_0).toLoadRect f5) x9⟩]) = w1p (v5.read (Elt F) f5) x9 := by
  funext y
  refine View.read_writes_apply_of_pieces v f _ _ ?_ y ?_
  swap; · exact View.cover_of_tiledL _ ![1024, 256] rfl y
  simp only [List.forall_mem_cons, List.not_mem_nil, false_imp_iff, implies_true, _root_.and_true]
  refine ⟨?_, ?_, ?_, ?_, ?_, ?_, ?_, ?_⟩
  · exact group_eq _ _ 1792 7 rfl _ _
  · exact group_eq _ _ 1536 6 rfl _ _
  · exact group_eq _ _ 1280 5 rfl _ _
  · exact group_eq _ _ 1024 4 rfl _ _
  · exact group_eq _ _ 768 3 rfl _ _
  · exact group_eq _ _ 512 2 rfl _ _
  · exact group_eq _ _ 256 1 rfl _ _
  · exact group_eq _ _ 0 0 rfl _ _

/-- The test of the third table's entry. -/
theorem new_test : (Scalar.cmpi .ne (Scalar.extui (Scalar.cmpi .sgt (0#32) 0#32) : BitVec 32) 0#32 = 1#1) = False
    ∧ (Scalar.cmpi .ne (Scalar.extui (Scalar.cmpi .sgt (1#32) 0#32) : BitVec 32) 0#32 = 1#1) = True := by decide +kernel

/-- The tests of the second table's entry. -/
theorem act_test : (k0_cond2 0#32 = 1#1) = False ∧ (k0_cond2 1#32 = 1#1) = True ∧ (k0_cond3 0#32 = 1#1) = True ∧ (k0_cond3 1#32 = 1#1) = False := by
  decide +kernel

/-! ## The body -/

/-- Both tables' entries being 0 or 1, the kernel runs to its return from its inputs and the scratch at given contents,
    and hands everything back, the output and the scratch as stated above. -/
theorem kernelRun (c : Dev nD) (q : PosShare TreeShare) (i : grid0.Coords)
    (arg1 : Memref sig .tc .smem S296 .i32) (harg1 : arg1.IsWhole)
    (arg2 : Memref sig .tc .smem S296 .i32) (harg2 : arg2.IsWhole)
    (arg3 : Memref sig .tc .smem S296 .i32) (harg3 : arg3.IsWhole)
    (arg4 : Memref sig .tc .vmem S512x1024 .bf16) (harg4 : arg4.IsWhole)
    (arg5 : Memref sig .tc .vmem S1x1x1024x2048 .f32) (harg5 : arg5.IsWhole)
    (arg6 : Memref sig .tc .vmem S1x1x2048 .f32) (harg6 : arg6.IsWhole)
    (arg7 : Memref sig .tc .vmem S1x1x1024x1024 .f32) (harg7 : arg7.IsWhole)
    (arg8 : Memref sig .tc .vmem S1x1x1024 .f32) (harg8 : arg8.IsWhole)
    (arg9 : Memref sig .tc .vmem S256x256 .bf16) (harg9 : arg9.IsWhole)
    (arg10 : Memref sig .tc .vmem S512x1024 .bf16) (harg10 : arg10.IsWhole)
    (arg11 : Memref sig .tc .vmem S1024x2048 .bf16) (harg11 : arg11.IsWhole)
    (arg12 : Memref sig .tc .vmem S1024x1024 .bf16) (harg12 : arg12.IsWhole)
    (x1 : S296.Idx → Elt F .i32) (x2 : S296.Idx → Elt F .i32) (x3 : S296.Idx → Elt F .i32) (x4 : S512x1024.Idx → Elt F .bf16) (x5 : S1x1x1024x2048.Idx → Elt F .f32) (x6 : S1x1x2048.Idx → Elt F .f32) (x7 : S1x1x1024x1024.Idx → Elt F .f32) (x8 : S1x1x1024.Idx → Elt F .f32) (x9 : S256x256.Idx → Elt F .bf16) (x10 : S512x1024.Idx → Elt F .bf16) (x11 : S1024x2048.Idx → Elt F .bf16) (x12 : S1024x1024.Idx → Elt F .bf16)
    (hb : word x2 i = 0#32 ∨ word x2 i = 1#32) (hn : word x3 i = 0#32 ∨ word x3 i = 1#32) (K : PUnit → sProp 𝕄) :
    iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (iprop(owns (c : Thread nD τ) arg1 q x1
        ∗ owns (c : Thread nD τ) arg2 q x2
        ∗ owns (c : Thread nD τ) arg3 q x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (outBlk (word x2 i) x4 (up1 (word x3 i) x5 x9 x11) x6 (up2 (word x3 i) x7 x12) x8)
        ∗ owns (c : Thread nD τ) arg11 fullShare (up1 (word x3 i) x5 x9 x11)
        ∗ owns (c : Thread nD τ) arg12 fullShare (up2 (word x3 i) x7 x12)) -∗ K ⟨⟩))
      ⊢ wp frame (wpE (defs₀ (F := F)) Variants.none (c : Thread nD τ) none) Set.univ
          (cc0_moe_experts i arg1 harg1 arg2 harg2 arg3 harg3 arg4 harg4 arg5 harg5 arg6 harg6 arg7 harg7 arg8 harg8 arg9 harg9 arg10 harg10 arg11 harg11 arg12 harg12) K := by
  simp only [cc0_moe_experts_eq_skeleton]; unfold cc0_moe_experts_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, Hk⟩
  sl_exec
  sl_step
  iapply Hk
  have w3 := word_of arg3.view f3 i (k0_off1 i) (off_val i) (k0_off1_inb i) (Nat.one_pos.trans_eq numel1_S1.symm)
  have w2 := word_of arg2.view f2 i (k0_off2 i) (off_val i) (k0_off2_inb i) (Nat.one_pos.trans_eq numel1_S1.symm)
  have w2' := word_of arg2.view f2 i (k0_off3 i) (off_val i) (k0_off3_inb i) (Nat.one_pos.trans_eq numel1_S1.symm)
  sl_unfold_run_names
  subst h1 h2 h3 h4 h5 h6 h7 h8 h9 h10 h11 h12
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    rw [w3, w2, w2']
    rcases hb with hb | hb <;> rcases hn with hn | hn <;>
      simp (config := {proj := false}) only [hb, hn, new_test, act_test, up1, up2, outBlk, ↓reduceDIte, ↓reduceIte, View.read_writes_full, View.readAt_full, read_groups]
    all_goals rfl
  isplitl [H11]
  · iexists _; isplitr; swap; · iexact H11
    ipureintro
    rw [w3]
    rcases hn with hn | hn
    · simp (config := {proj := false}) only [hn, new_test, up1, ↓reduceDIte]; rfl
    · simp (config := {proj := false}) only [hn, new_test, up1, ↓reduceDIte, ↓reduceIte, View.readAt_full, read_groups]
  iexists _; isplitr; swap; · iexact H12
  ipureintro
  rw [w3]
  rcases hn with hn | hn
  · simp (config := {proj := false}) only [hn, new_test, up2, ↓reduceDIte]; rfl
  · simp (config := {proj := false}) only [hn, new_test, up2, ↓reduceDIte, ↓reduceIte, View.read_writes_full, View.readAt_full]

end Cert.Kernel2Ideal.Hand

end
-- ==== Proof.ExpertTables.lean ====
module

public import proofs.«01_k».proof.Proof.ExpertBody
public import Idealize.ShloMosaic.Lib.StableHlo.RunRead
public import Idealize.ShloMosaic.Lib.StableHlo.ReadAt
public import Idealize.ShloMosaic.Lib.Pointwise

/-!
  The three tables of the expert call, as the host makes them of the experts' padded ends: each block's expert, whether
  the block holds rows, and whether its expert is another than the block before's.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.Sem
open Idealize.ShloMosaic.Rounds

attribute [local instance] Cert.Kernel2Ideal.Gen.facts

variable {F : FTy → Type} [FloatOps F]

variable (m : (ℓ : Loc nD τ sig) → Buf (Elt F) ℓ)

/-! ## The buffers when the call is made -/

/-- The host's operations before the call, stretch by stretch. -/
abbrev opss : List (List (HloOp τ sig (Elt F))) :=
  [hostOps0, hostOps0_1, hostOps0_2, hostOps0_3, hostOps0_4, hostOps0_5, hostOps0_6, hostOps0_7, hostOps0_8]

/-- A buffer's contents when the call is made. -/
abbrev V (c : Dev nD) (b : Ref sig .tc) : Buf (Elt F) ((c : Thread nD τ).loc b) :=
  StableHlo.after opss.flatten (fun b => m (c, b)) b

/-! ## The tables as functions of the experts' padded ends -/

/-- The first row of each block. -/
def startT : IVec S296 32 := muli (iotaInDim S296 32 0) (broadcastInDim S296 ![] bcast_S_S296 (constantI S_ 32 512#32))

/-- Each block's expert: how many experts end at or before the block's first row, at most 31. -/
def beT (pe : IVec S32 32) : IVec S296 32 :=
  minsi (Host.reduce IntOp.addi
      (extui 32 (cmpi .sge (broadcastInDim S296x32 ![0, 1] bcast_S296x1_S296x32_0_1 (broadcastInDim S296x1 ![0] bcast_S296_S296x1_0 startT))
        (broadcastInDim S296x32 ![0, 1] bcast_S1x32_S296x32_0_1 (broadcastInDim S1x32 ![1] bcast_S32_S1x32_1 pe))) natLt_1_32)
      (constantI S_ 32 0#32) reducesTo_S296x32_S296_d1 h_S_)
    (broadcastInDim S296 ![] bcast_S_S296 (constantI S_ 32 31#32))

/-- Whether each block begins before the last expert's end. -/
def actT (pe : IVec S32 32) : IVec S296 32 :=
  extui 32 (cmpi .slt startT (broadcastInDim S296 ![] bcast_S_S296
    (shapeCast S_ (extractStridedSlice S1 ![31] pe slices_S32_S1_31) shapeCasts_S1_S_))) natLt_1_32

/-- Whether each block's expert differs from the block before's; the first block's does. -/
def newT (be : IVec S296 32) : IVec S296 32 :=
  concatenate S296 0 [⟨S1, broadcastInDim S1 ![] bcast_S_S1 (constantI S_ 32 1#32)⟩,
    ⟨S295, extui 32 (cmpi .ne (extractStridedSlice S295 ![1] be slices_S296_S295_1) (extractStridedSlice S295 ![0] be slices_S296_S295_0)) natLt_1_32⟩]
    concatenates_S1_S295_S296_d0

/-- The experts' padded ends when the call is made. -/
abbrev peV (c : Dev nD) : IVec S32 32 := V m c main_v7

/-- The operations after the padded ends are known. -/
abbrev tailOps : List (HloOp τ sig (Elt F)) :=
  ([hostOps0_4, hostOps0_5, hostOps0_6, hostOps0_7, hostOps0_8] : List (List (HloOp τ sig (Elt F)))).flatten

/-- The operations up to the padded ends, then the rest. -/
theorem V_split (c : Dev nD) (b : Ref sig .tc) :
    V m c b = StableHlo.after tailOps
      (StableHlo.after ([hostOps0, hostOps0_1, hostOps0_2, hostOps0_3] : List (List (HloOp τ sig (Elt F)))).flatten (fun b => m (c, b))) b := by
  rw [← StableHlo.after_append]
  rfl

theorem tail_be (W : Valuation τ sig (Elt F)) :
    (StableHlo.after tailOps W (main_v19 : Ref sig .tc) : S296.Idx → BitVec 32) = beT (StableHlo.after tailOps W (main_v7 : Ref sig .tc)) := by
  unfold beT startT
  after_reads_simp

theorem tail_act (W : Valuation τ sig (Elt F)) :
    (StableHlo.after tailOps W (main_v24 : Ref sig .tc) : S296.Idx → BitVec 32) = actT (StableHlo.after tailOps W (main_v7 : Ref sig .tc)) := by
  unfold actT startT
  after_reads_simp
  rfl

theorem tail_new (W : Valuation τ sig (Elt F)) :
    (StableHlo.after tailOps W (main_v30 : Ref sig .tc) : S296.Idx → BitVec 32) = newT (beT (StableHlo.after tailOps W (main_v7 : Ref sig .tc))) := by
  rw [← tail_be]
  have hcat : ∀ (a a' : IVec S1 32) (b b' : IVec S295 32), a = a' → b = b' →
      concatenate S296 0 [⟨S1, a⟩, ⟨S295, b⟩] concatenates_S1_S295_S296_d0 = concatenate S296 0 [⟨S1, a'⟩, ⟨S295, b'⟩] concatenates_S1_S295_S296_d0 := by
    rintro _ _ _ _ rfl rfl; rfl
  after_reads_simp
  refine hcat _ _ _ _ ?_ ?_
  · after_reads_simp
  · after_reads_simp

/-- The table of experts. -/
theorem V_be (c : Dev nD) : (V m c main_v19 : S296.Idx → BitVec 32) = beT (peV m c) := by
  unfold peV
  rw [V_split, V_split]
  exact tail_be _

/-- The table of active blocks. -/
theorem V_act (c : Dev nD) : (V m c main_v24 : S296.Idx → BitVec 32) = actT (peV m c) := by
  unfold peV
  rw [V_split, V_split]
  exact tail_act _

/-- The table of new blocks. -/
theorem V_new (c : Dev nD) : (V m c main_v30 : S296.Idx → BitVec 32) = newT (beT (peV m c)) := by
  unfold peV
  rw [V_split, V_split]
  exact tail_new _

/-! ## What the tables hold -/

/-- A one-bit word, widened, is zero or one. -/
theorem ext_01 (b : BitVec 1) : b.zeroExtend 32 = 0#32 ∨ b.zeroExtend 32 = 1#32 := by
  revert b; decide

theorem act_01 (pe : IVec S32 32) (i : Fin 296) : actT pe (ix1 i) = 0#32 ∨ actT pe (ix1 i) = 1#32 := ext_01 _

/-- A fold of zeros and ones from zero is at most their number. -/
theorem fold_le {ι : Type*} [DecidableEq ι] (s : Finset ι) (f : ι → BitVec 32) (hf : ∀ k, f k = 0#32 ∨ f k = 1#32) (hs : s.card < 2 ^ 31) :
    (s.fold IntOp.addi 0#32 f).toNat ≤ s.card := by
  induction s using Finset.induction_on with
  | empty => simp
  | insert a s ha ih =>
    rw [Finset.card_insert_of_notMem ha] at hs ⊢
    rw [Finset.fold_insert ha]
    have h := ih (by omega)
    show (f a + s.fold IntOp.addi 0#32 f).toNat ≤ _
    have hk := hf a
    generalize s.fold IntOp.addi 0#32 f = w at h
    rcases hk with e | e <;> rw [e, BitVec.toNat_add] <;> simp <;> omega

/-- A word between zero and 32, capped at 31, is below 32. -/
theorem min_lt (w : BitVec 32) (h : w.toNat ≤ 32) : (IntOp.minsi w 31#32).toNat < 32 := by
  have h31 : (31#32 : BitVec 32).toNat = 31 := rfl
  unfold IntOp.minsi
  have hw : w.toInt = (w.toNat : Int) := BitVec.toInt_eq_toNat_of_lt (by omega)
  have e : w.slt 31#32 = decide (w.toInt < 31) := rfl
  rw [e]
  by_cases hlt : w.toInt < 31
  · simp only [hlt, decide_true, if_true]; omega
  · simp only [hlt, decide_false, Bool.false_eq_true, if_false]; omega

/-- Over any shapes: a sum over one axis of zeros and ones is at most the axis's extent. -/
theorem reduce_le {s t u : Shape} {a : Fin s.rank} (x : s.Idx → BitVec 32) (init : u.Idx → BitVec 32) (h' : s.ReducesTo [a] t) (h : s.Reduces [a] t)
    (hu : 0 < u.numel) (j : t.Idx) (hi : init (Shape.Idx.first hu) = 0#32) (hx : ∀ i, x i = 0#32 ∨ x i = 1#32) (hs : s.size a < 2 ^ 31) :
    (Host.reduce IntOp.addi x init h' hu j).toNat ≤ s.size a := by
  rw [Host.reduce_eq_fold_single IntOp.addi x init h' h hu j, hi]
  refine (fold_le _ _ (fun k => hx _) ?_).trans ?_ <;> rw [Finset.card_univ, Fintype.card_fin] <;> omega

/-- A block's expert is one of the 32. -/
theorem be_lt (pe : IVec S32 32) (i : Fin 296) : (beT pe (ix1 i)).toNat < 32 :=
  min_lt _ (reduce_le (s := S296x32) (a := 1) _ _ _ (by decide) _ _ rfl (fun _ => ext_01 _) (by decide))

/-- A later block's mark says whether its expert differs from the one before's. -/
theorem new_succ (be : IVec S296 32) (i : Fin 296) (h : 1 ≤ i.val) :
    newT be (ix1 i) = (IntOp.cmpi .ne (be (ix1 i)) (be (ix1 (⟨i.val - 1, by omega⟩ : Fin 296)))).zeroExtend 32 := by
  have hi := i.isLt
  pointwise [newT]
  rw [dif_neg (by omega)]
  have e1 : (ix1 (⟨1 + (i.val - 1), by omega⟩ : Fin 296) : S296.Idx) = ix1 i := congrArg ix1 (Fin.ext (by show 1 + (i.val - 1) = i.val; omega))
  rw [e1]

/-- The first block is marked new. -/
theorem new_zero (be : IVec S296 32) (i : Fin 296) (h : i.val = 0) : newT be (ix1 i) = 1#32 := by
  pointwise [newT]
  rw [dif_pos (by omega)]

/-- A mark is zero or one. -/
theorem new_01 (be : IVec S296 32) (i : Fin 296) : newT be (ix1 i) = 0#32 ∨ newT be (ix1 i) = 1#32 := by
  rcases Nat.eq_zero_or_pos i.val with h | h
  · exact .inr (new_zero be i h)
  · rw [new_succ be i h]; exact ext_01 _

/-- Where the mark is zero the expert is the one before's. -/
theorem be_eq (be : IVec S296 32) (i : Fin 296) (h : 1 ≤ i.val) (h0 : newT be (ix1 i) = 0#32) :
    be (ix1 i) = be (ix1 (⟨i.val - 1, by omega⟩ : Fin 296)) := by
  rw [new_succ be i h] at h0
  by_contra hne
  have : IntOp.cmpi .ne (be (ix1 i)) (be (ix1 (⟨i.val - 1, by omega⟩ : Fin 296))) = 1#1 := by
    show BitVec.ofBool (be (ix1 i) != be (ix1 (⟨i.val - 1, by omega⟩ : Fin 296))) = 1#1
    rw [bne_iff_ne.mpr hne]; rfl
  rw [this] at h0
  exact absurd h0 (by decide)

/-! ## The tables admit the call -/

/-- The one device. -/
abbrev dev0 : Dev nD := ⟨0, by decide⟩

/-- The tables' contents when the call is made. -/
abbrev tables : pre0.Contents (Elt F) := fun k => V m dev0 (pre0.ref k)

/-- A table's entry under a one-element rectangle at a grid point's coordinate. -/
theorem at_word (x : S296.Idx → Elt F .i32) (i : grid0.Coords) (off : Fin 1 → ℕ)
    (hoff : off 0 = (i 0).val) (inb : ∀ a, off a + S1.size a ≤ S296.size a) (h : 0 < (Rect.unit (s := S296) off S1.size inb).shape.numel) :
    x ((Rect.unit (s := S296) off S1.size inb).emb (Shape.Idx.first h)) = word x i := by
  refine congrArg x ?_
  funext a
  refine Fin.ext ?_
  fin_cases a
  have h0 : ((Shape.Idx.first h) 0).val = 0 := by
    have : ((Shape.Idx.first h) 0).val < 1 := ((Shape.Idx.first h) 0).isLt
    omega
  show off 0 + 1 * ((Shape.Idx.first h) 0).val = (i 0).val
  rw [h0, hoff]; simp

theorem word_be (i : grid0.Coords) : word (F := F) (tables m 0) i = beT (peV m dev0) (ix1 (⟨(i 0).val, (i 0).isLt⟩ : Fin 296)) :=
  congrFun (V_be m dev0) _
theorem word_act (i : grid0.Coords) : word (F := F) (tables m 1) i = actT (peV m dev0) (ix1 (⟨(i 0).val, (i 0).isLt⟩ : Fin 296)) :=
  congrFun (V_act m dev0) _
theorem word_new (i : grid0.Coords) : word (F := F) (tables m 2) i = newT (beT (peV m dev0)) (ix1 (⟨(i 0).val, (i 0).isLt⟩ : Fin 296)) :=
  congrFun (V_new m dev0) _

/-- The index maps' expert at a grid point. -/
abbrev ex (pf : pre0.Contents (Elt F)) (i : grid0.Coords) : ℕ := (word (F := F) (pf 0) i).toNat

theorem ex_lt (i : grid0.Coords) : ex (tables m) i < 32 := by
  show (word (F := F) (tables m 0) i).toNat < 32
  rw [word_be]; exact be_lt _ _

/-- The index maps that read the table: the expert's block of each weight and bias array. -/
theorem tr1 (pf : pre0.Contents (Elt F)) (i : grid0.Coords) : cc0_transform_1 k0_off1_inb numel1_S1 pf i = ![0, ex pf i, 0, 0] :=
  congrArg (fun w : BitVec 32 => (![0, w.toNat, 0, 0] : Fin _ → ℕ))
    (at_word (pf 0) i (k0_off1 i) (off_val i) (k0_off1_inb i) (Nat.one_pos.trans_eq numel1_S1.symm))
theorem tr2 (pf : pre0.Contents (Elt F)) (i : grid0.Coords) : cc0_transform_2 k0_off1_inb numel1_S1 pf i = ![ex pf i, 0, 0] :=
  congrArg (fun w : BitVec 32 => (![w.toNat, 0, 0] : Fin _ → ℕ))
    (at_word (pf 0) i (k0_off1 i) (off_val i) (k0_off1_inb i) (Nat.one_pos.trans_eq numel1_S1.symm))
theorem tr3 (pf : pre0.Contents (Elt F)) (i : grid0.Coords) : cc0_transform_3 k0_off1_inb numel1_S1 pf i = ![0, ex pf i, 0, 0] :=
  congrArg (fun w : BitVec 32 => (![0, w.toNat, 0, 0] : Fin _ → ℕ))
    (at_word (pf 0) i (k0_off1 i) (off_val i) (k0_off1_inb i) (Nat.one_pos.trans_eq numel1_S1.symm))
theorem tr4 (pf : pre0.Contents (Elt F)) (i : grid0.Coords) : cc0_transform_4 k0_off1_inb numel1_S1 pf i = ![ex pf i, 0, 0] :=
  congrArg (fun w : BitVec 32 => (![w.toNat, 0, 0] : Fin _ → ℕ))
    (at_word (pf 0) i (k0_off1 i) (off_val i) (k0_off1_inb i) (Nat.one_pos.trans_eq numel1_S1.symm))

/-- Every block the tables name lies inside its array. -/
theorem ok_tables : ok0 (tables m) := by
  refine ⟨fun i => ⟨fun a => ?_, .inl rfl⟩, fun i => ⟨fun a => ?_, .inl rfl⟩, fun i => ⟨fun a => ?_, .inl rfl⟩, fun i => ⟨fun a => ?_, .inl rfl⟩⟩
  · rw [tr1]; have := ex_lt m i; fin_cases a <;> simp [S1x1x1024x2048, S2x32x1024x2048] <;> omega
  · rw [tr2]; have := ex_lt m i; fin_cases a <;> simp [S1x1x2048, S32x1x2048] <;> omega
  · rw [tr3]; have := ex_lt m i; fin_cases a <;> simp [S1x1x1024x1024, S2x32x1024x1024] <;> omega
  · rw [tr4]; have := ex_lt m i; fin_cases a <;> simp [S1x1x1024, S32x1x1024] <;> omega

/-- What the run needs of the tables: experts among the 32, marks zero or one, the first block new, an unmarked block's
    expert the one before's. -/
structure Good (pf : pre0.Contents (Elt F)) : Prop where
  lt : ∀ i, ex pf i < 32
  act : ∀ i, word (F := F) (pf 1) i = 0#32 ∨ word (F := F) (pf 1) i = 1#32
  new : ∀ i, word (F := F) (pf 2) i = 0#32 ∨ word (F := F) (pf 2) i = 1#32
  first : ∀ i : grid0.Coords, (i 0).val = 0 → word (F := F) (pf 2) i = 1#32
  same : ∀ i i' : grid0.Coords, (i' 0).val + 1 = (i 0).val → word (F := F) (pf 2) i = 0#32 → ex pf i = ex pf i'

theorem good_tables : Good (tables m) where
  lt := ex_lt m
  act i := by rw [word_act]; exact act_01 _ _
  new i := by rw [word_new]; exact new_01 _ _
  first i h := by rw [word_new]; exact new_zero _ _ h
  same i i' h h0 := by
    rw [word_new] at h0
    show (word (F := F) (tables m 0) i).toNat = (word (F := F) (tables m 0) i').toNat
    rw [word_be, word_be, be_eq _ _ (by show 1 ≤ (i 0).val; omega) h0]
    refine congrArg (fun j : Fin 296 => (beT (peV m dev0) (ix1 j)).toNat) (Fin.ext ?_)
    show (i 0).val - 1 = (i' 0).val
    omega

/-- The tables, admitted. -/
abbrev adm : (p : Fin 1) → (pcfgs (F := F) p).Adm := fun _ => ⟨tables m, ok_tables m⟩

/-! ## The program up to the call -/

theorem opss_fresh : (opss : List (List (HloOp τ sig (Elt F)))).Forall fun ops => ops.Forall fun op => op.fresh = ∅ := by
  simp only [List.Forall]; repeat' constructor

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem V_arg0 (c : Dev nD) : V m c main_arg0 = m ((c : Thread nD τ).loc main_arg0) := by after_reads_simp
theorem V_arg1 (c : Dev nD) : V m c main_arg1 = m ((c : Thread nD τ).loc main_arg1) := by after_reads_simp
theorem V_arg2 (c : Dev nD) : V m c main_arg2 = m ((c : Thread nD τ).loc main_arg2) := by after_reads_simp
theorem V_arg3 (c : Dev nD) : V m c main_arg3 = m ((c : Thread nD τ).loc main_arg3) := by after_reads_simp
theorem V_arg4 (c : Dev nD) : V m c main_arg4 = m ((c : Thread nD τ).loc main_arg4) := by after_reads_simp
theorem V_arg5 (c : Dev nD) : V m c main_arg5 = m ((c : Thread nD τ).loc main_arg5) := by after_reads_simp

end Cert.Kernel2Ideal.Hand

end
-- ==== Proof.ExpertRun.lean ====
module

public import proofs.«01_k».proof.Proof.ExpertTables
public import Idealize.ShloMosaic.Lib.Pipeline.Frame
public import Idealize.ShloMosaic.Lib.Pipeline.ValueKit
public import Idealize.ShloMosaic.Lib.Claim
public import Idealize.ShloMosaic.Lib.Tactic

/-!
  The expert call over its 296 blocks, at any tables with the stated properties and any contents of the other buffers.
  Between points the two scratch buffers hold the weights of the block before's expert, so that after every point they
  hold those of its own.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.Kernel2Ideal.Gen.facts

variable {F : FTy → Type} [FloatOps F]

local notation "𝕄" => MT nD τ sig Unit (Elt F) ℕ (UR sig nD τ) ℕ

variable (a : (pcfg0 (F := F)).Adm) (E : (c : Dev nD) → (b : Ref sig .tc) → Buf (Elt F) ((c : Thread nD τ).loc b))

/-! ## The windows' blocks -/

/-- Window `w`'s block at point `t`. -/
def iblk (c : Dev nD) (w : Fin 7) (t : Fin (cfg0 a).N) : (((cfg0 a).win w).xblock ((cfg0 a).grid.coords t)).Idx → Elt F ((cfg0 a).win w).elt :=
  (((cfg0 a).win w).blk t).view.read (Elt F) (E c (Pipeline.arrRef spec0 w))

/-- An expert's block of an array of experts' matrices. -/
def sel4 {p q : ℕ} (x : (⟨4, ![2, 32, p, q]⟩ : Shape).Idx → Elt F .f32) (e : Fin 32) : (⟨4, ![1, 1, p, q]⟩ : Shape).Idx → Elt F .f32 :=
  fun y => x (ix4 (0 : Fin 2) e (y 2) (y 3))

theorem index1 (t : Fin (cfg0 a).N) : (pcfg0.win a 1).index t = ![0, ex a.1 (grid0.coords t), 0, 0] := tr1 a.1 _
theorem index3 (t : Fin (cfg0 a).N) : (pcfg0.win a 3).index t = ![0, ex a.1 (grid0.coords t), 0, 0] := tr3 a.1 _
theorem index5 (t : Fin (cfg0 a).N) : (pcfg0.win a 5).index t = ![0, 0] := rfl

variable (hg : Good a.1)

theorem iblk1 (c : Dev nD) (t : Fin (cfg0 a).N) :
    (iblk a E c 1 t : S1x1x1024x2048.Idx → Elt F .f32) = sel4 (E c main_arg2) ⟨ex a.1 (grid0.coords t), hg.lt _⟩ := by
  funext y
  blk_simp [iblk, sel4]
  refine congrArg (E c main_arg2 : S2x32x1024x2048.Idx → Elt F .f32) ?_
  blk_ext [index1]
  all_goals (erw [index1]; simp; try omega)

theorem iblk3 (c : Dev nD) (t : Fin (cfg0 a).N) :
    (iblk a E c 3 t : S1x1x1024x1024.Idx → Elt F .f32) = sel4 (E c main_arg4) ⟨ex a.1 (grid0.coords t), hg.lt _⟩ := by
  funext y
  blk_simp [iblk, sel4]
  refine congrArg (E c main_arg4 : S2x32x1024x1024.Idx → Elt F .f32) ?_
  blk_ext [index3]
  all_goals (erw [index3]; simp; try omega)

theorem iblk5 (c : Dev nD) (t : Fin (cfg0 a).N) : (iblk a E c 5 t : S256x256.Idx → Elt F .bf16) = E c main_v51 := by
  funext y
  blk_simp [iblk]
  refine congrArg (E c main_v51 : S256x256.Idx → Elt F .bf16) ?_
  blk_ext [index5]
  all_goals (erw [index5]; simp; try omega)

/-! ## The proof data -/

/-- The weights of point `t`'s expert as the scratch holds them. -/
def w1At (c : Dev nD) (t : Fin (cfg0 a).N) : S1024x2048.Idx → Elt F .bf16 := w1p (iblk a E c 1 t) (iblk a E c 5 t)
def w2At (c : Dev nD) (t : Fin (cfg0 a).N) : S1024x1024.Idx → Elt F .bf16 := k0_pay3 (iblk a E c 3 t)

/-- The block of the result point `t` leaves. -/
def yAt (c : Dev nD) (t : Fin (cfg0 a).N) : S512x1024.Idx → Elt F .bf16 :=
  outBlk (word (a.1 1) (grid0.coords t)) (iblk a E c 0 t) (w1At a E c t) (iblk a E c 2 t) (w2At a E c t) (iblk a E c 4 t)

/-- The scratch before point `n`: the weights of the point before's expert. -/
def Scr (c : Dev nD) (n : ℕ) : sProp 𝕄 :=
  iprop(∃ f1 f2, ⌜∀ s : Fin (cfg0 a).N, s.val + 1 = n → f1 = w1At a E c s ∧ f2 = w2At a E c s⌝
    ∗ owns (c : Thread nD τ) (Memref.whole cc0_scratch0) fullShare f1 ∗ owns (c : Thread nD τ) (Memref.whole cc0_scratch1) fullShare f2)

/-- The invariant before point `n`: the scratch, the generator register, the tables. -/
def PhiS (c : Dev nD) (n : ℕ) : sProp 𝕄 :=
  iprop(Scr a E c n ∗ (∃ r, prngReg c r)
    ∗ owns (c : Thread nD τ) (Memref.whole main_v19) fullShare.right (a.1 0)
    ∗ owns (c : Thread nD τ) (Memref.whole main_v24) fullShare.right (a.1 1)
    ∗ owns (c : Thread nD τ) (Memref.whole main_v30) fullShare.right (a.1 2))

/-- The proof data on core `c`: every array as the region finds it, every input block left in place, the output's at
    `yAt`; full shares; nothing owed. -/
def dats (c : Dev nD) : Dat τ (Elt F) Unit ℕ (UR sig nD τ) ℕ (cfg0 a) c where
  A w := E c (Pipeline.arrRef spec0 w)
  after w t := match w with
    | 0 => iblk a E c 0 t
    | 1 => iblk a E c 1 t
    | 2 => iblk a E c 2 t
    | 3 => iblk a E c 3 t
    | 4 => iblk a E c 4 t
    | 5 => iblk a E c 5 t
    | 6 => yAt a E c t
  Φ n := PhiS a E c n.val
  q _ := fullShare
  owed _ := 0

theorem before0 (c : Dev nD) (t : Fin (cfg0 a).N) (d) : (dats a E c).before 0 t d = iblk a E c 0 t :=
  ((dats a E c).before_in_eq_fetched 0 rfl (fun _ => rfl) (fun _ _ _ => rfl) (fun t => rfl) t d).trans rfl
theorem before1 (c : Dev nD) (t : Fin (cfg0 a).N) (d) : (dats a E c).before 1 t d = iblk a E c 1 t :=
  ((dats a E c).before_in_eq_fetched 1 rfl (fun _ => rfl) (fun _ _ _ => rfl) (fun t => rfl) t d).trans rfl
theorem before2 (c : Dev nD) (t : Fin (cfg0 a).N) (d) : (dats a E c).before 2 t d = iblk a E c 2 t :=
  ((dats a E c).before_in_eq_fetched 2 rfl (fun _ => rfl) (fun _ _ _ => rfl) (fun t => rfl) t d).trans rfl
theorem before3 (c : Dev nD) (t : Fin (cfg0 a).N) (d) : (dats a E c).before 3 t d = iblk a E c 3 t :=
  ((dats a E c).before_in_eq_fetched 3 rfl (fun _ => rfl) (fun _ _ _ => rfl) (fun t => rfl) t d).trans rfl
theorem before4 (c : Dev nD) (t : Fin (cfg0 a).N) (d) : (dats a E c).before 4 t d = iblk a E c 4 t :=
  ((dats a E c).before_in_eq_fetched 4 rfl (fun _ => rfl) (fun _ _ _ => rfl) (fun t => rfl) t d).trans rfl
theorem before5 (c : Dev nD) (t : Fin (cfg0 a).N) (d) : (dats a E c).before 5 t d = iblk a E c 5 t :=
  ((dats a E c).before_in_eq_fetched 5 rfl (fun _ => rfl) (fun _ _ _ => rfl) (fun t => rfl) t d).trans rfl

/-- A point's coordinate is its number. -/
theorem coord : ∀ t : Fin grid0.N, (grid0.coords t 0).val = t.val := by decide +kernel

include hg in
/-- The scratch after point `t`: rewritten where the point is new, else as it was, its expert being the one before's. -/
theorem scr_step (c : Dev nD) (t : Fin (cfg0 a).N) (f1 : S1024x2048.Idx → Elt F .bf16) (f2 : S1024x1024.Idx → Elt F .bf16)
    (h : ∀ s : Fin (cfg0 a).N, s.val + 1 = t.val → f1 = w1At a E c s ∧ f2 = w2At a E c s) :
    up1 (word (a.1 2) (grid0.coords t)) (iblk a E c 1 t) (iblk a E c 5 t) f1 = w1At a E c t
      ∧ up2 (word (a.1 2) (grid0.coords t)) (iblk a E c 3 t) f2 = w2At a E c t := by
  rcases hg.new (grid0.coords t) with e | e
  · have h10 : ¬ ((0#32 : BitVec 32) = 1#32) := by decide
    rw [e]
    unfold up1 up2
    rw [if_neg h10, if_neg h10]
    have h0 : t.val ≠ 0 := fun h0 => by
      have := hg.first (grid0.coords t) ((coord t).trans h0)
      rw [e] at this
      exact absurd this (by decide)
    have hs : t.val - 1 < (cfg0 a).N := lt_of_le_of_lt (Nat.sub_le _ _) t.isLt
    obtain ⟨e1, e2⟩ := h ⟨t.val - 1, hs⟩ (by show t.val - 1 + 1 = t.val; omega)
    have hx : (⟨ex a.1 (grid0.coords t), hg.lt _⟩ : Fin 32) = ⟨ex a.1 (grid0.coords ⟨t.val - 1, hs⟩), hg.lt _⟩ :=
      Fin.ext (hg.same _ _ (by rw [coord, coord]; show t.val - 1 + 1 = t.val; omega) e)
    rw [e1, e2]
    unfold w1At w2At
    rw [iblk1 a E hg, iblk1 a E hg, iblk3 a E hg, iblk3 a E hg, iblk5, iblk5, hx]
    exact ⟨rfl, rfl⟩
  · rw [e]
    unfold up1 up2
    rw [if_pos rfl, if_pos rfl]
    exact ⟨rfl, rfl⟩

/-- The scratch and the generator register, as memrefs. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The tables' halves, as memrefs. -/
theorem tabs_eq (c : Dev nD) (pf : pre0.Contents (Elt F)) :
    (Pipeline.ΦT pre0 pf c : sProp 𝕄)
      = iprop(owns (c : Thread nD τ) (Memref.whole main_v19) fullShare.right (pf 0)
        ∗ owns (c : Thread nD τ) (Memref.whole main_v24) fullShare.right (pf 1)
        ∗ owns (c : Thread nD τ) (Memref.whole main_v30) fullShare.right (pf 2)) := by
  unfold Pipeline.ΦT Pipeline.prefHeld
  rw [bigSep_univ_eq_bigSepL [(0 : Fin 3), (1 : Fin 3), (2 : Fin 3)] (by decide) (by decide)]
  exact congrArg₂ (fun A B : sProp 𝕄 => iprop(A ∗ B)) (owns_whole (c : Thread nD τ) main_v19 _ _).symm
    (congrArg₂ (fun A B : sProp 𝕄 => iprop(A ∗ B)) (owns_whole (c : Thread nD τ) main_v24 _ _).symm (owns_whole (c : Thread nD τ) main_v30 _ _).symm)

/-- The body at a point, as the body table has it. -/
def bodyAt (t : Fin (cfg0 a).N) := defs₀ (F := F) .tc (cfg0 a).body ((cfg0 a).bodyArgs t ((cfg0 a).slots t))

/-- What the body is called with at point `t`, and what it returns. -/
def bodyPre (c : Dev nD) (t : Fin (cfg0 a).N) : sProp 𝕄 :=
  iprop((dats a E c).Φ t.castSucc ∗ (dats a E c).owesAt () t.castSucc
    ∗ (∃ d, owns (c : Thread nD τ) (((cfg0 a).win 0).stage ((cfg0 a).slots t 0)) fullShare ((dats a E c).before 0 t d))
    ∗ (∃ d, owns (c : Thread nD τ) (((cfg0 a).win 1).stage ((cfg0 a).slots t 1)) fullShare ((dats a E c).before 1 t d))
    ∗ (∃ d, owns (c : Thread nD τ) (((cfg0 a).win 2).stage ((cfg0 a).slots t 2)) fullShare ((dats a E c).before 2 t d))
    ∗ (∃ d, owns (c : Thread nD τ) (((cfg0 a).win 3).stage ((cfg0 a).slots t 3)) fullShare ((dats a E c).before 3 t d))
    ∗ (∃ d, owns (c : Thread nD τ) (((cfg0 a).win 4).stage ((cfg0 a).slots t 4)) fullShare ((dats a E c).before 4 t d))
    ∗ (∃ d, owns (c : Thread nD τ) (((cfg0 a).win 5).stage ((cfg0 a).slots t 5)) fullShare ((dats a E c).before 5 t d))
    ∗ (∃ d, owns (c : Thread nD τ) (((cfg0 a).win 6).stage ((cfg0 a).slots t 6)) fullShare ((dats a E c).before 6 t d)))
def bodyPost (c : Dev nD) (t : Fin (cfg0 a).N) : sProp 𝕄 :=
  iprop((dats a E c).Φ t.succ ∗ (dats a E c).owesAt () t.succ
    ∗ owns (c : Thread nD τ) (((cfg0 a).win 0).stage ((cfg0 a).slots t 0)) fullShare ((dats a E c).after 0 t)
    ∗ owns (c : Thread nD τ) (((cfg0 a).win 1).stage ((cfg0 a).slots t 1)) fullShare ((dats a E c).after 1 t)
    ∗ owns (c : Thread nD τ) (((cfg0 a).win 2).stage ((cfg0 a).slots t 2)) fullShare ((dats a E c).after 2 t)
    ∗ owns (c : Thread nD τ) (((cfg0 a).win 3).stage ((cfg0 a).slots t 3)) fullShare ((dats a E c).after 3 t)
    ∗ owns (c : Thread nD τ) (((cfg0 a).win 4).stage ((cfg0 a).slots t 4)) fullShare ((dats a E c).after 4 t)
    ∗ owns (c : Thread nD τ) (((cfg0 a).win 5).stage ((cfg0 a).slots t 5)) fullShare ((dats a E c).after 5 t)
    ∗ owns (c : Thread nD τ) (((cfg0 a).win 6).stage ((cfg0 a).slots t 6)) fullShare ((dats a E c).after 6 t))

include hg in
/-- The body at a point: the invariant opened, the inputs' blocks named, the body's run, the invariant closed. -/
theorem sound_body (c : Dev nD) (t : Fin (cfg0 a).N) :
    bodyPre a E c t ⊢ wp frame (wpE (defs₀ (F := F)) Variants.none (c : Thread nD τ) none) Set.univ (bodyAt a t) (fun _ => bodyPost a E c t) := by
  unfold bodyPre bodyPost bodyAt
  simp only [before0, before1, before2, before3, before4, before5]
  rw [show (dats a E c).Φ t.castSucc = PhiS a E c t.val from rfl,
    show (dats a E c).Φ t.succ = PhiS a E c (t.val + 1) from rfl,
    show (dats a E c).owesAt () t.succ = (dats a E c).owesAt () t.castSucc from rfl]
  unfold PhiS Scr
  iintro ⟨⟨⟨%f1, %f2, %hS, H11, H12⟩, Hg, HT1, HT2, HT3⟩, HO, ⟨%d0, H4⟩, ⟨%d1, H5⟩, ⟨%d2, H6⟩, ⟨%d3, H7⟩, ⟨%d4, H8⟩, ⟨%d5, H9⟩, ⟨%d6, H10⟩⟩
  unfold defs₀; rw [Defs.onTc_tc]
  iapply (kernelRun c fullShare.right (grid0.coords t) _ (Memref.isWhole_whole _) _ (Memref.isWhole_whole _) _ (Memref.isWhole_whole _) _ (hstage0_0 (((cfg0 a).slots t 0).cast nbuf0_0)) _ (hstage0_1 (((cfg0 a).slots t 1).cast nbuf0_1)) _ (hstage0_2 (((cfg0 a).slots t 2).cast nbuf0_2)) _ (hstage0_3 (((cfg0 a).slots t 3).cast nbuf0_3)) _ (hstage0_4 (((cfg0 a).slots t 4).cast nbuf0_4)) _ (hstage0_5 (((cfg0 a).slots t 5).cast nbuf0_5)) _ (hstage0_6 (((cfg0 a).slots t 6).cast nbuf0_6)) _ (Memref.isWhole_whole _) _ (Memref.isWhole_whole _) _ _ _ _ _ _ _ _ _ _ _ _ (hg.act _) (hg.new _))
  isplitl [HT1]; · iexact HT1
  isplitl [HT2]; · iexact HT2
  isplitl [HT3]; · iexact HT3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨HT1, HT2, HT3, H4, H5, H6, H7, H8, H9, H10, H11, H12⟩
  obtain ⟨e1, e2⟩ := scr_step a E hg c t f1 f2 hS
  rw [e1, e2]
  isplitl [H11 H12 Hg HT1 HT2 HT3]
  · isplitl [H11 H12]
    · iexists _, _; isplitr; swap
      · isplitl [H11]; · iexact H11
        iexact H12
      ipureintro
      intro s hs
      have : s = t := Fin.ext (by omega)
      subst this
      exact ⟨rfl, rfl⟩
    isplitl [Hg]; · iexact Hg
    isplitl [HT1]; · iexact HT1
    isplitl [HT2]; · iexact HT2
    iexact HT3
  isplitl [HO]; · iexact HO
  isplitl [H4]; · iexact H4
  isplitl [H5]; · iexact H5
  isplitl [H6]; · iexact H6
  isplitl [H7]; · iexact H7
  isplitl [H8]; · iexact H8
  isplitl [H9]; · iexact H9
  iexact H10

/-- A block marked zero or one has its result written. -/
theorem idle_false (pf : pre0.Contents (Elt F)) (i : grid0.Coords) (h : word (F := F) (pf 1) i = 0#32 ∨ word (F := F) (pf 1) i = 1#32) :
    idle0 pf 6 i = false := by
  have hlt : (i 0).val < 296 := (i 0).isLt
  have hb : ∀ d, k0_off2 i d + 1 ≤ (pre0.ref 1).ty.shape.size d := fun d => by
    fin_cases d; show (BitVec.ofNat 32 (i 0).val).toNat + 1 ≤ 296; rw [off_val]; omega
  have e2 : pf.atD 1 (k0_off2 i) = word (pf 1) i := by
    refine (dif_pos hb).trans (congrArg (pf 1) ?_)
    funext d
    refine Fin.ext ?_
    fin_cases d
    exact off_val i
  have key : ∀ w : BitVec 32, w = 0#32 ∨ w = 1#32 → (!(k0_cond2 w == 1#1) && !(k0_cond3 w == 1#1)) = false := by
    rintro w (e | e) <;> rw [e] <;> decide +kernel
  exact (congrArg (fun w : BitVec 32 => (!(k0_cond2 w == 1#1) && !(k0_cond3 w == 1#1))) e2).trans (key _ h)

include hg in
/-- No point leaves the output alone. -/
theorem never_idle (t : Fin (cfg0 a).N) : (cfg0 a).idle (6 : Fin 7) ((cfg0 a).grid.coords t) = false := idle_false a.1 _ (hg.act _)

include hg in
/-- The library's body obligation. -/
theorem body_obligation (c : Dev nD) :
    BodyObligation (dats a E c) (defs₀ (F := F)) Variants.none () Set.univ := fun t => by
  rw [bigSep_W0, bigSep_W0]
  rw [never_idle a hg t]
  exact triple_restated (sound_body a E hg c t) rfl .rfl fun _ => .rfl

end Cert.Kernel2Ideal.Hand

end
-- ==== Proof.ExpertLaunch.lean ====
module

public import proofs.«01_k».proof.Proof.ExpertRun
public import Idealize.ShloMosaic.Lib.Pipeline.Frame

/-!
  The expert call launched at the tables the host makes: every run ends, the result array filled block by block, the
  arguments as they began.
-/

@[expose] public section

set_option maxRecDepth 16384
set_option maxHeartbeats 2000000

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.Kernel2Ideal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point nothing is asked of the scratch. -/
theorem phi_in (a : (pcfg0 (F := F)).Adm) (E : (c : Dev nD) → (b : Ref sig .tc) → Buf (Elt F) ((c : Thread nD τ).loc b)) (c : Dev nD) :
    (iprop(Pipeline.ΦA spec0 c ∗ Pipeline.ΦT pre0 a.1 c) : sProp 𝕄) ⊢ PhiS a E c 0 := by
  rw [phi_eq, tabs_eq]
  unfold PhiS Scr
  iintro ⟨⟨⟨⟨%f1, H1⟩, ⟨%f2, H2⟩⟩, Hg⟩, HT1, HT2, HT3⟩
  isplitl [H1 H2]
  · iexists f1, f2; isplitr; swap
    · isplitl [H1]; · iexact H1
      iexact H2
    ipureintro
    intro s hs
    omega
  isplitl [Hg]; · iexact Hg
  isplitl [HT1]; · iexact HT1
  isplitl [HT2]; · iexact HT2
  iexact HT3

/-- After the last point the scratch is forgotten. -/
theorem phi_out (a : (pcfg0 (F := F)).Adm) (E : (c : Dev nD) → (b : Ref sig .tc) → Buf (Elt F) ((c : Thread nD τ).loc b)) (c : Dev nD) (n : ℕ) :
    PhiS a E c n ⊢ (Pipeline.ΦA spec0 c : sProp 𝕄) := by
  rw [phi_eq]
  unfold PhiS Scr
  iintro ⟨⟨%f1, %f2, -, H1, H2⟩, Hg, -, -, -⟩
  isplitl [H1 H2]
  · isplitl [H1]; · iexists f1; iexact H1
    iexists f2; iexact H2
  iexact Hg

/-- The proof data at the tables and contents the host leaves. -/
abbrev datsM (p : Fin 1) (c : Dev nD) : Dat τ (Elt F) Unit ℕ (UR sig nD τ) ℕ (Pipeline.pin (pcfgs (F := F)) (adm m) p) c :=
  dats (adm m 0) (V m) c

/-- The host's operations, then the call. -/
theorem hmain : Pipeline.HMainP (Ix := Unit) (Name := ℕ) (U := UR sig nD τ) (Lvl := ℕ) (pcfgs (F := F)) 0 defs₀ Variants.none m main (V m) :=
  Pipeline.hmainP_prefixes pcfgs 0 defs₀ Variants.none m main opss opss_sub opss_fresh main_chain

/-- The tables when the call is made are those the proof data are at. -/
theorem tables_at (c : Dev nD) (k : Fin 3) : V m c (pre0.ref k) = tables m k := by
  have hc : c = dev0 := Subsingleton.elim (α := Fin 1) c dev0
  subst hc
  rfl

/-- Every weakly fair execution terminates; every array ends at what the proof data make of it, every buffer that is no
    window's array as the region found it, and every counter at zero. -/
theorem run_main :
    θ_run defs (onTc (τ := τ) (main (F := F))) (s₀ m ρ)
      (fun r => Pipeline.FramePost (Pipeline.pin (pcfgs (F := F)) (adm m)) (datsM m) 0 (V m) r ∧ r.2.sem = fun _ => 0) :=
  Pipeline.θ_run_frameP_track (Q' := _) pcfgs (adm m) (datsM m) (0 : Fin 1) launch0 defs₀ Variants.none m ρ main
    (hbody := fun c => (body_obligation (adm m 0) (V m) (good_tables m) c).loose) (hshare := fun c => (datsM m 0 c).share_full fun _ => rfl)
    (howed := fun _ _ => rfl) (V := V m) (hmain := hmain m) (hA := fun _ _ => rfl)
    (hpf := tables_at m) (hin := fun c => phi_in (adm m 0) (V m) c) (hout := fun c => phi_out (adm m 0) (V m) c _) (hQ' := fun _ h => h)

/-- Every run ends with its result the array the blocks make up, its arguments as they began, every counter at zero. -/
theorem run_out :
    θ_run defs (onTc (τ := τ) (main (F := F))) ⟨m, fun _ => 0, ρ⟩ (fun r => (∀ c : Dev nD,
      r.2.mem ((c.tc : Thread nD τ).loc main_v52) = (dats (adm m 0) (V m) c).arrAt 6 (cfg0 (adm m 0)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c).1 6,
      ((h.1 c).2 main_arg0 (Pipeline.mem_restRefs_of main_arg0 (by decide) (fun w => (by decide : ∀ w : Fin 7, (spec0 w).arr.view.ref ≠ main_arg0) w))).trans (V_arg0 m c),
      ((h.1 c).2 main_arg1 (Pipeline.mem_restRefs_of main_arg1 (by decide) (fun w => (by decide : ∀ w : Fin 7, (spec0 w).arr.view.ref ≠ main_arg1) w))).trans (V_arg1 m c),
      ((h.1 c).1 1).trans (((datsM m 0 c).arrAt_in 1 rfl _).trans (V_arg2 m c)),
      ((h.1 c).2 main_arg3 (Pipeline.mem_restRefs_of main_arg3 (by decide) (fun w => (by decide : ∀ w : Fin 7, (spec0 w).arr.view.ref ≠ main_arg3) w))).trans (V_arg3 m c),
      ((h.1 c).1 3).trans (((datsM m 0 c).arrAt_in 3 rfl _).trans (V_arg4 m c)),
      ((h.1 c).2 main_arg5 (Pipeline.mem_restRefs_of main_arg5 (by decide) (fun w => (by decide : ∀ w : Fin 7, (spec0 w).arr.view.ref ≠ main_arg5) w))).trans (V_arg5 m c)⟩, h.2⟩) (run_main m ρ)

/-- Every run ends with the arguments as they began and every counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_out m ρ)

end Cert.Kernel2Ideal.Hand

end
-- ==== Proof.ExpertRef.lean ====
module

public import proofs.«01_k».proof.Reference2Ideal
public import proofs.«01_k».proof.Proof.Gen.Reference2Ideal
public import Idealize.ShloMosaic.Lib.Claim
public import Idealize.ShloMosaic.Lib.StableHlo.RunRead
public import Idealize.ShloMosaic.Lib.Pointwise

/-!
  The expert reference: its run, and its result as a few steps.
-/

@[expose] public section

set_option maxRecDepth 16384
set_option maxHeartbeats 2000000

noncomputable section

namespace Cert.Reference2Ideal.Hand

open Cert.Reference2Ideal Cert.Reference2Ideal.Gen
open Idealize.ShloMosaic Idealize.ShloMosaic.TcCoe Idealize.SL.Sem Idealize.ShloMosaic.StableHlo

attribute [local instance] Cert.Reference2Ideal.Gen.facts

variable {F : FTy → Type} [FloatOps F]

/-- The steps of a count's rounding up to a multiple of 512. -/
def padded (n : IVec S32 32) : IVec S32 32 :=
  let x := subi (addi n (broadcastInDim S32 ![] bcast_S_S32 (constantI S_ 32 512#32))) (broadcastInDim S32 ![] bcast_S_S32 (constantI S_ 32 1#32))
  let d := broadcastInDim S32 ![] bcast_S_S32 (constantI S_ 32 512#32)
  muli (select (andi (cmpi .ne (signi x) (broadcastInDim S32 ![] bcast_S_S32 (signi (constantI S_ 32 512#32))))
      (cmpi .ne (Host.remsi x d) (broadcastInDim S32 ![] bcast_S_S32 (constantI S_ 32 0#32))))
    (subi (Host.divsi x d) (broadcastInDim S32 ![] bcast_S_S32 (constantI S_ 32 1#32))) (Host.divsi x d)) d

/-- The running sums of the padded counts: where each expert's rows end. -/
def ends (n : IVec S32 32) : IVec S32 32 :=
  Host.reduceWindow IntOp.addi ![32] ![1] ![31] ![0] (padded n) (broadcastInDim S_ ![] bcast_S_S_ (constantI S_ 32 0#32))
    reduceWindows_S32_S32_w32s1p31_0 h_S_

/-- Each block's first row. -/
def starts : IVec S296 32 := muli (iotaInDim S296 32 0) (broadcastInDim S296 ![] bcast_S_S296 (constantI S_ 32 512#32))

/-- Each block's expert: how many experts' rows end at or before its first row, at most 31. -/
def expert (pe : IVec S32 32) : IVec S296 32 :=
  minsi (Host.reduce IntOp.addi (extui 32 (cmpi .sge (broadcastInDim S296x32 ![0, 1] bcast_S296x1_S296x32_0_1 (broadcastInDim S296x1 ![0] bcast_S296_S296x1_0 starts))
      (broadcastInDim S296x32 ![0, 1] bcast_S1x32_S296x32_0_1 (broadcastInDim S1x32 ![1] bcast_S32_S1x32_1 pe))) natLt_1_32)
      (constantI S_ 32 0#32) reducesTo_S296x32_S296_d1 h_S_)
    (broadcastInDim S296 ![] bcast_S_S296 (constantI S_ 32 31#32))

/-- The expert as a gather's index. -/
def gix (be : IVec S296 32) : IVec S296x1 32 :=
  broadcastInDim S296x1 ![0] bcast_S296_S296x1_0
    (select (cmpi .slt be (broadcastInDim S296 ![] bcast_S_S296 (constantI S_ 32 0#32)))
      (addi be (broadcastInDim S296 ![] bcast_S_S296 (constantI S_ 32 32#32))) be)

/-- The first product and its bias. -/
def first (x : FVec F S151552x1024 .f32) (i : IVec S296x1 32) (w : FVec F S2x32x1024x2048 .f32) (b : FVec F S32x2048 .f32) : FVec F S296x512x2048 .f32 :=
  addf (Host.dotGeneral dot_S296x512x1024_S296x1024x2048_S296x512x2048_2_1_1_2_0_0 none (shapeCast S296x512x1024 x shapeCasts_S151552x1024_S296x512x1024)
      (Host.gather gather_S32x1024x2048_S296x1_S296x1024x2048_12_0_n_n_0_1_110242048
        (shapeCast S32x1024x2048 (extractStridedSlice S1x32x1024x2048 ![0, 0, 0, 0] w slices_S2x32x1024x2048_S1x32x1024x2048_0_0_0_0) shapeCasts_S1x32x1024x2048_S32x1024x2048) i))
    (broadcastInDim S296x512x2048 ![0, 1, 2] bcast_S296x1x2048_S296x512x2048_0_1_2 (broadcastInDim S296x1x2048 ![0, 2] bcast_S296x2048_S296x1x2048_0_2
      (Host.gather gather_S32x2048_S296x1_S296x2048_1_0_n_n_0_1_12048 b i)))

/-- The clamped gated activation. -/
def gated (u : FVec F S296x512x2048 .f32) : FVec F S296x512x1024 .f32 :=
  let g := minimumf (Host.slice S296x512x1024 ![0, 0, 0] ![1, 1, 2] u slicesBy_S296x512x2048_S296x512x1024_0s1_0s1_0s2)
    (broadcastInDim S296x512x1024 ![] bcast_S_S296x512x1024 (constant S_ .f32 0x40E00000#32))
  let l := minimumf (broadcastInDim S296x512x1024 ![] bcast_S_S296x512x1024 (constant S_ .f32 0x40E00000#32))
    (maximumf (broadcastInDim S296x512x1024 ![] bcast_S_S296x512x1024 (constant S_ .f32 0xC0E00000#32))
      (Host.slice S296x512x1024 ![0, 0, 1] ![1, 1, 2] u slicesBy_S296x512x2048_S296x512x1024_0s1_0s1_1s2))
  let one := broadcastInDim S296x512x1024 ![] bcast_S_S296x512x1024 (constant S_ .f32 0x3F800000#32)
  mulf (mulf g (Host.divf one (addf one (Host.exp (Host.negf (mulf (broadcastInDim S296x512x1024 ![] bcast_S_S296x512x1024 (constant S_ .f32 0x3FD9DB23#32)) g))))))
    (addf l one)

/-- The second product and its bias. -/
def second (h : FVec F S296x512x1024 .f32) (i : IVec S296x1 32) (w : FVec F S2x32x1024x1024 .f32) (b : FVec F S32x1024 .f32) : FVec F S296x512x1024 .f32 :=
  addf (Host.dotGeneral dot_S296x512x1024_S296x1024x1024_S296x512x1024_2_1_1_2_0_0 none h
      (Host.gather gather_S32x1024x1024_S296x1_S296x1024x1024_12_0_n_n_0_1_110241024
        (shapeCast S32x1024x1024 (extractStridedSlice S1x32x1024x1024 ![0, 0, 0, 0] w slices_S2x32x1024x1024_S1x32x1024x1024_0_0_0_0) shapeCasts_S1x32x1024x1024_S32x1024x1024) i))
    (broadcastInDim S296x512x1024 ![0, 1, 2] bcast_S296x1x1024_S296x512x1024_0_1_2 (broadcastInDim S296x1x1024 ![0, 2] bcast_S296x1024_S296x1x1024_0_2
      (Host.gather gather_S32x1024_S296x1_S296x1024_1_0_n_n_0_1_11024 b i)))

/-- The blocks past the last padded row zeroed, the blocks' rows laid one after another. -/
def masked (y : FVec F S296x512x1024 .f32) (pe : IVec S32 32) : FVec F S151552x1024 .bf16 :=
  truncf .bf16 (shapeCast S151552x1024 (select (broadcastInDim S296x512x1024 ![0, 1, 2] bcast_S296x1x1_S296x512x1024_0_1_2
      (broadcastInDim S296x1x1 ![0] bcast_S296_S296x1x1_0 (cmpi .slt starts (broadcastInDim S296 ![] bcast_S_S296
        (shapeCast S_ (extractStridedSlice S1 ![31] pe slices_S32_S1_31) shapeCasts_S1_S_)))))
    y (broadcastInDim S296x512x1024 ![] bcast_S_S296x512x1024 (constant S_ .f32 0x00000000#32))) shapeCasts_S296x512x1024_S151552x1024) bitsLt_bf16_f32

/-- The reference's result. -/
def result (x : FVec F S151552x1024 .f32) (n : IVec S32 32) (w1 : FVec F S2x32x1024x2048 .f32) (b1 : FVec F S32x2048 .f32)
    (w2 : FVec F S2x32x1024x1024 .f32) (b2 : FVec F S32x1024 .f32) : FVec F S151552x1024 .bf16 :=
  masked (second (gated (first x (gix (expert (ends n))) w1 b1)) (gix (expert (ends n))) w2 b2) (ends n)

variable (m : (ℓ : Loc nD τ sig) → Buf (Elt F) ℓ) (ρ : Dev nD → PrngReg)

/-- Every run of the reference ends with that result, its arguments as they began, every counter at zero. -/
theorem run_ref :
    θ_run defs (onTc (τ := τ) (main (F := F))) ⟨m, fun _ => 0, ρ⟩ (fun r => ∀ c : Dev nD,
      r.2.mem ((c.tc : Thread nD τ).loc main_v85) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  all_goals simp -implicitDefEqProofs only [StableHlo.TRef.toBuf, StableHlo.TRef.ofBuf, cast_cast, cast_eq, id_eq]
  unfold result masked second gated first gix expert starts ends padded
  rfl

end Cert.Reference2Ideal.Hand

end
-- ==== Proof.ExpertFrame.lean ====
module

public import proofs.«01_k».proof.Defs
public import proofs.«01_k».proof.Proof.Gen.Kernel2.Launch
public import proofs.«01_k».proof.Proof.ExpertLaunch
public import proofs.«01_k».proof.Proof.WordsLaunch
public import proofs.«01_k».proof.Proof.ExpertRef

/-!
  The frames of the expert program, of both its readings, and of its reference.
-/

@[expose] public section

set_option maxRecDepth 16384

noncomputable section

namespace Cert

open Idealize.ShloMosaic Idealize.ShloMosaic.TcCoe Idealize.SL.Sem

/-- The expert program read over machine words keeps its arguments and ends quiescent. -/
theorem frame_p2 : quiescent_Kernel2 (hKernel2 := Cert.Kernel2.Gen.facts) := fun m g _ => Cert.Kernel2.Hand.run_frame m g

/-- So does its reading over the reals. -/
theorem frame_pi2 : quiescent_Kernel2Ideal (hKernel2Ideal := Cert.Kernel2Ideal.Gen.facts) := fun m g _ => Cert.Kernel2Ideal.Hand.run_frame m g

/-- So does its reference. -/
theorem frame_ri2 : quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Hand.run_ref m g)

end Cert

end
-- ==== Proof.ExpertPay.lean ====
module

public import proofs.«01_k».proof.Proof.ExpertBody
public import Idealize.ShloMosaic.Lib.Pointwise

/-!
  The pieces of the expert call read at an index, over the extended reals.
-/

@[expose] public section

set_option maxRecDepth 16384

noncomputable section

namespace Cert.Expert

open Idealize.ShloMosaic

/-- The clamped gated activation of a gate and a linear value. -/
def swi (g l : EReal) : EReal :=
  min g (Ideal.ofBits FTy.f32 0x40E00000#32)
    * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) l) + 1)

/-- A row's first product and bias at a column. -/
def pre (x : Fin 1024 → EReal) (w1 : Fin 1024 → Fin 2048 → EReal) (b1 : Fin 2048 → EReal) (n : Fin 2048) : EReal :=
  ∑ k : Fin 1024, x k * w1 k n + b1 n

/-- An expert's output of a row at a column: gates at the even columns of the first product, linear values at the odd. -/
def out (x : Fin 1024 → EReal) (w1 : Fin 1024 → Fin 2048 → EReal) (b1 : Fin 2048 → EReal) (w2 : Fin 1024 → Fin 1024 → EReal)
    (b2 : Fin 1024 → EReal) (d : Fin 1024) : EReal :=
  ∑ k : Fin 1024, swi (pre x w1 b1 ⟨2 * k.val, by omega⟩) (pre x w1 b1 ⟨2 * k.val + 1, by omega⟩) * w2 k d + b2 d

end Cert.Expert

namespace Cert.Kernel2Ideal.Hand

open Cert.Kernel2Ideal Cert.Kernel2Ideal.Gen Cert.Expert
open Idealize.ShloMosaic

attribute [local instance] Cert.Kernel2Ideal.Gen.facts

/-- The first product at an index. -/
theorem pay12_apply (x : Vec Ideal S512x1024 .bf16) (w : Vec Ideal S1024x2048 .bf16) (b : Vec Ideal S1x1x2048 .f32) (a : Fin 512) (n : Fin 2048) :
    k0_pay12 x w b (ix2 a n) = ∑ k : Fin 1024, x (ix2 a k) * w (ix2 k n) + b (ix3 (0 : Fin 1) (0 : Fin 1) n) := by
  pointwise [k0_pay12]

/-- The first group's activation. -/
theorem pay13_apply (x : Vec Ideal S512x1024 .bf16) (w : Vec Ideal S1024x2048 .bf16) (b : Vec Ideal S1x1x2048 .f32) (a : Fin 512) (j : Fin 128) :
    k0_pay13 x w b (ix2 a j) = swi (k0_pay12 x w b (ix2 a ⟨j.val, by omega⟩)) (k0_pay12 x w b (ix2 a ⟨128 + j.val, by omega⟩)) := by
  unfold swi
  pointwise [k0_pay13]

/-- The second group's activation. -/
theorem pay14_apply (x : Vec Ideal S512x1024 .bf16) (w : Vec Ideal S1024x2048 .bf16) (b : Vec Ideal S1x1x2048 .f32) (a : Fin 512) (j : Fin 128) :
    k0_pay14 x w b (ix2 a j) = swi (k0_pay12 x w b (ix2 a ⟨256 + j.val, by omega⟩)) (k0_pay12 x w b (ix2 a ⟨384 + j.val, by omega⟩)) := by
  unfold swi
  pointwise [k0_pay14]

/-- The third group's. -/
theorem pay16_apply (x : Vec Ideal S512x1024 .bf16) (w : Vec Ideal S1024x2048 .bf16) (b : Vec Ideal S1x1x2048 .f32) (a : Fin 512) (j : Fin 128) :
    k0_pay16 (k0_pay12 x w b) (k0_pay15 x w b) (Scalar.ofBits .f32 0x40E00000#32) (ix2 a j)
      = swi (k0_pay12 x w b (ix2 a ⟨512 + j.val, by omega⟩)) (k0_pay12 x w b (ix2 a ⟨640 + j.val, by omega⟩)) := by
  unfold swi
  pointwise [k0_pay16, k0_pay15]

theorem pay17_apply (u : FVec Ideal S512x2048 .f32) (a : Fin 512) (j : Fin 128) :
    k0_pay17 u (ix2 a j) = swi (u (ix2 a ⟨768 + j.val, by omega⟩)) (u (ix2 a ⟨896 + j.val, by omega⟩)) := by
  unfold swi
  pointwise [k0_pay17]

theorem pay19_apply (u : FVec Ideal S512x2048 .f32) (a : Fin 512) (j : Fin 128) :
    k0_pay19 (k0_pay18 u) (ix2 a j) = swi (u (ix2 a ⟨1024 + j.val, by omega⟩)) (u (ix2 a ⟨1152 + j.val, by omega⟩)) := by
  unfold swi
  pointwise [k0_pay19, k0_pay18]

theorem pay20_apply (u : FVec Ideal S512x2048 .f32) (a : Fin 512) (j : Fin 128) :
    k0_pay20 u (ix2 a j) = swi (u (ix2 a ⟨1280 + j.val, by omega⟩)) (u (ix2 a ⟨1408 + j.val, by omega⟩)) := by
  unfold swi
  pointwise [k0_pay20]

theorem pay21_apply (u : FVec Ideal S512x2048 .f32) (a : Fin 512) (j : Fin 128) :
    k0_pay21 u (ix2 a j) = swi (u (ix2 a ⟨1536 + j.val, by omega⟩)) (u (ix2 a ⟨1664 + j.val, by omega⟩)) := by
  unfold swi
  pointwise [k0_pay21]

/-- The last group's, put together from its halves. -/
theorem pay23_apply (u : FVec Ideal S512x2048 .f32) (a : Fin 512) (j : Fin 128) :
    k0_pay23 u (ix2 a j) * (k0_pay22 u (ix2 a j) + 1) = swi (u (ix2 a ⟨1792 + j.val, by omega⟩)) (u (ix2 a ⟨1920 + j.val, by omega⟩)) := by
  unfold swi
  pointwise [k0_pay23, k0_pay22]

/-- The regrouped first weights at an index. -/
theorem w1p_apply (x : S1x1x1024x2048.Idx → EReal) (p : S256x256.Idx → EReal) (k : Fin 1024) (n : Fin 2048) :
    (w1p (F := Ideal) x p : S1024x2048.Idx → EReal) (ix2 k n)
      = ∑ r : Fin 256, x (ix4 (0 : Fin 1) (0 : Fin 1) k (⟨256 * (n.val / 256) + r.val, by omega⟩ : Fin 2048))
          * p (ix2 r (⟨n.val % 256, Nat.mod_lt _ (by decide)⟩ : Fin 256)) := by
  unfold w1p
  pointwise [k0_pay1, wcol]

theorem pay3_apply (x : Vec Ideal S1x1x1024x1024 .f32) (k d : Fin 1024) : k0_pay3 x (ix2 k d) = x (ix4 (0 : Fin 1) (0 : Fin 1) k d) := by
  pointwise [k0_pay3]

theorem pay5_apply (a : Fin 512) (d : Fin 1024) : @Eq EReal ((k0_pay5 (F := Ideal)) (ix2 a d)) 0 := by
  pointwise [k0_pay5]

/-- The second product and bias of the eight groups side by side, each group known at an index. -/
theorem pay4_apply (p0 p1 p2 p3 p4 p5 p6 : FVec Ideal S512x128 .bf16) (q r : FVec Ideal S512x128 .f32)
    (w : Vec Ideal S1024x1024 .bf16) (b : Vec Ideal S1x1x1024 .f32) (a : Fin 512) (d : Fin 1024) (U : Fin 1024 → EReal)
    (h0 : ∀ j : Fin 128, p0 (ix2 a j) = U ⟨j.val, by omega⟩)
    (h1 : ∀ j : Fin 128, p1 (ix2 a j) = U ⟨128 + j.val, by omega⟩)
    (h2 : ∀ j : Fin 128, p2 (ix2 a j) = U ⟨256 + j.val, by omega⟩)
    (h3 : ∀ j : Fin 128, p3 (ix2 a j) = U ⟨384 + j.val, by omega⟩)
    (h4 : ∀ j : Fin 128, p4 (ix2 a j) = U ⟨512 + j.val, by omega⟩)
    (h5 : ∀ j : Fin 128, p5 (ix2 a j) = U ⟨640 + j.val, by omega⟩)
    (h6 : ∀ j : Fin 128, p6 (ix2 a j) = U ⟨768 + j.val, by omega⟩)
    (h7 : ∀ j : Fin 128, r (ix2 a j) * (q (ix2 a j) + 1) = U ⟨896 + j.val, by omega⟩) :
    (k0_pay4 p0 p1 p2 p3 p4 p5 p6 q r (Scalar.ofBits .f32 0x3F800000#32) w b : S512x1024.Idx → EReal) (ix2 a d)
      = ∑ k : Fin 1024, U k * w (ix2 k d) + b (ix3 (0 : Fin 1) (0 : Fin 1) d) := by
  pointwise [k0_pay4]
  refine congrArg (fun s : EReal => s + b (ix3 (0 : Fin 1) (0 : Fin 1) d)) ?_
  refine Finset.sum_congr (M := EReal) rfl fun k _ => congrArg (fun s : EReal => s * w (ix2 k d)) ?_
  have hk : k.val < 1024 := k.isLt
  have hU : ∀ (i : Fin 1024), i.val = k.val → U i = U k := fun i h => congrArg U (Fin.ext h)
  by_cases c0 : k.val < 128
  · refine (dif_pos c0).trans ((h0 _).trans (hU _ ?_)); dsimp only
  refine (dif_neg c0).trans ?_
  by_cases c1 : k.val - 128 < 128
  · refine (dif_pos c1).trans ((h1 _).trans (hU _ ?_)); dsimp only; omega
  refine (dif_neg c1).trans ?_
  by_cases c2 : k.val - 128 - 128 < 128
  · refine (dif_pos c2).trans ((h2 _).trans (hU _ ?_)); dsimp only; omega
  refine (dif_neg c2).trans ?_
  by_cases c3 : k.val - 128 - 128 - 128 < 128
  · refine (dif_pos c3).trans ((h3 _).trans (hU _ ?_)); dsimp only; omega
  refine (dif_neg c3).trans ?_
  by_cases c4 : k.val - 128 - 128 - 128 - 128 < 128
  · refine (dif_pos c4).trans ((h4 _).trans (hU _ ?_)); dsimp only; omega
  refine (dif_neg c4).trans ?_
  by_cases c5 : k.val - 128 - 128 - 128 - 128 - 128 < 128
  · refine (dif_pos c5).trans ((h5 _).trans (hU _ ?_)); dsimp only; omega
  refine (dif_neg c5).trans ?_
  by_cases c6 : k.val - 128 - 128 - 128 - 128 - 128 - 128 < 128
  · refine (dif_pos c6).trans ((h6 _).trans (hU _ ?_)); dsimp only; omega
  refine (dif_neg c6).trans ?_
  refine (h7 _).trans (hU _ ?_); dsimp only; omega

/-- An expert's output of a block at an index, from the first product. -/
theorem yBlk_apply (x : Vec Ideal S512x1024 .bf16) (w1 : Vec Ideal S1024x2048 .bf16) (b1 : Vec Ideal S1x1x2048 .f32)
    (w2 : Vec Ideal S1024x1024 .bf16) (b2 : Vec Ideal S1x1x1024 .f32) (a : Fin 512) (d : Fin 1024) :
    (yBlk x w1 b1 w2 b2 : S512x1024.Idx → EReal) (ix2 a d)
      = ∑ k : Fin 1024, swi (k0_pay12 x w1 b1 (ix2 a (⟨256 * (k.val / 128) + k.val % 128, by omega⟩ : Fin 2048)))
            (k0_pay12 x w1 b1 (ix2 a (⟨256 * (k.val / 128) + 128 + k.val % 128, by omega⟩ : Fin 2048))) * w2 (ix2 k d)
          + b2 (ix3 (0 : Fin 1) (0 : Fin 1) d) := by
  have hu : ∀ (p q p' q' : Fin 2048), p.val = p'.val → q.val = q'.val →
      swi (k0_pay12 x w1 b1 (ix2 a p)) (k0_pay12 x w1 b1 (ix2 a q)) = swi (k0_pay12 x w1 b1 (ix2 a p')) (k0_pay12 x w1 b1 (ix2 a q')) :=
    fun p q p' q' h h' => by rw [Fin.ext h, Fin.ext h']
  unfold yBlk
  refine pay4_apply _ _ _ _ _ _ _ _ _ w2 b2 a d
    (fun k => swi (k0_pay12 x w1 b1 (ix2 a (⟨256 * (k.val / 128) + k.val % 128, by omega⟩ : Fin 2048)))
      (k0_pay12 x w1 b1 (ix2 a (⟨256 * (k.val / 128) + 128 + k.val % 128, by omega⟩ : Fin 2048)))) ?_ ?_ ?_ ?_ ?_ ?_ ?_ ?_
  · exact fun j => (pay13_apply x w1 b1 a j).trans (hu _ _ _ _ (by dsimp only; omega) (by dsimp only; omega))
  · exact fun j => (pay14_apply x w1 b1 a j).trans (hu _ _ _ _ (by dsimp only; omega) (by dsimp only; omega))
  · exact fun j => (pay16_apply x w1 b1 a j).trans (hu _ _ _ _ (by dsimp only; omega) (by dsimp only; omega))
  · exact fun j => (pay17_apply _ a j).trans (hu _ _ _ _ (by dsimp only; omega) (by dsimp only; omega))
  · exact fun j => (pay19_apply _ a j).trans (hu _ _ _ _ (by dsimp only; omega) (by dsimp only; omega))
  · exact fun j => (pay20_apply _ a j).trans (hu _ _ _ _ (by dsimp only; omega) (by dsimp only; omega))
  · exact fun j => (pay21_apply _ a j).trans (hu _ _ _ _ (by dsimp only; omega) (by dsimp only; omega))
  · exact fun j => (pay23_apply _ a j).trans (hu _ _ _ _ (by dsimp only; omega) (by dsimp only; omega))

end Cert.Kernel2Ideal.Hand

end
-- ==== Proof.ExpertGeom.lean ====
module

public import proofs.«01_k».proof.Proof.ExpertRun
public import proofs.«01_k».proof.Proof.ExpertPay
public import Idealize.ShloMosaic.Lib.Claim
public import Idealize.ShloMosaic.Lib.Pointwise

/-!
  Where the expert call's blocks lie in their arrays, and what the arrays hold when it is entered.
-/

@[expose] public section

set_option maxRecDepth 16384

noncomputable section

namespace Cert.Kernel2Ideal.Hand

open Cert.Kernel2Ideal Cert.Kernel2Ideal.Gen Cert.Expert
open Idealize.ShloMosaic Idealize.ShloMosaic.TcCoe Idealize.SL.Sem

attribute [local instance] Cert.Kernel2Ideal.Gen.facts

variable (m : (ℓ : Loc nD τ sig) → Buf (Elt Ideal) ℓ)
variable (a : (pcfg0 (F := Ideal)).Adm) (E : (c : Dev nD) → (b : Ref sig .tc) → Buf (Elt Ideal) ((c : Thread nD τ).loc b)) (hg : Good a.1)

/-- The number of points. -/
theorem lt296 (t : Fin (cfg0 a).N) : t.val < 296 := Nat.lt_of_lt_of_eq t.isLt N_0

/-- The rows' blocks follow the grid; the biases' are the expert's. -/
theorem index0 (t : Fin (cfg0 a).N) : (pcfg0.win a 0).index t = ![t.val, 0] :=
  congrArg (fun n : ℕ => (![n, 0] : Fin 2 → ℕ)) ((off_val (grid0.coords t)).trans (coord t))
theorem index6 (t : Fin (cfg0 a).N) : (pcfg0.win a 6).index t = ![t.val, 0] :=
  congrArg (fun n : ℕ => (![n, 0] : Fin 2 → ℕ)) ((off_val (grid0.coords t)).trans (coord t))
theorem index2 (t : Fin (cfg0 a).N) : (pcfg0.win a 2).index t = ![ex a.1 (grid0.coords t), 0, 0] := tr2 a.1 _
theorem index4 (t : Fin (cfg0 a).N) : (pcfg0.win a 4).index t = ![ex a.1 (grid0.coords t), 0, 0] := tr4 a.1 _

/-- A block's rows. -/
theorem iblk0 (c : Dev nD) (t : Fin (cfg0 a).N) (x : Fin 512) (y : Fin 1024) :
    (iblk a E c 0 t : S512x1024.Idx → EReal) (ix2 x y)
      = (E c main_v34 : S151552x1024.Idx → EReal) (ix2 (⟨512 * t.val + x.val, by have := lt296 a t; omega⟩ : Fin 151552) y) := by
  blk_simp [iblk]
  refine congrArg (E c main_v34 : S151552x1024.Idx → EReal) ?_
  blk_ext [index0]
  all_goals (erw [index0]; simp; try omega)

/-- A block's first bias. -/
theorem iblk2 (c : Dev nD) (t : Fin (cfg0 a).N) (n : Fin 2048) :
    (iblk a E c 2 t : S1x1x2048.Idx → EReal) (ix3 (0 : Fin 1) (0 : Fin 1) n)
      = (E c main_v33 : S32x1x2048.Idx → EReal) (ix3 (⟨ex a.1 (grid0.coords t), hg.lt _⟩ : Fin 32) (0 : Fin 1) n) := by
  blk_simp [iblk]
  refine congrArg (E c main_v33 : S32x1x2048.Idx → EReal) ?_
  blk_ext [index2]
  all_goals (erw [index2]; simp; try omega)

/-- A block's second bias. -/
theorem iblk4 (c : Dev nD) (t : Fin (cfg0 a).N) (n : Fin 1024) :
    (iblk a E c 4 t : S1x1x1024.Idx → EReal) (ix3 (0 : Fin 1) (0 : Fin 1) n)
      = (E c main_v35 : S32x1x1024.Idx → EReal) (ix3 (⟨ex a.1 (grid0.coords t), hg.lt _⟩ : Fin 32) (0 : Fin 1) n) := by
  blk_simp [iblk]
  refine congrArg (E c main_v35 : S32x1x1024.Idx → EReal) ?_
  blk_ext [index4]
  all_goals (erw [index4]; simp; try omega)

/-! ## The host's arrays -/

/-- The arguments as arrays. -/
abbrev argX (c : Dev nD) : S151552x1024.Idx → EReal := m ((c.tc : Thread nD τ).loc main_arg0)
abbrev argN (c : Dev nD) : S32.Idx → BitVec 32 := m ((c.tc : Thread nD τ).loc main_arg1)
abbrev argW1 (c : Dev nD) : S2x32x1024x2048.Idx → EReal := m ((c.tc : Thread nD τ).loc main_arg2)
abbrev argB1 (c : Dev nD) : S32x2048.Idx → EReal := m ((c.tc : Thread nD τ).loc main_arg3)
abbrev argW2 (c : Dev nD) : S2x32x1024x1024.Idx → EReal := m ((c.tc : Thread nD τ).loc main_arg4)
abbrev argB2 (c : Dev nD) : S32x1024.Idx → EReal := m ((c.tc : Thread nD τ).loc main_arg5)

/-- The rows handed to the call are the argument's. -/
theorem val_v34 (c : Dev nD) (i : Fin 151552) (j : Fin 1024) : (V m c main_v34 : S151552x1024.Idx → EReal) (ix2 i j) = argX m c (ix2 i j) := by
  have h : (V m c main_v34 : S151552x1024.Idx → EReal) = truncf (F := Ideal) (φ := .f32) .bf16 (argX m c) bitsLt_bf16_f32 := by after_reads_simp
  rw [h]
  pointwise

/-- The second bias is the argument's. -/
theorem val_v35 (c : Dev nD) (e : Fin 32) (j : Fin 1024) : (V m c main_v35 : S32x1x1024.Idx → EReal) (ix3 e (0 : Fin 1) j) = argB2 m c (ix2 e j) := by
  have h : (V m c main_v35 : S32x1x1024.Idx → EReal) = broadcastInDim S32x1x1024 ![0, 2] bcast_S32x1024_S32x1x1024_0_2 (argB2 m c) := by after_reads_simp
  rw [h]
  pointwise

/-- The host's regrouping of the first bias. -/
def regroup (b : FVec Ideal S32x2048 .f32) : FVec Ideal S32x1x2048 .f32 :=
  shapeCast S32x1x2048 (transpose S32x8x2x128 [0, 1, 3, 2] (shapeCast S32x8x128x2 b shapeCasts_S32x2048_S32x8x128x2)
    transposes_S32x8x128x2_S32x8x2x128_0_1_3_2) shapeCasts_S32x8x2x128_S32x1x2048

/-- The first bias is the argument's, within each group of 256 the even places first, then the odd. -/
theorem val_v33 (c : Dev nD) (e : Fin 32) (j : Fin 2048) : (V m c main_v33 : S32x1x2048.Idx → EReal) (ix3 e (0 : Fin 1) j)
    = argB1 m c (ix2 e (⟨256 * (j.val / 256) + 2 * (j.val % 128) + (j.val % 256) / 128, by omega⟩ : Fin 2048)) := by
  have h : (V m c main_v33 : S32x1x2048.Idx → EReal) = regroup (argB1 m c) := by
    unfold regroup
    after_reads_simp
    rfl
  rw [h]
  pointwise [regroup]
  refine congrArg (fun n : Fin 2048 => argB1 m c (ix2 e n)) (Fin.ext ?_)
  show j.val / 256 * 256 + j.val % 128 * 2 + j.val / 128 % 2 = 256 * (j.val / 256) + 2 * (j.val % 128) + (j.val % 256) / 128
  omega

/-- The column of a group a regrouped column comes from. -/
def src (s : ℕ) : ℕ := if s < 128 then 2 * s else 2 * (s - 128) + 1

/-- The host's 0/1 matrix. -/
def perm : FVec Ideal S256x256 .bf16 :=
  let col := iotaInDim S256x256 32 1
  let bc := fun n : BitVec 32 => broadcastInDim S256x256 ![] bcast_S_S256x256 (constantI S_ 32 n)
  truncf .bf16 (select (cmpi .eq (iotaInDim S256x256 32 0)
      (select (cmpi .slt col (bc 128#32)) (muli (bc 2#32) col) (addi (muli (bc 2#32) (subi col (bc 128#32))) (bc 1#32))))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

/-- The matrix handed to the call. -/
theorem val_v51 (c : Dev nD) : (V m c main_v51 : S256x256.Idx → EReal) = perm := by
  unfold perm
  after_reads_simp
  rfl

/-- The column as the host computes it. -/
theorem src_word : ∀ s : Fin 256, Scalar.select (IntOp.cmpi CmpIPredicate.slt (BitVec.ofNat 32 s.val) 128#32)
      (IntOp.muli (2#32) (BitVec.ofNat 32 s.val))
      (IntOp.addi (IntOp.muli (2#32) (IntOp.subi (BitVec.ofNat 32 s.val) 128#32)) 1#32) = BitVec.ofNat 32 (src s.val) := by
  decide +kernel
theorem src_lt : ∀ s : Fin 256, src s.val < 256 := by decide +kernel

/-- Equality of two small words. -/
theorem eq_word (r s : ℕ) (hr : r < 256) (hs : s < 256) :
    IntOp.cmpi CmpIPredicate.eq (BitVec.ofNat 32 r) (BitVec.ofNat 32 s) = if r = s then 1#1 else 0#1 := by
  have h : (BitVec.ofNat 32 r = BitVec.ofNat 32 s) ↔ r = s := by
    rw [← BitVec.toNat_inj, BitVec.toNat_ofNat, BitVec.toNat_ofNat]; omega
  show BitVec.ofBool (BitVec.ofNat 32 r == BitVec.ofNat 32 s) = _
  by_cases c : r = s
  · subst c; simp
  · rw [if_neg c, beq_eq_false_iff_ne.2 (fun e => c (h.1 e))]; rfl

/-- The matrix has a one where the row is the column's source. -/
theorem perm_apply (r s : Fin 256) : @Eq EReal (perm (ix2 r s)) (if r.val = src s.val then 1 else 0) := by
  pointwise [perm]
  rw [src_word, eq_word _ _ r.isLt (src_lt s)]
  split <;> rfl

end Cert.Kernel2Ideal.Hand

end
-- ==== Proof.ExpertValue.lean ====
module

public import proofs.«01_k».proof.Proof.ExpertGeom
public import proofs.«01_k».proof.Proof.ExpertLaunch
public import Idealize.ShloMosaic.Lib.Pipeline.ValueKit

/-!
  The expert call's result, element by element.
-/

@[expose] public section

set_option maxRecDepth 16384
set_option maxHeartbeats 4000000

noncomputable section

namespace Cert.Kernel2Ideal.Hand

open Cert.Kernel2Ideal Cert.Kernel2Ideal.Gen Cert.Expert
open Idealize.ShloMosaic Idealize.ShloMosaic.TcCoe Idealize.SL.Sem

attribute [local instance] Cert.Kernel2Ideal.Gen.facts

/-- A regrouped column of the first weights is one of their columns: the sum with the 0/1 matrix keeps one term. -/
theorem w1p_perm (x : S1x1x1024x2048.Idx → EReal) (k : Fin 1024) (n : Fin 2048) :
    (w1p (F := Ideal) x perm : S1024x2048.Idx → EReal) (ix2 k n)
      = x (ix4 (0 : Fin 1) (0 : Fin 1) k (⟨256 * (n.val / 256) + src (n.val % 256), by
          have := src_lt ⟨n.val % 256, Nat.mod_lt _ (by decide)⟩; dsimp only at this; omega⟩ : Fin 2048)) := by
  have hs := src_lt ⟨n.val % 256, Nat.mod_lt _ (by decide)⟩
  rw [w1p_apply]
  refine (Finset.sum_eq_single (⟨src (n.val % 256), hs⟩ : Fin 256) (fun r _ hr => ?_) (fun h => absurd (Finset.mem_univ _) h)).trans ?_
  · rw [perm_apply, if_neg (fun h => hr (Fin.ext h)), mul_zero]
  · rw [perm_apply, if_pos rfl, mul_one]

/-- An expert's output of a block's row at a column, its weights and biases as the call has them. -/
theorem yBlk_out (x : S512x1024.Idx → EReal) (w1 : S1x1x1024x2048.Idx → EReal) (b1 : S1x1x2048.Idx → EReal) (w2 : S1x1x1024x1024.Idx → EReal)
    (b2 : S1x1x1024.Idx → EReal) (a : Fin 512) (d : Fin 1024)
    (X : Fin 1024 → EReal) (W1 : Fin 1024 → Fin 2048 → EReal) (B1 : Fin 2048 → EReal) (W2 : Fin 1024 → Fin 1024 → EReal) (B2 : Fin 1024 → EReal)
    (hX : ∀ k, x (ix2 a k) = X k) (hW1 : ∀ k n, w1 (ix4 (0 : Fin 1) (0 : Fin 1) k n) = W1 k n)
    (hB1 : ∀ n : Fin 2048, b1 (ix3 (0 : Fin 1) (0 : Fin 1) n) = B1 ⟨256 * (n.val / 256) + 2 * (n.val % 128) + (n.val % 256) / 128, by omega⟩)
    (hW2 : ∀ k n, w2 (ix4 (0 : Fin 1) (0 : Fin 1) k n) = W2 k n) (hB2 : ∀ n, b2 (ix3 (0 : Fin 1) (0 : Fin 1) n) = B2 n) :
    (yBlk (F := Ideal) x (w1p (F := Ideal) w1 perm) b1 (k0_pay3 (F := Ideal) w2) b2 : S512x1024.Idx → EReal) (ix2 a d) = out X W1 B1 W2 B2 d := by
  have hu : ∀ (n n' : Fin 2048), n'.val = 256 * (n.val / 256) + src (n.val % 256) →
      256 * (n.val / 256) + 2 * (n.val % 128) + (n.val % 256) / 128 = n'.val →
      (k0_pay12 (F := Ideal) x (w1p (F := Ideal) w1 perm) b1 : S512x2048.Idx → EReal) (ix2 a n) = pre X W1 B1 n' := by
    intro n n' h h'
    rw [pay12_apply, pre]
    simp only [w1p_perm, hX, hW1, hB1]
    rw [show (⟨256 * (n.val / 256) + 2 * (n.val % 128) + (n.val % 256) / 128, by omega⟩ : Fin 2048) = n' from Fin.ext h']
    simp only [← h]
  rw [yBlk_apply, out]
  simp only [pay3_apply, hW2, hB2]
  refine congrArg (fun s : EReal => s + B2 d) ?_
  refine Finset.sum_congr (M := EReal) rfl fun k _ => congrArg (fun s : EReal => s * W2 k d) ?_
  have hk : k.val < 1024 := k.isLt
  rw [hu _ ⟨2 * k.val, by omega⟩ ?_ ?_, hu _ ⟨2 * k.val + 1, by omega⟩ ?_ ?_]
  · dsimp only; unfold src; split <;> omega
  · dsimp only; omega
  · dsimp only; unfold src; split <;> omega
  · dsimp only; omega

variable (m : (ℓ : Loc nD τ sig) → Buf (Elt Ideal) ℓ)

/-- A block's expert. -/
def exOf (pe : IVec S32 32) (t : Fin 296) : Fin 32 := ⟨(beT pe (ix1 t)).toNat, be_lt pe t⟩

/-- The result at row `r` and column `d`: the row's block's expert's output if the block is active, else zero. -/
def res2 (pe : IVec S32 32) (c : Dev nD) (r : Fin 151552) (d : Fin 1024) : EReal :=
  if actT pe (ix1 (⟨r.val / 512, by omega⟩ : Fin 296)) = 1#32 then
    out (fun k => argX m c (ix2 r k)) (fun k n => argW1 m c (ix4 (0 : Fin 2) (exOf pe ⟨r.val / 512, by omega⟩) k n))
      (fun n => argB1 m c (ix2 (exOf pe ⟨r.val / 512, by omega⟩) n)) (fun k n => argW2 m c (ix4 (0 : Fin 2) (exOf pe ⟨r.val / 512, by omega⟩) k n))
      (fun n => argB2 m c (ix2 (exOf pe ⟨r.val / 512, by omega⟩) n)) d
  else 0

def res (pe : IVec S32 32) (c : Dev nD) (i : S151552x1024.Idx) : EReal := res2 m pe c (i 0) (i 1)

/-- The result at a row of block `j`. -/
theorem res2_of (pe : IVec S32 32) (c : Dev nD) (r : Fin 151552) (d : Fin 1024) (j : Fin 296) (hj : r.val / 512 = j.val) :
    (if actT pe (ix1 j) = 1#32 then
      out (fun k => argX m c (ix2 r k)) (fun k n => argW1 m c (ix4 (0 : Fin 2) (exOf pe j) k n)) (fun n => argB1 m c (ix2 (exOf pe j) n))
        (fun k n => argW2 m c (ix4 (0 : Fin 2) (exOf pe j) k n)) (fun n => argB2 m c (ix2 (exOf pe j) n)) d
    else 0) = res m pe c (ix2 r d) := by
  obtain ⟨j, h⟩ := j
  have e : r.val / 512 = j := hj
  subst e
  rfl

section Block

variable (a : (pcfg0 (F := Ideal)).Adm) (E : (c : Dev nD) → (b : Ref sig .tc) → Buf (Elt Ideal) ((c : Thread nD τ).loc b))

/-- A block at a place, from what the arrays and the tables hold. -/
theorem yAt_apply (hg : Good a.1) (c : Dev nD) (t : Fin (cfg0 a).N) (x : Fin 512) (d : Fin 1024) (w : BitVec 32) (e : Fin 32) (r : Fin 151552)
    (X : S151552x1024.Idx → EReal) (W1 : S2x32x1024x2048.Idx → EReal) (B1 : S32x2048.Idx → EReal) (W2 : S2x32x1024x1024.Idx → EReal) (B2 : S32x1024.Idx → EReal)
    (hw : word (F := Ideal) (a.1 1) (grid0.coords t) = w) (he : ex a.1 (grid0.coords t) = e.val) (hr : r.val = 512 * t.val + x.val)
    (hX : ∀ i j, (E c main_v34 : S151552x1024.Idx → EReal) (ix2 i j) = X (ix2 i j))
    (hW1 : (E c main_arg2 : S2x32x1024x2048.Idx → EReal) = W1)
    (hB1 : ∀ (e : Fin 32) (j : Fin 2048), (E c main_v33 : S32x1x2048.Idx → EReal) (ix3 e (0 : Fin 1) j)
      = B1 (ix2 e (⟨256 * (j.val / 256) + 2 * (j.val % 128) + (j.val % 256) / 128, by omega⟩ : Fin 2048)))
    (hW2 : (E c main_arg4 : S2x32x1024x1024.Idx → EReal) = W2)
    (hB2 : ∀ (e : Fin 32) (j : Fin 1024), (E c main_v35 : S32x1x1024.Idx → EReal) (ix3 e (0 : Fin 1) j) = B2 (ix2 e j))
    (hP : (E c main_v51 : S256x256.Idx → EReal) = perm) :
    (yAt a E c t : S512x1024.Idx → EReal) (ix2 x d) = if w = 1#32 then
      out (fun k => X (ix2 r k)) (fun k n => W1 (ix4 (0 : Fin 2) e k n)) (fun n => B1 (ix2 e n)) (fun k n => W2 (ix4 (0 : Fin 2) e k n))
        (fun n => B2 (ix2 e n)) d else 0 := by
  have he' : (⟨ex a.1 (grid0.coords t), hg.lt _⟩ : Fin 32) = e := Fin.ext he
  unfold yAt outBlk
  rw [hw]
  split
  · unfold w1At w2At
    rw [iblk1 a E hg c t, iblk3 a E hg c t, iblk5 a E c t, hP, hW1, hW2, he']
    refine yBlk_out _ _ _ _ _ x d _ _ _ _ _ ?_ ?_ ?_ ?_ ?_
    · intro k
      rw [iblk0, hX]
      exact congrArg (fun i : Fin 151552 => X (ix2 i k)) (Fin.ext hr.symm)
    · intro k n
      rfl
    · intro n
      rw [iblk2 a E hg c t, hB1, he']
    · intro k n
      rfl
    · intro n
      rw [iblk4 a E hg c t, hB2, he']
  · exact pay5_apply x d

/-- Every block is written back. -/
theorem flush6 (t : Fin (cfg0 a).N) : (pcfg0.win a 6).flush t = true := by
  unfold Pipeline.Window.flush
  refine Bool.and_eq_true_iff.2 ⟨rfl, ?_⟩
  by_cases h : t.val + 1 = (cfg0 a).N
  · exact Bool.or_eq_true_iff.2 (.inl (decide_eq_true h))
  · refine Bool.or_eq_true_iff.2 (.inr (decide_eq_true ⟨lt_of_le_of_ne t.isLt h, fun e => ?_⟩))
    have := congrFun ((index6 a _).symm.trans (e.trans (index6 a t))) 0
    simp at this

/-- Every element of the result lies in a written block. -/
theorem cover6 (i : S151552x1024.Idx) : ∃ t : Fin (cfg0 a).N, ((cfg0 a).win 6).flush t = true ∧ i ∈ (((cfg0 a).win 6).blk t).view.set := by
  have h0 : (i 0).val < 151552 := (i 0).isLt
  have h1 : (i 1).val < 1024 := (i 1).isLt
  refine ⟨⟨(i 0).val / 512, by rw [show (cfg0 a).N = 296 from N_0]; omega⟩, flush6 a _, ?_⟩
  refine (((cfg0 a).win 6).emb_mem_blk_iff _ i rfl).2 fun ax => ?_
  have e := fun ax => congrFun (index6 a ⟨(i 0).val / 512, by rw [show (cfg0 a).N = 296 from N_0]; omega⟩) ax
  have e0 := e 0
  have e1 := e 1
  match ax with
  | ⟨0, _⟩ =>
    refine ⟨(congrArg (fun n => n * 512) e0).le.trans ?_, lt_of_lt_of_eq ?_ (congrArg (fun n => n * 512 + 512) e0).symm⟩
    · show (i 0).val / 512 * 512 ≤ (i 0).val
      omega
    · show (i 0).val < (i 0).val / 512 * 512 + 512
      omega
  | ⟨1, _⟩ =>
    refine ⟨(congrArg (fun n => n * 1024) e1).le.trans ?_, lt_of_lt_of_eq ?_ (congrArg (fun n => n * 1024 + 1024) e1).symm⟩
    · show 0 * 1024 ≤ (i 1).val
      omega
    · show (i 1).val < 0 * 1024 + 1024
      omega

/-- What a written block reads of an array. -/
theorem read6 (f : S151552x1024.Idx → EReal) (t : Fin (cfg0 a).N) (x : Fin 512) (y : Fin 1024) :
    ((((cfg0 a).win 6).blk t).view.read (Elt Ideal) f : S512x1024.Idx → EReal) (ix2 x y)
      = f (ix2 (⟨512 * t.val + x.val, by have := lt296 a t; omega⟩ : Fin 151552) y) := by
  blk_simp
  refine congrArg f ?_
  blk_ext [index6]
  all_goals (erw [index6]; simp; try omega)

/-- The result array after the last point. -/
def arrV (c : Dev nD) : S151552x1024.Idx → EReal := (dats a E c).arrAt 6 (cfg0 a).N

/-- The result array is what every block is, laid out. -/
theorem arr_of (c : Dev nD) (G : S151552x1024.Idx → EReal)
    (h : ∀ (t : Fin (cfg0 a).N) (x : Fin 512) (y : Fin 1024), (yAt a E c t : S512x1024.Idx → EReal) (ix2 x y)
      = G (ix2 (⟨512 * t.val + x.val, by have := lt296 a t; omega⟩ : Fin 151552) y)) :
    arrV a E c = G := by
  refine (dats a E c).arrAt_eq_of_emb 6 _ (fun t hf (y : S512x1024.Idx) => ?_) (cover6 a)
  idx_vars y
  exact (h t y0 y1).trans (read6 a G t y0 y1).symm

/-- The result array, from what the arrays and the tables hold. -/
theorem arr_gen (hg : Good a.1) (pe : IVec S32 32)
    (hact : ∀ (t : Fin (cfg0 a).N) (j : Fin 296), t.val = j.val → word (F := Ideal) (a.1 1) (grid0.coords t) = actT pe (ix1 j))
    (hex : ∀ (t : Fin (cfg0 a).N) (j : Fin 296), t.val = j.val → ex a.1 (grid0.coords t) = (exOf pe j).val) (c : Dev nD)
    (hX : ∀ i j, (E c main_v34 : S151552x1024.Idx → EReal) (ix2 i j) = argX m c (ix2 i j))
    (hW1 : (E c main_arg2 : S2x32x1024x2048.Idx → EReal) = argW1 m c)
    (hB1 : ∀ (e : Fin 32) (j : Fin 2048), (E c main_v33 : S32x1x2048.Idx → EReal) (ix3 e (0 : Fin 1) j)
      = argB1 m c (ix2 e (⟨256 * (j.val / 256) + 2 * (j.val % 128) + (j.val % 256) / 128, by omega⟩ : Fin 2048)))
    (hW2 : (E c main_arg4 : S2x32x1024x1024.Idx → EReal) = argW2 m c)
    (hB2 : ∀ (e : Fin 32) (j : Fin 1024), (E c main_v35 : S32x1x1024.Idx → EReal) (ix3 e (0 : Fin 1) j) = argB2 m c (ix2 e j))
    (hP : (E c main_v51 : S256x256.Idx → EReal) = perm) : arrV a E c = res m pe c := by
  refine arr_of a E c _ fun t x y => ?_
  have ht := lt296 a t
  have hx : x.val < 512 := x.isLt
  refine Eq.trans ?_ (res2_of m pe c ⟨512 * t.val + x.val, by omega⟩ y ⟨t.val, ht⟩ (by show (512 * t.val + x.val) / 512 = t.val; omega))
  exact yAt_apply a E hg c t x y _ _ _ _ _ _ _ _ (hact t ⟨t.val, ht⟩ rfl) (hex t ⟨t.val, ht⟩ rfl) rfl hX hW1 hB1 hW2 hB2 hP

end Block

/-- The tables at a point, at the point's number. -/
theorem act_at (t : Fin (cfg0 (adm m 0)).N) (j : Fin 296) (hj : t.val = j.val) :
    word (F := Ideal) (tables m 1) (grid0.coords t) = actT (peV m dev0) (ix1 j) :=
  (word_act m _).trans (congrArg (fun j : Fin 296 => actT (peV m dev0) (ix1 j)) (Fin.ext ((coord t).trans hj)))
theorem ex_at (t : Fin (cfg0 (adm m 0)).N) (j : Fin 296) (hj : t.val = j.val) :
    ex (tables m) (grid0.coords t) = (exOf (peV m dev0) j).val := by
  have h : word (F := Ideal) (tables m 0) (grid0.coords t) = beT (peV m dev0) (ix1 j) :=
    (word_be m _).trans (congrArg (fun j : Fin 296 => beT (peV m dev0) (ix1 j)) (Fin.ext ((coord t).trans hj)))
  unfold exOf
  exact congrArg BitVec.toNat h

/-- The result array, element by element. -/
theorem arr_eq : arrV (adm m 0) (V m) dev0 = res m (peV m dev0) dev0 :=
  arr_gen m (adm m 0) (V m) (good_tables m) (peV m dev0) (act_at m) (ex_at m) dev0
    (val_v34 m dev0) (V_arg2 m dev0) (val_v33 m dev0) (V_arg4 m dev0) (val_v35 m dev0) (val_v51 m dev0)

end Cert.Kernel2Ideal.Hand

end
-- ==== Proof.ExpertGather.lean ====
module

public import proofs.«01_k».proof.Proof.ExpertRef

/-!
  The reference's lookups of an expert's weights and biases, read at an index.
-/

@[expose] public section

set_option maxRecDepth 16384

noncomputable section

namespace Cert.Reference2Ideal.Hand

open Cert.Reference2Ideal Cert.Reference2Ideal.Gen
open Idealize.ShloMosaic

attribute [local instance] Cert.Reference2Ideal.Gen.facts

/-- A lookup of matrices by expert. -/
abbrev matDims (n : ℕ) (wf : GatherDims.WF ⟨3, ![32, 1024, n]⟩ ⟨2, ![296, 1]⟩ ⟨3, ![296, 1024, n]⟩ [1, 2] [0] [] [0] [] 1 ![1, 1024, n]) :
    GatherDims ⟨3, ![32, 1024, n]⟩ ⟨2, ![296, 1]⟩ ⟨3, ![296, 1024, n]⟩ where
  offsetDims := [1, 2]
  collapsedSliceDims := [0]
  operandBatchingDims := []
  startIndicesBatchingDims := []
  startIndexMap := [0]
  indexVectorDim := 1
  sliceSizes := ![1, 1024, n]
  wf := wf

/-- A lookup of rows by expert. -/
abbrev rowDims (n : ℕ) (wf : GatherDims.WF ⟨2, ![32, n]⟩ ⟨2, ![296, 1]⟩ ⟨2, ![296, n]⟩ [1] [0] [] [0] [] 1 ![1, n]) :
    GatherDims ⟨2, ![32, n]⟩ ⟨2, ![296, 1]⟩ ⟨2, ![296, n]⟩ where
  offsetDims := [1]
  collapsedSliceDims := [0]
  operandBatchingDims := []
  startIndicesBatchingDims := []
  startIndexMap := [0]
  indexVectorDim := 1
  sliceSizes := ![1, n]
  wf := wf

/-- The matrix looked up is the expert's. -/
theorem mat_apply (n : ℕ) (wf : GatherDims.WF ⟨3, ![32, 1024, n]⟩ ⟨2, ![296, 1]⟩ ⟨3, ![296, 1024, n]⟩ [1, 2] [0] [] [0] [] 1 ![1, 1024, n])
    (x : (⟨3, ![32, 1024, n]⟩ : Shape).Idx → EReal) (idx : IVec S296x1 32) (t : Fin 296) (k : Fin 1024) (j : Fin n) (e : Fin 32)
    (he : min (idx (ix2 t (0 : Fin 1))).toInt.toNat 31 = e.val) :
    Host.gather (matDims n wf) x idx (ix3 t k j) = x (ix3 e k j) := by
  unfold Host.gather
  refine congrArg x (funext fun a => Fin.ext ?_)
  have hsi : (matDims n wf).siIdx (ix3 t k j) ⟨List.idxOf (0 : Fin 3) (matDims n wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  match a with
  | ⟨0, _⟩ =>
    have h0 : (matDims n wf).start (ix3 t k j) idx 0 = e.val := (congrArg (fun i => min (idx i).toInt.toNat 31) hsi).trans he
    exact congrArg (fun s : ℕ => s + 0 + 0) h0
  | ⟨1, _⟩ =>
    exact (Nat.zero_add _).trans rfl
  | ⟨2, _⟩ =>
    exact (Nat.zero_add _).trans rfl

/-- The row looked up is the expert's. -/
theorem row_apply (n : ℕ) (wf : GatherDims.WF ⟨2, ![32, n]⟩ ⟨2, ![296, 1]⟩ ⟨2, ![296, n]⟩ [1] [0] [] [0] [] 1 ![1, n])
    (x : (⟨2, ![32, n]⟩ : Shape).Idx → EReal) (idx : IVec S296x1 32) (t : Fin 296) (j : Fin n) (e : Fin 32)
    (he : min (idx (ix2 t (0 : Fin 1))).toInt.toNat 31 = e.val) :
    Host.gather (rowDims n wf) x idx (ix2 t j) = x (ix2 e j) := by
  unfold Host.gather
  refine congrArg x (funext fun a => Fin.ext ?_)
  have hsi : (rowDims n wf).siIdx (ix2 t j) ⟨List.idxOf (0 : Fin 2) (rowDims n wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  match a with
  | ⟨0, _⟩ =>
    have h0 : (rowDims n wf).start (ix2 t j) idx 0 = e.val := (congrArg (fun i => min (idx i).toInt.toNat 31) hsi).trans he
    exact congrArg (fun s : ℕ => s + 0 + 0) h0
  | ⟨1, _⟩ =>
    exact (Nat.zero_add _).trans rfl

/-- The lookups' index, for an expert below 32, is the expert. -/
theorem gix_val (be : IVec S296 32) (t : Fin 296) (h : (be (ix1 t)).toNat < 32) :
    min (gix be (ix2 t (0 : Fin 1))).toInt.toNat 31 = (be (ix1 t)).toNat := by
  have e : gix be (ix2 t (0 : Fin 1)) = Scalar.select (IntOp.cmpi .slt (be (ix1 t)) 0#32) (IntOp.addi (be (ix1 t)) 32#32) (be (ix1 t)) := by
    pointwise [gix]
  rw [e]
  generalize be (ix1 t) = b at h ⊢
  obtain ⟨n, hn, rfl⟩ : ∃ n : ℕ, n < 32 ∧ b = BitVec.ofNat 32 n := ⟨b.toNat, h, by simp⟩
  have : ∀ n : Fin 32, min (Scalar.select (IntOp.cmpi .slt (BitVec.ofNat 32 n.val) 0#32) (IntOp.addi (BitVec.ofNat 32 n.val) 32#32) (BitVec.ofNat 32 n.val)).toInt.toNat 31
      = (BitVec.ofNat 32 n.val).toNat := by decide +kernel
  exact this ⟨n, hn⟩

end Cert.Reference2Ideal.Hand

end
-- ==== Proof.ExpertRefValue.lean ====
module

public import proofs.«01_k».proof.Proof.ExpertGather
public import proofs.«01_k».proof.Proof.ExpertPay

/-!
  The expert reference's result, element by element.
-/

@[expose] public section

set_option maxRecDepth 16384

noncomputable section

namespace Cert.Reference2Ideal.Hand

open Cert.Reference2Ideal Cert.Reference2Ideal.Gen Cert.Expert
open Idealize.ShloMosaic

attribute [local instance] Cert.Reference2Ideal.Gen.facts

/-- The first product at an index, of any weights and biases per block. -/
theorem first_of (x : FVec Ideal S151552x1024 .f32) (W : FVec Ideal S296x1024x2048 .f32) (B : FVec Ideal S296x2048 .f32)
    (t : Fin 296) (a : Fin 512) (n : Fin 2048) :
    (addf (Host.dotGeneral dot_S296x512x1024_S296x1024x2048_S296x512x2048_2_1_1_2_0_0 none (shapeCast S296x512x1024 x shapeCasts_S151552x1024_S296x512x1024) W)
      (broadcastInDim S296x512x2048 ![0, 1, 2] bcast_S296x1x2048_S296x512x2048_0_1_2 (broadcastInDim S296x1x2048 ![0, 2] bcast_S296x2048_S296x1x2048_0_2 B))
      : FVec Ideal S296x512x2048 .f32) (ix3 t a n)
      = ∑ k : Fin 1024, x (ix2 (⟨t.val * 512 + a.val, by omega⟩ : Fin 151552) k) * W (ix3 t k n) + B (ix2 t n) := by
  pointwise

/-- The second product at an index, of any weights and biases per block. -/
theorem second_of (h : FVec Ideal S296x512x1024 .f32) (W : FVec Ideal S296x1024x1024 .f32) (B : FVec Ideal S296x1024 .f32)
    (t : Fin 296) (a : Fin 512) (n : Fin 1024) :
    (addf (Host.dotGeneral dot_S296x512x1024_S296x1024x1024_S296x512x1024_2_1_1_2_0_0 none h W)
      (broadcastInDim S296x512x1024 ![0, 1, 2] bcast_S296x1x1024_S296x512x1024_0_1_2 (broadcastInDim S296x1x1024 ![0, 2] bcast_S296x1024_S296x1x1024_0_2 B))
      : FVec Ideal S296x512x1024 .f32) (ix3 t a n)
      = ∑ k : Fin 1024, h (ix3 t a k) * W (ix3 t k n) + B (ix2 t n) := by
  pointwise

/-- The weights of layer 0. -/
theorem layer_w1 (w : FVec Ideal S2x32x1024x2048 .f32) (e : Fin 32) (k : Fin 1024) (n : Fin 2048) :
    (shapeCast S32x1024x2048 (extractStridedSlice S1x32x1024x2048 ![0, 0, 0, 0] w slices_S2x32x1024x2048_S1x32x1024x2048_0_0_0_0) shapeCasts_S1x32x1024x2048_S32x1024x2048
      : FVec Ideal S32x1024x2048 .f32) (ix3 e k n) = w (ix4 (0 : Fin 2) e k n) := by
  pointwise
theorem layer_w2 (w : FVec Ideal S2x32x1024x1024 .f32) (e : Fin 32) (k n : Fin 1024) :
    (shapeCast S32x1024x1024 (extractStridedSlice S1x32x1024x1024 ![0, 0, 0, 0] w slices_S2x32x1024x1024_S1x32x1024x1024_0_0_0_0) shapeCasts_S1x32x1024x1024_S32x1024x1024
      : FVec Ideal S32x1024x1024 .f32) (ix3 e k n) = w (ix4 (0 : Fin 2) e k n) := by
  pointwise

/-- The activation at an index. -/
theorem gated_apply (u : FVec Ideal S296x512x2048 .f32) (t : Fin 296) (a : Fin 512) (k : Fin 1024) :
    gated u (ix3 t a k) = swi (u (ix3 t a (⟨2 * k.val, by omega⟩ : Fin 2048))) (u (ix3 t a (⟨2 * k.val + 1, by omega⟩ : Fin 2048))) := by
  unfold swi
  have e : (⟨2 * k.val + 1, by omega⟩ : Fin 2048) = ⟨1 + 2 * k.val, by omega⟩ := Fin.ext (Nat.add_comm _ _)
  rw [e]
  pointwise [gated]
  rfl

/-- The zeroed result at an index. -/
theorem masked_apply (y : FVec Ideal S296x512x1024 .f32) (pe : IVec S32 32) (r : Fin 151552) (d : Fin 1024) :
    masked y pe (ix2 r d) = Scalar.select (IntOp.cmpi .slt (starts (ix1 (⟨r.val / 512, by omega⟩ : Fin 296))) (pe (ix1 (31 : Fin 32))))
      (y (ix3 (⟨r.val / 512, by omega⟩ : Fin 296) (⟨r.val % 512, by omega⟩ : Fin 512) d)) (0 : EReal) := by
  pointwise [masked, starts]

/-- The first product at an index: the block's expert's. -/
theorem first_apply (x : FVec Ideal S151552x1024 .f32) (i : IVec S296x1 32) (w : FVec Ideal S2x32x1024x2048 .f32) (b : FVec Ideal S32x2048 .f32)
    (t : Fin 296) (a : Fin 512) (n : Fin 2048) (e : Fin 32) (he : min (i (ix2 t (0 : Fin 1))).toInt.toNat 31 = e.val) (r : Fin 151552)
    (hr : r.val = t.val * 512 + a.val) :
    first x i w b (ix3 t a n) = pre (fun k => x (ix2 r k)) (fun k n => w (ix4 (0 : Fin 2) e k n)) (fun n => b (ix2 e n)) n := by
  have e' : (⟨t.val * 512 + a.val, by omega⟩ : Fin 151552) = r := Fin.ext hr.symm
  refine (first_of x _ _ t a n).trans ?_
  rw [e', pre]
  refine congrArg₂ (fun s u : EReal => s + u) (Finset.sum_congr (M := EReal) rfl fun k _ => congrArg (fun u : EReal => x (ix2 r k) * u) ?_) ?_
  · exact (mat_apply 2048 _ _ i t k n e he).trans (layer_w1 w e k n)
  · exact row_apply 2048 _ b i t n e he

/-- The second product at an index: the block's expert's. -/
theorem second_apply (h : FVec Ideal S296x512x1024 .f32) (i : IVec S296x1 32) (w : FVec Ideal S2x32x1024x1024 .f32) (b : FVec Ideal S32x1024 .f32)
    (t : Fin 296) (a : Fin 512) (n : Fin 1024) (e : Fin 32) (he : min (i (ix2 t (0 : Fin 1))).toInt.toNat 31 = e.val) :
    second h i w b (ix3 t a n) = ∑ k : Fin 1024, h (ix3 t a k) * w (ix4 (0 : Fin 2) e k n) + b (ix2 e n) := by
  refine (second_of h _ _ t a n).trans ?_
  refine congrArg₂ (fun s u : EReal => s + u) (Finset.sum_congr (M := EReal) rfl fun k _ => congrArg (fun u : EReal => h (ix3 t a k) * u) ?_) ?_
  · exact (mat_apply 1024 _ _ i t k n e he).trans (layer_w2 w e k n)
  · exact row_apply 1024 _ b i t n e he

/-- The result at an index: the output of the row's block's expert if the block begins before the last expert's end, else zero. -/
theorem result_apply (x : FVec Ideal S151552x1024 .f32) (n : IVec S32 32) (w1 : FVec Ideal S2x32x1024x2048 .f32) (b1 : FVec Ideal S32x2048 .f32)
    (w2 : FVec Ideal S2x32x1024x1024 .f32) (b2 : FVec Ideal S32x1024 .f32) (r : Fin 151552) (d : Fin 1024) (t : Fin 296) (ht : r.val / 512 = t.val)
    (e : Fin 32) (he : (expert (ends n) (ix1 t)).toNat = e.val) :
    result x n w1 b1 w2 b2 (ix2 r d) = Scalar.select (IntOp.cmpi .slt (starts (ix1 t)) (ends n (ix1 (31 : Fin 32))))
      (out (fun k => x (ix2 r k)) (fun k n => w1 (ix4 (0 : Fin 2) e k n)) (fun n => b1 (ix2 e n)) (fun k n => w2 (ix4 (0 : Fin 2) e k n))
        (fun n => b2 (ix2 e n)) d) (0 : EReal) := by
  have et : (⟨r.val / 512, by omega⟩ : Fin 296) = t := Fin.ext ht
  have hg : min (gix (expert (ends n)) (ix2 t (0 : Fin 1))).toInt.toNat 31 = e.val := (gix_val _ t (by rw [he]; exact e.isLt)).trans he
  unfold result
  rw [masked_apply, et]
  refine congrArg (fun u : EReal => Scalar.select (IntOp.cmpi .slt (starts (ix1 t)) (ends n (ix1 (31 : Fin 32)))) u (0 : EReal)) ?_
  refine (second_apply _ _ w2 b2 t _ d e hg).trans ?_
  rw [out]
  refine congrArg (fun s : EReal => s + b2 (ix2 e d)) (Finset.sum_congr (M := EReal) rfl fun k _ => congrArg (fun u : EReal => u * w2 (ix4 (0 : Fin 2) e k d)) ?_)
  have hr : r.val = t.val * 512 + r.val % 512 := by omega
  rw [gated_apply, first_apply x _ w1 b1 t _ _ e hg r hr, first_apply x _ w1 b1 t _ _ e hg r hr]

end Cert.Reference2Ideal.Hand

end
-- ==== Proof.ExpertEnds.lean ====
module

public import proofs.«01_k».proof.Proof.ExpertTables
public import proofs.«01_k».proof.Proof.ExpertRef

/-!
  Both hosts make the same padded ends of the counts.
-/

@[expose] public section

set_option maxRecDepth 16384
set_option maxHeartbeats 1000000

noncomputable section

open Idealize.ShloMosaic Idealize.ShloMosaic.TcCoe Idealize.SL.Sem

attribute [local instance] Cert.Kernel2Ideal.Gen.facts Cert.Reference2Ideal.Gen.facts

namespace Cert.Kernel2Ideal.Hand

open Cert.Kernel2Ideal Cert.Kernel2Ideal.Gen

variable {F : FTy → Type} [FloatOps F]

/-- The operations after the ends leave them. -/
theorem tail_ends (W : Valuation τ sig (Elt F)) :
    (StableHlo.after tailOps W (main_v7 : Ref sig .tc) : S32.Idx → BitVec 32) = W (main_v7 : Ref sig .tc) := by
  after_reads_simp

/-- The operations up to the padded ends make them of the counts as the reference does. -/
theorem head_ends (W : Valuation τ sig (Elt F)) :
    (StableHlo.after ([hostOps0, hostOps0_1, hostOps0_2, hostOps0_3] : List (List (HloOp τ sig (Elt F)))).flatten W (main_v7 : Ref sig .tc) : S32.Idx → BitVec 32)
      = Cert.Reference2Ideal.Hand.ends (W (main_arg1 : Ref sig .tc)) := by
  after_reads_simp
  simp -implicitDefEqProofs only [StableHlo.TRef.toBuf, StableHlo.TRef.ofBuf, cast_cast, cast_eq, id_eq]
  unfold Cert.Reference2Ideal.Hand.ends Cert.Reference2Ideal.Hand.padded
  rfl

/-- The padded ends when the call is made. -/
theorem peV_eq (m : (ℓ : Loc nD τ sig) → Buf (Elt F) ℓ) (c : Dev nD) :
    peV m c = Cert.Reference2Ideal.Hand.ends (m ((c.tc : Thread nD τ).loc main_arg1) : S32.Idx → BitVec 32) := by
  unfold peV
  rw [V_split]
  exact (tail_ends _).trans (head_ends _)

end Cert.Kernel2Ideal.Hand

end
-- ==== Proof.ExpertAlgebraic.lean ====
module

public import proofs.«01_k».proof.Defs
public import proofs.«01_k».proof.Proof.ExpertValue
public import proofs.«01_k».proof.Proof.ExpertRefValue
public import proofs.«01_k».proof.Proof.ExpertEnds

/-!
  The expert call computes the reference's result over the extended reals.
-/

@[expose] public section

set_option maxRecDepth 16384
set_option maxHeartbeats 2000000

noncomputable section

open Idealize.ShloMosaic Idealize.ShloMosaic.TcCoe Idealize.SL.Sem

attribute [local instance] Cert.Kernel2Ideal.Gen.facts Cert.Reference2Ideal.Gen.facts

namespace Cert.Kernel2Ideal.Hand

open Cert.Kernel2Ideal Cert.Kernel2Ideal.Gen Cert.Expert

/-- A block is active if it begins before the last expert's end. -/
theorem actT_apply (pe : IVec S32 32) (t : Fin 296) :
    actT pe (ix1 t) = (IntOp.cmpi .slt (Cert.Reference2Ideal.Hand.starts (ix1 t)) (pe (ix1 (31 : Fin 32)))).zeroExtend 32 := by
  pointwise [actT, startT, Cert.Reference2Ideal.Hand.starts]

/-- A choice by a bit, and by the bit as a word. -/
theorem sel_bit (b : BitVec 1) (x y : EReal) : (if b.zeroExtend 32 = 1#32 then x else y) = Scalar.select b x y := by
  have h : ∀ b : BitVec 1, b = 0#1 ∨ b = 1#1 := by decide
  rcases h b with rfl | rfl
  · exact if_neg (by decide)
  · exact if_pos (by decide)

/-- The call's result is the reference's. -/
theorem res_eq (m : (ℓ : Loc nD τ sig) → Buf (Elt Ideal) ℓ) (c : Dev nD) (n : IVec S32 32) :
    res m (Cert.Reference2Ideal.Hand.ends n) c
      = Cert.Reference2Ideal.Hand.result (F := Ideal) (argX m c) n (argW1 m c) (argB1 m c) (argW2 m c) (argB2 m c) := by
  funext y
  idx_vars y
  have h := Cert.Reference2Ideal.Hand.result_apply (argX m c) n (argW1 m c) (argB1 m c) (argW2 m c) (argB2 m c) y0 y1
    (⟨y0.val / 512, by omega⟩ : Fin 296) rfl (exOf (Cert.Reference2Ideal.Hand.ends n) ⟨y0.val / 512, by omega⟩) rfl
  refine Eq.trans ?_ h.symm
  show res2 m _ c y0 y1 = _
  unfold res2
  rw [actT_apply]
  exact sel_bit _ _ _

/-- The call's result array is the reference's result of the same arguments. -/
theorem arr_result (m : (ℓ : Loc nD τ sig) → Buf (Elt Ideal) ℓ) :
    arrV (adm m 0) (V m) dev0 = Cert.Reference2Ideal.Hand.result (F := Ideal) (argX m dev0) (argN m dev0) (argW1 m dev0) (argB1 m dev0) (argW2 m dev0) (argB2 m dev0) :=
  (arr_eq m).trans ((congrArg (fun pe => res m pe dev0) (peV_eq m dev0)).trans (res_eq m dev0 (argN m dev0)))

end Cert.Kernel2Ideal.Hand

namespace Cert.Proof

/-- Expert call and reference end with the same array, on any arguments. -/
theorem algebraic_experts : Cert.algebraic_Kernel2Ideal_Reference2Ideal := by
  intro m g m' g' _ hagree
  refine ⟨fun c => Cert.Kernel2Ideal.Hand.arrV (Cert.Kernel2Ideal.Hand.adm m 0) (Cert.Kernel2Ideal.Hand.V m) c, ?_, ?_⟩
  · exact (θ_run Cert.Kernel2Ideal.defs _ _).mono (fun r h c => h.1 c) (Cert.Kernel2Ideal.Hand.run_out m g)
  · refine (θ_run Cert.Reference2Ideal.defs _ _).mono (fun r h c => ⟨((h c).1).trans ?_, (h c).2⟩) (Cert.Reference2Ideal.Hand.run_ref m' g')
    obtain rfl : c = Cert.Kernel2Ideal.Hand.dev0 := Subsingleton.elim _ _
    obtain ⟨a0, a1, a2, a3, a4, a5⟩ := hagree Cert.Kernel2Ideal.Hand.dev0
    refine Eq.trans ?_ (Cert.Kernel2Ideal.Hand.arr_result m).symm
    rw [a0, a1, a2, a3, a4, a5]

end Cert.Proof

end
-- ==== Proof.ProjMath.lean ====
module

public import Idealize.ShloMosaic.Lib.Claim
public import Idealize.ShloMosaic.Lib.Pointwise

/-!
  The input projection of the layer as formulas over the extended reals: a token's normalized and modulated row, its
  product with a column of the weights, and the normalized, rotated query and key values of a head.
-/

@[expose] public section

noncomputable section

namespace Cert.Proj

open Idealize.ShloMosaic

/-- The smallness added under the root. -/
abbrev eps : EReal := Ideal.ofBits FTy.f32 0x358637BD#32

/-- A token's row, divided by the root of its mean square, times the gain, scaled and shifted. -/
def hid (x g sc sh : Fin 1024 → EReal) (k : Fin 1024) : EReal :=
  x k * Ideal.rsqrt (Ideal.div (∑ j : Fin 1024, x j * x j) (Ideal.ofBits FTy.f32 0x44800000#32) + eps) * g k * (1 + sc k) + sh k

/-- The product of a row with a column. -/
def prj (h w : Fin 1024 → EReal) : EReal := ∑ k : Fin 1024, h k * w k

/-- A query or key value divided by the root of its head's mean square, times the gain; a head has 64 columns. -/
def nv (acc : Fin 512 → EReal) (gain : Fin 64 → EReal) (j : Fin 512) : EReal :=
  acc j * Ideal.rsqrt (Ideal.div (∑ x : Fin 64, acc ⟨j.val / 64 * 64 + x.val, by omega⟩ * acc ⟨j.val / 64 * 64 + x.val, by omega⟩)
    (Ideal.ofBits FTy.f32 0x42800000#32) + eps) * gain ⟨j.val % 64, by omega⟩

/-- The half (row or column of the image) and the frequency that a column's angle belongs to. -/
def half (c : Fin 512) : Fin 2 := ⟨c.val % 64 / 32, by omega⟩
def freq (c : Fin 512) : Fin 16 := ⟨c.val % 16, by omega⟩

/-- Pairs of columns sixteen apart turned by their angle. -/
def rope (v : Fin 512 → EReal) (cos sin : Fin 2 → Fin 16 → EReal) (c : Fin 512) : EReal :=
  if h : c.val % 32 < 16 then
    v c * cos (half c) (freq c) - v ⟨c.val + 16, by omega⟩ * sin (half c) (freq c)
  else v c * cos (half c) (freq c) + v ⟨c.val - 16, by omega⟩ * sin (half c) (freq c)

/-- The same normalization with the head's mean taken by a product with a matrix of weights, as the call does it. -/
def nvM (acc : Fin 512 → EReal) (gm : Fin 512 → Fin 512 → EReal) (gain : Fin 512 → EReal) (j : Fin 512) : EReal :=
  acc j * Ideal.rsqrt (∑ x : Fin 512, acc x * acc x * gm x j + eps) * gain j

/-- The same rotation with the partner column brought by a turn of the whole row, and signed sines, as the call does it. -/
def ropeM (v : Fin 512 → EReal) (cos sin : Fin 128 → EReal) (c : Fin 512) : EReal :=
  v c * cos ⟨c.val % 128, by omega⟩
    + (if c.val % 32 < 16 then v ⟨(c.val + 16) % 512, by omega⟩ else v ⟨(c.val + 496) % 512, by omega⟩) * sin ⟨c.val % 128, by omega⟩

theorem ofBits_64 : Ideal.ofBits FTy.f32 0x42800000#32 = ((64 : ℝ) : EReal) := by
  simp [Ideal.ofBits, Ideal.ieee, -EReal.coe_mul]; norm_num

/-- A square is not negative. -/
theorem sq_nonneg' (a : EReal) : 0 ≤ a * a := by
  rcases le_total 0 a with h | h
  · exact mul_nonneg h h
  · have := mul_nonneg (EReal.neg_nonneg.mpr h) (EReal.neg_nonneg.mpr h)
    rwa [neg_mul_neg] at this

/-- The weights of the mean within a head: a sixty-fourth in the head's columns, nothing elsewhere. -/
def gmw (x j : Fin 512) : EReal := if x.val / 64 = j.val / 64 then ((1 / 64 : ℝ) : EReal) else 0

/-- A factor taken out of a sum of values not negative. -/
theorem sum_mul_coe {n : ℕ} (f : Fin n → EReal) (hf : ∀ i, 0 ≤ f i) (r : ℝ) (hr : 0 ≤ r) :
    ∑ i : Fin n, f i * (r : EReal) = (∑ i : Fin n, f i) * (r : EReal) := by
  have : ∀ s : Finset (Fin n), ∑ i ∈ s, f i * (r : EReal) = (∑ i ∈ s, f i) * (r : EReal) := by
    intro s
    induction s using Finset.induction_on with
    | empty => simp
    | insert a s ha ih =>
      rw [Finset.sum_insert ha, Finset.sum_insert ha, ih, EReal.right_distrib_of_nonneg (hf a) (Finset.sum_nonneg fun i _ => hf i)]
  exact this _

/-- A sum over the 512 columns, head by head. -/
theorem sum_heads (f : Fin 512 → EReal) :
    ∑ x : Fin 512, f x = ∑ h : Fin 8, ∑ d : Fin 64, f ⟨h.val * 64 + d.val, by omega⟩ := by
  rw [← Fintype.sum_prod_type']
  refine (Fintype.sum_equiv (finProdFinEquiv (m := 8) (n := 64)) _ _ fun p => ?_).symm
  refine congrArg f (Fin.ext ?_)
  show p.1.val * 64 + p.2.val = p.2.val + 64 * p.1.val
  omega

/-- The mean taken by the product is the head's sum over 64. -/
theorem mean_eq (acc : Fin 512 → EReal) (j : Fin 512) :
    ∑ x : Fin 512, acc x * acc x * gmw x j
      = Ideal.div (∑ x : Fin 64, acc ⟨j.val / 64 * 64 + x.val, by omega⟩ * acc ⟨j.val / 64 * 64 + x.val, by omega⟩)
          (Ideal.ofBits FTy.f32 0x42800000#32) := by
  rw [ofBits_64, Ideal.div_coe (by norm_num), sum_heads, Finset.sum_eq_single (⟨j.val / 64, by omega⟩ : Fin 8)]
  · rw [← sum_mul_coe _ (fun _ => sq_nonneg' _) _ (by norm_num)]
    refine Finset.sum_congr (M := EReal) rfl fun d _ => ?_
    rw [gmw, if_pos (by show (j.val / 64 * 64 + d.val) / 64 = j.val / 64; omega)]
  · intro h _ hne
    refine Finset.sum_eq_zero fun d _ => ?_
    rw [gmw, if_neg, mul_zero]
    intro e
    refine hne (Fin.ext ?_)
    have e' : (h.val * 64 + d.val) / 64 = j.val / 64 := e
    show h.val = j.val / 64
    omega
  · intro h; exact absurd (Finset.mem_univ _) h

/-- So the two normalizations agree. -/
theorem nvM_eq (acc : Fin 512 → EReal) (gm : Fin 512 → Fin 512 → EReal) (gain : Fin 512 → EReal) (g : Fin 64 → EReal)
    (hm : ∀ x j, gm x j = gmw x j) (hg : ∀ j : Fin 512, gain j = g ⟨j.val % 64, by omega⟩) (j : Fin 512) :
    nvM acc gm gain j = nv acc g j := by
  unfold nvM nv
  rw [hg, ← mean_eq]
  simp only [hm]

/-- So do the two rotations, with the sines of the first sixteen of each thirty-two columns negated. -/
theorem ropeM_eq (v : Fin 512 → EReal) (cosM sinM : Fin 128 → EReal) (cos sin : Fin 2 → Fin 16 → EReal)
    (hc : ∀ j : Fin 128, cosM j = cos ⟨j.val % 64 / 32, by omega⟩ ⟨j.val % 16, by omega⟩)
    (hs : ∀ j : Fin 128, sinM j = if j.val % 32 < 16 then -sin ⟨j.val % 64 / 32, by omega⟩ ⟨j.val % 16, by omega⟩
      else sin ⟨j.val % 64 / 32, by omega⟩ ⟨j.val % 16, by omega⟩) (c : Fin 512) :
    ropeM v cosM sinM c = rope v cos sin c := by
  have eh : (⟨c.val % 128 % 64 / 32, by omega⟩ : Fin 2) = half c := Fin.ext (by show c.val % 128 % 64 / 32 = c.val % 64 / 32; omega)
  have ef : (⟨c.val % 128 % 16, by omega⟩ : Fin 16) = freq c := Fin.ext (by show c.val % 128 % 16 = c.val % 16; omega)
  unfold ropeM rope
  rw [hc, hs]
  simp only [eh, ef]
  by_cases h : c.val % 32 < 16
  · have e1 : (⟨(c.val + 16) % 512, by omega⟩ : Fin 512) = ⟨c.val + 16, by omega⟩ := Fin.ext (by show (c.val + 16) % 512 = c.val + 16; omega)
    rw [dif_pos h, if_pos h, if_pos (by omega), e1, mul_neg, sub_eq_add_neg]
  · have e1 : (⟨(c.val + 496) % 512, by omega⟩ : Fin 512) = ⟨c.val - 16, by omega⟩ := Fin.ext (by show (c.val + 496) % 512 = c.val - 16; omega)
    rw [dif_neg h, if_neg h, if_neg (by omega), e1]

/-- The arguments of the projection, as functions: the tokens of four batches, the norm's gain, the shift and the scale of
    a batch, the weights, the gains of queries and keys, the angles' cosines and sines of a position. -/
structure Args where
  x : Fin 4 → Fin 8192 → Fin 1024 → EReal
  g : Fin 1024 → EReal
  sh : Fin 4 → Fin 1024 → EReal
  sc : Fin 4 → Fin 1024 → EReal
  w : Fin 1024 → Fin 5888 → EReal
  qg : Fin 64 → EReal
  kg : Fin 64 → EReal
  co : Fin 8192 → Fin 2 → Fin 16 → EReal
  si : Fin 8192 → Fin 2 → Fin 16 → EReal

namespace Args
variable (A : Args) (b : Fin 4) (s : Fin 8192)

/-- A token's projection onto a column; and the six results of a token: two plain groups of columns, the queries and the
    keys, the values with ones beside each head's, the gates. -/
def col (j : Fin 5888) : EReal := prj (hid (A.x b s) A.g (A.sc b) (A.sh b)) (fun k => A.w k j)
def r0 (j : Fin 512) : EReal := A.col b s ⟨j.val, by omega⟩
def r1 (j : Fin 768) : EReal := A.col b s ⟨512 + j.val, by omega⟩
def r2 (j : Fin 512) : EReal := rope (nv (fun j => A.col b s ⟨1280 + j.val, by omega⟩) A.qg) (A.co s) (A.si s) j
def r3 (j : Fin 512) : EReal := rope (nv (fun j => A.col b s ⟨1792 + j.val, by omega⟩) A.kg) (A.co s) (A.si s) j
def r4 (j : Fin 1024) : EReal :=
  if e : j.val % 256 < 128 then A.col b s ⟨2304 + (j.val / 256 * 128 + j.val % 256), by omega⟩ else 1
def r5 (j : Fin 3072) : EReal := Ideal.logistic (A.col b s ⟨2816 + j.val, by omega⟩)

end Args

end Cert.Proj

end
-- ==== Proof.ProjPay.lean ====
module

public import proofs.«01_k».proof.Proof.Gen.Kernel3Ideal
public import proofs.«01_k».proof.Proof.Gen.Kernel3Ideal.Value
public import proofs.«01_k».proof.Proof.ProjMath
public import Idealize.ShloMosaic.Lib.Pipeline.ValueKit
public import Idealize.ShloMosaic.Lib.Pointwise

/-!
  The pieces of the projection call read at an index, over the extended reals.
-/

@[expose] public section

set_option maxRecDepth 16384

noncomputable section

namespace Cert.Kernel3Ideal.Hand

open Cert.Kernel3Ideal Cert.Kernel3Ideal.Gen Cert.Proj
open Idealize.ShloMosaic

attribute [local instance] Cert.Kernel3Ideal.Gen.facts

/-- The normalized and modulated row of a token of the tile. -/
theorem pay4_apply (x : Vec Ideal S1x512x1024 .f32) (g : Vec Ideal S1x1024 .f32) (sc sh : Vec Ideal S1x1x1024 .f32) (a : Fin 512) (k : Fin 1024) :
    k0_pay4 x g sc sh (ix2 a k) = hid (fun k => x (ix3 (0 : Fin 1) a k)) (fun k => g (ix2 (0 : Fin 1) k))
      (fun k => sc (ix3 (0 : Fin 1) (0 : Fin 1) k)) (fun k => sh (ix3 (0 : Fin 1) (0 : Fin 1) k)) k := by
  unfold hid
  pointwise [k0_pay4]

/-- The first group of columns: the plain product. -/
theorem pay5_apply (x : Vec Ideal S1x512x1024 .f32) (g : Vec Ideal S1x1024 .f32) (sc sh : Vec Ideal S1x1x1024 .f32) (w : Vec Ideal S1024x512 .bf16)
    (a : Fin 512) (j : Fin 512) :
    k0_pay5 x g sc sh w (ix3 (0 : Fin 1) a j) = prj (fun k => k0_pay4 x g sc sh (ix2 a k)) (fun k => w (ix2 k j)) := by
  unfold prj
  pointwise [k0_pay5]

/-- The second group: the plain product. -/
theorem pay6_apply (h : Vec Ideal S512x1024 .bf16) (w : Vec Ideal S1024x768 .bf16) (a : Fin 512) (j : Fin 768) :
    k0_pay6 h w (ix3 (0 : Fin 1) a j) = prj (fun k => h (ix2 a k)) (fun k => w (ix2 k j)) := by
  unfold prj
  pointwise [k0_pay6]

/-- The gates: the logistic function of the product, chunk by chunk. -/
theorem pay1_apply (h : Vec Ideal S512x1024 .bf16) (w : Vec Ideal S1024x1024 .bf16) (a : Fin 512) (j : Fin 1024) :
    k0_pay1 (k0_pay29 h w) (ix3 (0 : Fin 1) a j) = Ideal.logistic (prj (fun k => h (ix2 a k)) (fun k => w (ix2 k j))) := by
  unfold prj
  pointwise [k0_pay1, k0_pay29]
theorem pay2_apply (h : Vec Ideal S512x1024 .bf16) (w : Vec Ideal S1024x1024 .bf16) (a : Fin 512) (j : Fin 1024) :
    k0_pay2 h w (ix3 (0 : Fin 1) a j) = Ideal.logistic (prj (fun k => h (ix2 a k)) (fun k => w (ix2 k j))) := by
  unfold prj
  pointwise [k0_pay2]
theorem pay3_apply (h : Vec Ideal S512x1024 .bf16) (w : Vec Ideal S1024x1024 .bf16) (a : Fin 512) (j : Fin 1024) :
    k0_pay3 h w (ix3 (0 : Fin 1) a j) = Ideal.logistic (prj (fun k => h (ix2 a k)) (fun k => w (ix2 k j))) := by
  unfold prj
  pointwise [k0_pay3]

/-- The values: the plain product. -/
theorem pay19_apply (h : Vec Ideal S512x1024 .bf16) (w : Vec Ideal S1024x512 .bf16) (a : Fin 512) (j : Fin 512) :
    k0_pay19 h w (ix2 a j) = prj (fun k => h (ix2 a k)) (fun k => w (ix2 k j)) := by
  unfold prj
  pointwise [k0_pay19]
theorem pay21_apply (h : Vec Ideal S512x1024 .bf16) (w : Vec Ideal S1024x512 .bf16) (a : Fin 512) (j : Fin 128) :
    k0_pay21 h w (ix3 (0 : Fin 1) a j) = k0_pay19 h w (ix2 a ⟨j.val, by omega⟩) := by
  pointwise [k0_pay21]
theorem pay23_apply (v : Vec Ideal S512x512 .bf16) (a : Fin 512) (j : Fin 128) :
    k0_pay23 (F := Ideal) v (ix3 (0 : Fin 1) a j) = v (ix2 a ⟨128 + j.val, by omega⟩) := by
  pointwise [k0_pay23]
theorem pay25_apply (v : Vec Ideal S512x512 .bf16) (a : Fin 512) (j : Fin 128) :
    k0_pay25 (F := Ideal) v (ix3 (0 : Fin 1) a j) = v (ix2 a ⟨256 + j.val, by omega⟩) := by
  pointwise [k0_pay25]
theorem pay27_apply (v : Vec Ideal S512x512 .bf16) (a : Fin 512) (j : Fin 128) :
    k0_pay27 (F := Ideal) v (ix3 (0 : Fin 1) a j) = v (ix2 a ⟨384 + j.val, by omega⟩) := by
  pointwise [k0_pay27]

/-- The ones beside each head's values. -/
theorem pay22_apply (a : Fin 512) (j : Fin 128) : @Eq EReal (k0_pay22 (F := Ideal) k0_pay20 (ix3 (0 : Fin 1) a j)) 1 := by
  pointwise [k0_pay22, k0_pay20]
theorem pay24_apply (a : Fin 512) (j : Fin 128) : @Eq EReal (k0_pay24 (F := Ideal) k0_pay20 (ix3 (0 : Fin 1) a j)) 1 := by
  pointwise [k0_pay24, k0_pay20]
theorem pay26_apply (a : Fin 512) (j : Fin 128) : @Eq EReal (k0_pay26 (F := Ideal) k0_pay20 (ix3 (0 : Fin 1) a j)) 1 := by
  pointwise [k0_pay26, k0_pay20]
theorem pay28_apply (a : Fin 512) (j : Fin 128) : @Eq EReal (k0_pay28 (F := Ideal) k0_pay20 (ix3 (0 : Fin 1) a j)) 1 := by
  pointwise [k0_pay28, k0_pay20]

/-- The normalized queries, and the normalized keys. -/
theorem pay9_apply (h : Vec Ideal S512x1024 .bf16) (w : Vec Ideal S1024x512 .bf16) (gm : Vec Ideal S512x512 .bf16) (g : Vec Ideal S1x512 .f32)
    (a : Fin 512) (j : Fin 512) :
    k0_pay9 h w gm g (ix2 a j) = nvM (fun j => prj (fun k => h (ix2 a k)) (fun k => w (ix2 k j))) (fun x j => gm (ix2 x j))
      (fun j => g (ix2 (0 : Fin 1) j)) j := by
  unfold nvM prj
  pointwise [k0_pay9]
theorem pay17_apply (h : Vec Ideal S512x1024 .bf16) (w : Vec Ideal S1024x512 .bf16) (gm : Vec Ideal S512x512 .bf16) (g : Vec Ideal S1x512 .f32)
    (a : Fin 512) (j : Fin 512) :
    k0_pay17 h w gm g (ix2 a j) = nvM (fun j => prj (fun k => h (ix2 a k)) (fun k => w (ix2 k j))) (fun x j => gm (ix2 x j))
      (fun j => g (ix2 (0 : Fin 1) j)) j := by
  unfold nvM prj
  pointwise [k0_pay17]

/-- Four copies of 128 columns side by side. -/
theorem quad (f : Fin 128 → EReal) (j : Fin 512) :
    (if h : j.val < 128 then f ⟨j.val, h⟩ else if h1 : j.val - 128 < 128 then f ⟨j.val - 128, h1⟩
      else if h2 : j.val - 128 - 128 < 128 then f ⟨j.val - 128 - 128, h2⟩ else f ⟨j.val - 128 - 128 - 128, by omega⟩)
      = f ⟨j.val % 128, by omega⟩ := by
  split
  · exact congrArg f (Fin.ext (by show j.val = j.val % 128; omega))
  · split
    · exact congrArg f (Fin.ext (by show j.val - 128 = j.val % 128; omega))
    · split
      · exact congrArg f (Fin.ext (by show j.val - 128 - 128 = j.val % 128; omega))
      · exact congrArg f (Fin.ext (by show j.val - 128 - 128 - 128 = j.val % 128; omega))

/-- The test of a column's place among thirty-two. -/
theorem lane : ∀ x : Fin 512, IntOp.cmpi CmpIPredicate.slt
    (Scalar.select (IntOp.andi (IntOp.xori
          (IntOp.cmpi CmpIPredicate.slt (IntOp.remsi ArithUnit.vector (BitVec.ofNat 32 x.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector (BitVec.ofNat 32 x.val) (Scalar.select (Scalar.cmpi CmpIPredicate.eq 32#32 0#32) 1#32 32#32)) 0#32))
      (IntOp.addi (IntOp.remsi ArithUnit.vector (BitVec.ofNat 32 x.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 x.val) (Scalar.select (Scalar.cmpi CmpIPredicate.eq 32#32 0#32) 1#32 32#32))) 16#32
    = if x.val % 32 < 16 then 1#1 else 0#1 := by decide +kernel

/-- The partner column, chosen by that test between the two turns of the row. -/
theorem partner (v : Fin 512 → EReal) (j : Fin 512) (t : BitVec 1) (ht : t = if j.val % 32 < 16 then 1#1 else 0#1) :
    Scalar.select t (v ⟨(j.val + 512 - 496) % 512, Nat.mod_lt _ (by decide)⟩) (v ⟨(j.val + 512 - 16) % 512, Nat.mod_lt _ (by decide)⟩)
      = if j.val % 32 < 16 then v ⟨(j.val + 16) % 512, by omega⟩ else v ⟨(j.val + 496) % 512, by omega⟩ := by
  subst ht
  split
  · exact congrArg v (Fin.ext (by show (j.val + 512 - 496) % 512 = (j.val + 16) % 512; omega))
  · exact congrArg v (Fin.ext (by show (j.val + 512 - 16) % 512 = (j.val + 496) % 512; omega))

/-- The rotated keys. -/
theorem pay18_apply (cs sn : Vec Ideal S512x128 .f32) (v : Vec Ideal S512x512 .f32) (a : Fin 512) (j : Fin 512) :
    k0_pay18 (k0_pay15 cs) (k0_pay16 sn) v (ix3 (0 : Fin 1) a j)
      = ropeM (fun j => v (ix2 a j)) (fun j => cs (ix2 a j)) (fun j => sn (ix2 a j)) j := by
  unfold ropeM
  pointwise [k0_pay18, k0_pay15, k0_pay16]
  exact congrArg₂ (fun x y : EReal => x + y) (congrArg (fun x : EReal => v (ix2 a j) * x) (quad (fun i => cs (ix2 a i)) j))
    (congrArg₂ (fun x y : EReal => x * y) (partner (fun i => v (ix2 a i)) j _ (lane j)) (quad (fun i => sn (ix2 a i)) j))

/-- The rotated queries. -/
theorem pay14_apply (cs sn : Vec Ideal S512x128 .f32) (v : Vec Ideal S512x512 .f32) (a : Fin 512) (j : Fin 512) :
    k0_pay14 (k0_pay7 cs) (k0_pay8 sn) v (Scalar.select (Scalar.cmpi .eq 32#32 0#32) 1#32 32#32) k0_pay10 k0_pay11 k0_pay12 k0_pay13 (ix3 (0 : Fin 1) a j)
      = ropeM (fun j => v (ix2 a j)) (fun j => cs (ix2 a j)) (fun j => sn (ix2 a j)) j := by
  unfold ropeM
  pointwise [k0_pay14, k0_pay7, k0_pay8, k0_pay10, k0_pay11, k0_pay12, k0_pay13]
  exact congrArg₂ (fun x y : EReal => x + y) (congrArg (fun x : EReal => v (ix2 a j) * x) (quad (fun i => cs (ix2 a i)) j))
    (congrArg₂ (fun x y : EReal => x * y) (partner (fun i => v (ix2 a i)) j _ (lane j)) (quad (fun i => sn (ix2 a i)) j))

end Cert.Kernel3Ideal.Hand

end
-- ==== Proof.ProjOut.lean ====
module

public import proofs.«01_k».proof.Proof.ProjPay

/-!
  What the body leaves in each of the six output blocks, element by element, from the contents of its input blocks.
-/

@[expose] public section

set_option maxRecDepth 16384

noncomputable section

namespace Cert.Kernel3Ideal.Hand

open Cert.Kernel3Ideal Cert.Kernel3Ideal.Gen Cert.Proj
open Idealize.ShloMosaic

attribute [local instance] Cert.Kernel3Ideal.Gen.facts

/-- The columns of the weights that each product loads. -/
theorem ld3 (w : Vec Ideal S1024x5888 .bf16) (k : Fin 1024) (j : Fin 512) : View.ld w r0_3 (ix2 k j) = w (ix2 k ⟨j.val, by omega⟩) := by
  rw [View.ld_unit]; pointwise
theorem ld5 (w : Vec Ideal S1024x5888 .bf16) (k : Fin 1024) (j : Fin 768) : View.ld w r0_5 (ix2 k j) = w (ix2 k ⟨512 + j.val, by omega⟩) := by
  rw [View.ld_unit]; pointwise
theorem ld7 (w : Vec Ideal S1024x5888 .bf16) (k : Fin 1024) (j : Fin 512) : View.ld w r0_7 (ix2 k j) = w (ix2 k ⟨1280 + j.val, by omega⟩) := by
  rw [View.ld_unit]; pointwise
theorem ld11 (w : Vec Ideal S1024x5888 .bf16) (k : Fin 1024) (j : Fin 512) : View.ld w r0_11 (ix2 k j) = w (ix2 k ⟨1792 + j.val, by omega⟩) := by
  rw [View.ld_unit]; pointwise
theorem ld12 (w : Vec Ideal S1024x5888 .bf16) (k : Fin 1024) (j : Fin 512) : View.ld w r0_12 (ix2 k j) = w (ix2 k ⟨2304 + j.val, by omega⟩) := by
  rw [View.ld_unit]; pointwise
theorem ld21 (w : Vec Ideal S1024x5888 .bf16) (k : Fin 1024) (j : Fin 1024) : View.ld w r0_21 (ix2 k j) = w (ix2 k ⟨2816 + j.val, by omega⟩) := by
  rw [View.ld_unit]; pointwise
theorem ld23 (w : Vec Ideal S1024x5888 .bf16) (k : Fin 1024) (j : Fin 1024) : View.ld w r0_23 (ix2 k j) = w (ix2 k ⟨3840 + j.val, by omega⟩) := by
  rw [View.ld_unit]; pointwise
theorem ld25 (w : Vec Ideal S1024x5888 .bf16) (k : Fin 1024) (j : Fin 1024) : View.ld w r0_25 (ix2 k j) = w (ix2 k ⟨4864 + j.val, by omega⟩) := by
  rw [View.ld_unit]; pointwise

section Body
variable (x0 : Vec Ideal S1x512x1024 .f32) (x1 : Vec Ideal S1x1024 .f32) (x2 x3 : Vec Ideal S1x1x1024 .f32) (x4 : Vec Ideal S1024x5888 .bf16)
  (x5 : Vec Ideal S512x512 .bf16) (x6 x7 : Vec Ideal S1x512 .f32) (x8 x9 : Vec Ideal S512x128 .f32)

/-- A row of the tile, normalized and modulated; its product with a column of the weights. -/
def brow (a : Fin 512) : Fin 1024 → EReal :=
  hid (fun k => x0 (ix3 (0 : Fin 1) a k)) (fun k => x1 (ix2 (0 : Fin 1) k)) (fun k => x3 (ix3 (0 : Fin 1) (0 : Fin 1) k))
    (fun k => x2 (ix3 (0 : Fin 1) (0 : Fin 1) k))
def bcol (a : Fin 512) (j : Fin 5888) : EReal := prj (brow x0 x1 x2 x3 a) (fun k => x4 (ix2 k j))

theorem zero2 : (![0, 0] : Fin 2 → Nat) = fun _ => 0 := funext fun a => by fin_cases a <;> rfl
theorem zero3 : (![0, 0, 0] : Fin 3 → Nat) = fun _ => 0 := funext fun a => by fin_cases a <;> rfl

theorem pay30_apply (a : Fin 512) (k : Fin 1024) : k0_pay30 x0 x1 x2 x3 x4 x5 x6 x7 x8 x9 (ix2 a k) = brow x0 x1 x2 x3 a k := by
  unfold k0_pay30 brow
  rw [View.ld_unit_zero zero3, View.ld_unit_zero zero2, View.ld_unit_zero zero3, View.ld_unit_zero zero3]
  exact pay4_apply x0 x1 x3 x2 a k

/-- The first output block. -/
theorem out10_apply (a j : Fin 512) :
    out0_10 x0 x1 x2 x3 x4 x5 x6 x7 x8 x9 (ix3 (0 : Fin 1) a j) = bcol x0 x1 x2 x3 x4 a ⟨j.val, by omega⟩ := by
  unfold out0_10
  rw [View.canon_unit_zero zero3, pay5_apply]
  unfold bcol
  refine congrArg₂ prj (funext fun k => ?_) (funext fun k => ld3 x4 k j)
  exact pay30_apply x0 x1 x2 x3 x4 x5 x6 x7 x8 x9 a k

/-- The second output block. -/
theorem out11_apply (a : Fin 512) (j : Fin 768) :
    out0_11 x0 x1 x2 x3 x4 x5 x6 x7 x8 x9 (ix3 (0 : Fin 1) a j) = bcol x0 x1 x2 x3 x4 a ⟨512 + j.val, by omega⟩ := by
  unfold out0_11
  rw [View.canon_unit_zero zero3, pay6_apply]
  exact congrArg₂ prj (funext fun k => pay30_apply x0 x1 x2 x3 x4 x5 x6 x7 x8 x9 a k) (funext fun k => ld5 x4 k j)

/-- The queries' block. -/
theorem out12_apply (a j : Fin 512) :
    out0_12 x0 x1 x2 x3 x4 x5 x6 x7 x8 x9 (ix3 (0 : Fin 1) a j)
      = ropeM (nvM (fun j => bcol x0 x1 x2 x3 x4 a ⟨1280 + j.val, by omega⟩) (fun x j => x5 (ix2 x j)) (fun j => x6 (ix2 (0 : Fin 1) j)))
          (fun j => x8 (ix2 a j)) (fun j => x9 (ix2 a j)) j := by
  unfold out0_12
  rw [View.canon_unit_zero zero3, pay14_apply, View.ld_unit_zero zero2, View.ld_unit_zero zero2, View.ld_unit_zero zero2, View.ld_unit_zero zero2]
  refine congrArg (fun v => ropeM v (fun j => x8 (ix2 a j)) (fun j => x9 (ix2 a j)) j) (funext fun j => ?_)
  rw [pay9_apply]
  refine congrArg (fun acc => nvM acc (fun x j => x5 (ix2 x j)) (fun j => x6 (ix2 (0 : Fin 1) j)) j) (funext fun j => ?_)
  exact congrArg₂ prj (funext fun k => pay30_apply x0 x1 x2 x3 x4 x5 x6 x7 x8 x9 a k) (funext fun k => ld7 x4 k j)

/-- The keys' block. -/
theorem out13_apply (a j : Fin 512) :
    out0_13 x0 x1 x2 x3 x4 x5 x6 x7 x8 x9 (ix3 (0 : Fin 1) a j)
      = ropeM (nvM (fun j => bcol x0 x1 x2 x3 x4 a ⟨1792 + j.val, by omega⟩) (fun x j => x5 (ix2 x j)) (fun j => x7 (ix2 (0 : Fin 1) j)))
          (fun j => x8 (ix2 a j)) (fun j => x9 (ix2 a j)) j := by
  unfold out0_13
  rw [View.canon_unit_zero zero3, pay18_apply, View.ld_unit_zero zero2, View.ld_unit_zero zero2, View.ld_unit_zero zero2, View.ld_unit_zero zero2]
  refine congrArg (fun v => ropeM v (fun j => x8 (ix2 a j)) (fun j => x9 (ix2 a j)) j) (funext fun j => ?_)
  rw [pay17_apply]
  refine congrArg (fun acc => nvM acc (fun x j => x5 (ix2 x j)) (fun j => x7 (ix2 (0 : Fin 1) j)) j) (funext fun j => ?_)
  exact congrArg₂ prj (funext fun k => pay30_apply x0 x1 x2 x3 x4 x5 x6 x7 x8 x9 a k) (funext fun k => ld11 x4 k j)

/-- A column of the values' block: the head's values in the first half of each 256, ones in the others. -/
def bval (f : Fin 512 → EReal) (j : Fin 1024) : EReal :=
  if e : j.val % 256 < 128 then f ⟨j.val / 256 * 128 + j.val % 256, by omega⟩ else 1

theorem bval_val (f : Fin 512 → EReal) (j : Fin 1024) (i : Fin 512) (h : j.val % 256 < 128) (hi : i.val = j.val / 256 * 128 + j.val % 256) : f i = bval f j := by
  rw [bval, dif_pos h]; exact congrArg f (Fin.ext hi)
theorem bval_one (f : Fin 512 → EReal) (j : Fin 1024) (h : ¬ j.val % 256 < 128) : 1 = bval f j := by
  rw [bval, dif_neg h]

/-- The values before they are placed. -/
theorem pay31_apply (a j : Fin 512) :
    k0_pay31 x0 x1 x2 x3 x4 x5 x6 x7 x8 x9 (ix2 a j) = bcol x0 x1 x2 x3 x4 a ⟨2304 + j.val, by omega⟩ := by
  unfold k0_pay31
  rw [pay19_apply]
  exact congrArg₂ prj (funext fun k => pay30_apply x0 x1 x2 x3 x4 x5 x6 x7 x8 x9 a k) (funext fun k => ld12 x4 k j)

/-- The values' block. -/
theorem out14_apply (a : Fin 512) (j : Fin 1024) :
    out0_14 x0 x1 x2 x3 x4 x5 x6 x7 x8 x9 (ix3 (0 : Fin 1) a j)
      = bval (fun j => bcol x0 x1 x2 x3 x4 a ⟨2304 + j.val, by omega⟩) j := by
  unfold out0_14
  refine View.canon_eq_of_allAt _ _ _ (cover0_14 _ _ _ _ _ _ _ _ _) ?_
  refine View.allAt_cons_unit _ _ _ _ _ (fun z hx => ?_) <| View.allAt_cons_unit _ _ _ _ _ (fun z hx => ?_) <|
    View.allAt_cons_unit _ _ _ _ _ (fun z hx => ?_) <| View.allAt_cons_unit _ _ _ _ _ (fun z hx => ?_) <|
    View.allAt_cons_unit _ _ _ _ _ (fun z hx => ?_) <| View.allAt_cons_unit _ _ _ _ _ (fun z hx => ?_) <|
    View.allAt_cons_unit _ _ _ _ _ (fun z hx => ?_) <| View.allAt_cons_unit _ _ _ _ _ (fun z hx => ?_) <| View.allAt_nil _ _
  · idx_vars z
    have h1 : a.val = 0 + z1.val := hx 1
    have h2 : j.val = 896 + z2.val := hx 2
    obtain rfl : z1 = a := Fin.ext (by omega)
    rw [Subsingleton.elim z0 (0 : Fin 1)]
    exact (pay28_apply z1 z2).trans (bval_one _ j (by omega))
  · idx_vars z
    have h1 : a.val = 0 + z1.val := hx 1
    have h2 : j.val = 768 + z2.val := hx 2
    obtain rfl : z1 = a := Fin.ext (by omega)
    rw [Subsingleton.elim z0 (0 : Fin 1)]
    refine (pay27_apply _ _ _).trans ((pay31_apply x0 x1 x2 x3 x4 x5 x6 x7 x8 x9 z1 _).trans
      (bval_val (fun j => bcol x0 x1 x2 x3 x4 z1 ⟨2304 + j.val, by omega⟩) j ⟨384 + z2.val, by omega⟩ (by omega) ?_))
    show 384 + z2.val = j.val / 256 * 128 + j.val % 256
    omega
  · idx_vars z
    have h1 : a.val = 0 + z1.val := hx 1
    have h2 : j.val = 640 + z2.val := hx 2
    obtain rfl : z1 = a := Fin.ext (by omega)
    rw [Subsingleton.elim z0 (0 : Fin 1)]
    exact (pay26_apply z1 z2).trans (bval_one _ j (by omega))
  · idx_vars z
    have h1 : a.val = 0 + z1.val := hx 1
    have h2 : j.val = 512 + z2.val := hx 2
    obtain rfl : z1 = a := Fin.ext (by omega)
    rw [Subsingleton.elim z0 (0 : Fin 1)]
    refine (pay25_apply _ _ _).trans ((pay31_apply x0 x1 x2 x3 x4 x5 x6 x7 x8 x9 z1 _).trans
      (bval_val (fun j => bcol x0 x1 x2 x3 x4 z1 ⟨2304 + j.val, by omega⟩) j ⟨256 + z2.val, by omega⟩ (by omega) ?_))
    show 256 + z2.val = j.val / 256 * 128 + j.val % 256
    omega
  · idx_vars z
    have h1 : a.val = 0 + z1.val := hx 1
    have h2 : j.val = 384 + z2.val := hx 2
    obtain rfl : z1 = a := Fin.ext (by omega)
    rw [Subsingleton.elim z0 (0 : Fin 1)]
    exact (pay24_apply z1 z2).trans (bval_one _ j (by omega))
  · idx_vars z
    have h1 : a.val = 0 + z1.val := hx 1
    have h2 : j.val = 256 + z2.val := hx 2
    obtain rfl : z1 = a := Fin.ext (by omega)
    rw [Subsingleton.elim z0 (0 : Fin 1)]
    refine (pay23_apply _ _ _).trans ((pay31_apply x0 x1 x2 x3 x4 x5 x6 x7 x8 x9 z1 _).trans
      (bval_val (fun j => bcol x0 x1 x2 x3 x4 z1 ⟨2304 + j.val, by omega⟩) j ⟨128 + z2.val, by omega⟩ (by omega) ?_))
    show 128 + z2.val = j.val / 256 * 128 + j.val % 256
    omega
  · idx_vars z
    have h1 : a.val = 0 + z1.val := hx 1
    have h2 : j.val = 128 + z2.val := hx 2
    obtain rfl : z1 = a := Fin.ext (by omega)
    rw [Subsingleton.elim z0 (0 : Fin 1)]
    exact (pay22_apply z1 z2).trans (bval_one _ j (by omega))
  · idx_vars z
    have h1 : a.val = 0 + z1.val := hx 1
    have h2 : j.val = 0 + z2.val := hx 2
    obtain rfl : z1 = a := Fin.ext (by omega)
    rw [Subsingleton.elim z0 (0 : Fin 1)]
    refine (pay21_apply _ _ _ _).trans ((pay31_apply x0 x1 x2 x3 x4 x5 x6 x7 x8 x9 z1 _).trans
      (bval_val (fun j => bcol x0 x1 x2 x3 x4 z1 ⟨2304 + j.val, by omega⟩) j ⟨z2.val, by omega⟩ (by omega) ?_))
    show z2.val = j.val / 256 * 128 + j.val % 256
    omega

/-- The gates' block. -/
theorem out15_apply (a : Fin 512) (j : Fin 3072) :
    out0_15 x0 x1 x2 x3 x4 x5 x6 x7 x8 x9 (ix3 (0 : Fin 1) a j)
      = Ideal.logistic (bcol x0 x1 x2 x3 x4 a ⟨2816 + j.val, by omega⟩) := by
  unfold out0_15
  refine View.canon_eq_of_allAt _ _ _ (cover0_15 _ _ _ _) ?_
  refine View.allAt_cons_unit _ _ _ _ _ (fun z hx => ?_) <| View.allAt_cons_unit _ _ _ _ _ (fun z hx => ?_) <|
    View.allAt_cons_unit _ _ _ _ _ (fun z hx => ?_) <| View.allAt_nil _ _
  · idx_vars z
    have h1 : a.val = 0 + z1.val := hx 1
    have h2 : j.val = 2048 + z2.val := hx 2
    obtain rfl : z1 = a := Fin.ext (by omega)
    rw [Subsingleton.elim z0 (0 : Fin 1)]
    refine (pay3_apply _ _ _ _).trans (congrArg Ideal.logistic (congrArg₂ prj (funext fun k => pay30_apply x0 x1 x2 x3 x4 x5 x6 x7 x8 x9 z1 k)
      (funext fun k => (ld25 x4 k z2).trans (congrArg (fun i : Fin 5888 => x4 (ix2 k i)) (Fin.ext ?_)))))
    show 4864 + z2.val = 2816 + j.val
    omega
  · idx_vars z
    have h1 : a.val = 0 + z1.val := hx 1
    have h2 : j.val = 1024 + z2.val := hx 2
    obtain rfl : z1 = a := Fin.ext (by omega)
    rw [Subsingleton.elim z0 (0 : Fin 1)]
    refine (pay2_apply _ _ _ _).trans (congrArg Ideal.logistic (congrArg₂ prj (funext fun k => pay30_apply x0 x1 x2 x3 x4 x5 x6 x7 x8 x9 z1 k)
      (funext fun k => (ld23 x4 k z2).trans (congrArg (fun i : Fin 5888 => x4 (ix2 k i)) (Fin.ext ?_)))))
    show 3840 + z2.val = 2816 + j.val
    omega
  · idx_vars z
    have h1 : a.val = 0 + z1.val := hx 1
    have h2 : j.val = 0 + z2.val := hx 2
    obtain rfl : z1 = a := Fin.ext (by omega)
    rw [Subsingleton.elim z0 (0 : Fin 1)]
    refine (pay1_apply _ _ _ _).trans (congrArg Ideal.logistic (congrArg₂ prj (funext fun k => pay30_apply x0 x1 x2 x3 x4 x5 x6 x7 x8 x9 z1 k)
      (funext fun k => (ld21 x4 k z2).trans (congrArg (fun i : Fin 5888 => x4 (ix2 k i)) (Fin.ext ?_)))))
    show 2816 + z2.val = 2816 + j.val
    omega

end Body

end Cert.Kernel3Ideal.Hand

end
-- ==== Proof.ProjGeom.lean ====
module

public import proofs.«01_k».proof.Proof.Gen.Kernel3Ideal.Value
public import proofs.«01_k».proof.Proof.ProjMath
public import Idealize.ShloMosaic.Lib.Pipeline.ValueKit
public import Idealize.ShloMosaic.Lib.Claim
public import Idealize.ShloMosaic.Lib.Pointwise

/-!
  Where each window's block of the projection call lies in its array, and what the arrays hold when the call is entered.
-/

@[expose] public section

set_option maxRecDepth 16384

noncomputable section

namespace Cert.Kernel3Ideal.Hand

open Cert.Kernel3Ideal Cert.Kernel3Ideal.Gen Cert.Proj
open Idealize.ShloMosaic Idealize.ShloMosaic.TcCoe Idealize.SL.Sem

attribute [local instance] Cert.Kernel3Ideal.Gen.facts

variable (m : (ℓ : Loc nD τ sig) → Buf (Elt Ideal) ℓ)

/-- Every window's block index at a grid point: the point is sixteen times the batch plus the tile. -/
theorem idx0 : ∀ t : Fin cfg0.N, win0_0.index t = ![t.val / 16, t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![t.val / 16, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val % 16, 0] := (by decide +kernel : ∀ t : Fin grid0.N, _)
theorem idx9 : ∀ t : Fin cfg0.N, win0_9.index t = ![t.val % 16, 0] := (by decide +kernel : ∀ t : Fin grid0.N, _)
theorem idx10 : ∀ t : Fin cfg0.N, win0_10.index t = ![t.val / 16, t.val % 16, 0] := (by decide +kernel : ∀ t : Fin grid0.N, _)
theorem idx11 : ∀ t : Fin cfg0.N, win0_11.index t = ![t.val / 16, t.val % 16, 0] := (by decide +kernel : ∀ t : Fin grid0.N, _)
theorem idx12 : ∀ t : Fin cfg0.N, win0_12.index t = ![t.val / 16, t.val % 16, 0] := (by decide +kernel : ∀ t : Fin grid0.N, _)
theorem idx13 : ∀ t : Fin cfg0.N, win0_13.index t = ![t.val / 16, t.val % 16, 0] := (by decide +kernel : ∀ t : Fin grid0.N, _)
theorem idx14 : ∀ t : Fin cfg0.N, win0_14.index t = ![t.val / 16, t.val % 16, 0] := (by decide +kernel : ∀ t : Fin grid0.N, _)
theorem idx15 : ∀ t : Fin cfg0.N, win0_15.index t = ![t.val / 16, t.val % 16, 0] := (by decide +kernel : ∀ t : Fin grid0.N, _)

theorem lt64 (t : Fin cfg0.N) : t.val < 64 := Nat.lt_of_lt_of_eq t.isLt N_0

/-- A grid point's batch, and the position in it of a row of the tile. -/
def bat (t : Fin cfg0.N) : Fin 4 := ⟨t.val / 16, by have := lt64 t; omega⟩
def pos (t : Fin cfg0.N) (a : Fin 512) : Fin 8192 := ⟨512 * (t.val % 16) + a.val, by omega⟩

/-- The nine arguments as functions. -/
def args (c : Dev nD) : Args where
  x b s k := (m ((c.tc : Thread nD τ).loc main_arg0) : S4x8192x1024.Idx → EReal) (ix3 b s k)
  g k := (m ((c.tc : Thread nD τ).loc main_arg1) : S1024.Idx → EReal) (ix1 k)
  sh b k := (m ((c.tc : Thread nD τ).loc main_arg2) : S4x1024.Idx → EReal) (ix2 b k)
  sc b k := (m ((c.tc : Thread nD τ).loc main_arg3) : S4x1024.Idx → EReal) (ix2 b k)
  w k j := (m ((c.tc : Thread nD τ).loc main_arg4) : S1024x5888.Idx → EReal) (ix2 k j)
  qg d := (m ((c.tc : Thread nD τ).loc main_arg5) : S64.Idx → EReal) (ix1 d)
  kg d := (m ((c.tc : Thread nD τ).loc main_arg6) : S64.Idx → EReal) (ix1 d)
  co s u f := (m ((c.tc : Thread nD τ).loc main_arg7) : S8192x2x16.Idx → EReal) (ix3 s u f)
  si s u f := (m ((c.tc : Thread nD τ).loc main_arg8) : S8192x2x16.Idx → EReal) (ix3 s u f)

/-- A constant of the host, minus one; and one over sixty-four. -/
theorem ofBits_neg_one : Ideal.ofBits FTy.f32 0xBF800000#32 = ((-1 : ℝ) : EReal) := by
  simp [Ideal.ofBits, Ideal.ieee, -EReal.coe_mul]; norm_num
theorem ofBits_64th : Ideal.ofBits FTy.f32 0x3C800000#32 = ((1 / 64 : ℝ) : EReal) := by
  simp [Ideal.ofBits, Ideal.ieee, -EReal.coe_mul]; norm_num

/-- A table's row of 64 columns laid out twice, the first of each pair from `p`, the second from `q`. -/
theorem twice (p q : Fin 2 → Fin 16 → EReal) (j : Fin 128) :
    (if h : j.val < 64 then
        if h1 : j.val / 16 % 2 < 1 then p ⟨j.val / 32, by omega⟩ ⟨j.val % 16, by omega⟩ else q ⟨j.val / 32, by omega⟩ ⟨j.val % 16, by omega⟩
      else if h1 : (j.val - 64) / 16 % 2 < 1 then p ⟨(j.val - 64) / 32, by omega⟩ ⟨(j.val - 64) % 16, by omega⟩
      else q ⟨(j.val - 64) / 32, by omega⟩ ⟨(j.val - 64) % 16, by omega⟩)
      = if j.val % 32 < 16 then p ⟨j.val % 64 / 32, by omega⟩ ⟨j.val % 16, by omega⟩ else q ⟨j.val % 64 / 32, by omega⟩ ⟨j.val % 16, by omega⟩ := by
  by_cases h : j.val < 64
  · have e1 : (⟨j.val / 32, by omega⟩ : Fin 2) = ⟨j.val % 64 / 32, by omega⟩ := Fin.ext (by show j.val / 32 = j.val % 64 / 32; omega)
    rw [dif_pos h, e1]
    by_cases h1 : j.val % 32 < 16
    · rw [if_pos h1, dif_pos (by omega)]
    · rw [if_neg h1, dif_neg (by omega)]
  · have e1 : (⟨(j.val - 64) / 32, by omega⟩ : Fin 2) = ⟨j.val % 64 / 32, by omega⟩ := Fin.ext (by show (j.val - 64) / 32 = j.val % 64 / 32; omega)
    have e2 : (⟨(j.val - 64) % 16, by omega⟩ : Fin 16) = ⟨j.val % 16, by omega⟩ := Fin.ext (by show (j.val - 64) % 16 = j.val % 16; omega)
    rw [dif_neg h, e1]
    by_cases h1 : j.val % 32 < 16
    · rw [if_pos h1, dif_pos (by omega), e2]
    · rw [if_neg h1, dif_neg (by omega), e2]

/-- Two columns have one head when their sixty-fourths agree. -/
theorem div64 : ∀ x : Fin 512, IntOp.divsi ArithUnit.host (BitVec.ofNat 32 x.val) 64#32 = BitVec.ofNat 32 (x.val / 64) := by decide +kernel
theorem eq8 : ∀ a b : Fin 8, IntOp.cmpi CmpIPredicate.eq (BitVec.ofNat 32 a.val) (BitVec.ofNat 32 b.val) = if a.val = b.val then 1#1 else 0#1 := by
  decide +kernel

section Host
variable (c : Dev nD)

theorem val_v0 (k : Fin 1024) (j : Fin 5888) : (V m c main_v0 : S1024x5888.Idx → EReal) (ix2 k j) = (args m c).w k j := by
  unfold args
  simp only [V, hostOps0, hostOps0_1, hostOps0_2, List.flatten_cons, List.flatten_nil, List.append_nil, List.cons_append, List.nil_append]
  entry_read
  pointwise
theorem val_v24 (k : Fin 1024) : (V m c main_v24 : S1x1024.Idx → EReal) (ix2 (0 : Fin 1) k) = (args m c).g k := by
  unfold args
  simp only [V, hostOps0, hostOps0_1, hostOps0_2, List.flatten_cons, List.flatten_nil, List.append_nil, List.cons_append, List.nil_append]
  entry_read
  pointwise
theorem val_v25 (b : Fin 4) (k : Fin 1024) : (V m c main_v25 : S4x1x1024.Idx → EReal) (ix3 b (0 : Fin 1) k) = (args m c).sh b k := by
  unfold args
  simp only [V, hostOps0, hostOps0_1, hostOps0_2, List.flatten_cons, List.flatten_nil, List.append_nil, List.cons_append, List.nil_append]
  entry_read
  pointwise
theorem val_v26 (b : Fin 4) (k : Fin 1024) : (V m c main_v26 : S4x1x1024.Idx → EReal) (ix3 b (0 : Fin 1) k) = (args m c).sc b k := by
  unfold args
  simp only [V, hostOps0, hostOps0_1, hostOps0_2, List.flatten_cons, List.flatten_nil, List.append_nil, List.cons_append, List.nil_append]
  entry_read
  pointwise
theorem val_v30 (j : Fin 512) : (V m c main_v30 : S1x512.Idx → EReal) (ix2 (0 : Fin 1) j) = (args m c).qg ⟨j.val % 64, by omega⟩ := by
  unfold args
  simp only [V, hostOps0, hostOps0_1, hostOps0_2, List.flatten_cons, List.flatten_nil, List.append_nil, List.cons_append, List.nil_append]
  entry_read
  pointwise
theorem val_v34 (j : Fin 512) : (V m c main_v34 : S1x512.Idx → EReal) (ix2 (0 : Fin 1) j) = (args m c).kg ⟨j.val % 64, by omega⟩ := by
  unfold args
  simp only [V, hostOps0, hostOps0_1, hostOps0_2, List.flatten_cons, List.flatten_nil, List.append_nil, List.cons_append, List.nil_append]
  entry_read
  pointwise
theorem val_v7 (s : Fin 8192) (j : Fin 128) : (V m c main_v7 : S8192x128.Idx → EReal) (ix2 s j)
    = (args m c).co s ⟨j.val % 64 / 32, by omega⟩ ⟨j.val % 16, by omega⟩ := by
  unfold args
  simp only [V, hostOps0, hostOps0_1, hostOps0_2, List.flatten_cons, List.flatten_nil, List.append_nil, List.cons_append, List.nil_append]
  entry_read
  pointwise
  after_results_simp
  pointwise
  refine (twice (fun u f => (m ((c.tc : Thread nD τ).loc main_arg7) : S8192x2x16.Idx → EReal) (ix3 s u f))
    (fun u f => (m ((c.tc : Thread nD τ).loc main_arg7) : S8192x2x16.Idx → EReal) (ix3 s u f)) j).trans ?_
  exact ite_self _
theorem val_v14 (s : Fin 8192) (j : Fin 128) : (V m c main_v14 : S8192x128.Idx → EReal) (ix2 s j)
    = if j.val % 32 < 16 then -(args m c).si s ⟨j.val % 64 / 32, by omega⟩ ⟨j.val % 16, by omega⟩
      else (args m c).si s ⟨j.val % 64 / 32, by omega⟩ ⟨j.val % 16, by omega⟩ := by
  unfold args
  simp only [V, hostOps0, hostOps0_1, hostOps0_2, List.flatten_cons, List.flatten_nil, List.append_nil, List.cons_append, List.nil_append]
  entry_read
  pointwise
  after_results_simp
  pointwise
  refine (twice (fun u f => Ideal.ofBits FTy.f32 0xBF800000#32 * (m ((c.tc : Thread nD τ).loc main_arg8) : S8192x2x16.Idx → EReal) (ix3 s u f))
    (fun u f => (m ((c.tc : Thread nD τ).loc main_arg8) : S8192x2x16.Idx → EReal) (ix3 s u f)) j).trans ?_
  rw [ofBits_neg_one, EReal.coe_neg, EReal.coe_one]
  simp only [neg_mul, one_mul]
theorem val_v23 (x j : Fin 512) : (V m c main_v23 : S512x512.Idx → EReal) (ix2 x j) = gmw x j := by
  unfold gmw
  simp only [V, hostOps0, hostOps0_1, hostOps0_2, List.flatten_cons, List.flatten_nil, List.append_nil, List.cons_append, List.nil_append]
  entry_read
  show (select (cmpi CmpIPredicate.eq
      (Host.divsi (iotaInDim S512x512 32 0) (broadcastInDim S512x512 ![] bcast_S_S512x512 (constantI S_ 32 64#32)))
      (Host.divsi (iotaInDim S512x512 32 1) (broadcastInDim S512x512 ![] bcast_S_S512x512 (constantI S_ 32 64#32))))
    (broadcastInDim S512x512 ![] bcast_S_S512x512 (constant S_ FTy.f32 0x3C800000#32) : FVec Ideal S512x512 .f32)
    (broadcastInDim S512x512 ![] bcast_S_S512x512 (constant S_ FTy.f32 0x00000000#32) : FVec Ideal S512x512 .f32) : S512x512.Idx → EReal) (ix2 x j) = _
  pointwise
  rw [div64, div64, eq8 ⟨x.val / 64, by omega⟩ ⟨j.val / 64, by omega⟩, ofBits_64th]
  by_cases h : x.val / 64 = j.val / 64
  · rw [if_pos h, if_pos h]; rfl
  · rw [if_neg h, if_neg h]; rfl

end Host

section Blocks
variable (c : Dev nD) (t : Fin cfg0.N)

theorem iblk0_apply (a : Fin 512) (k : Fin 1024) : (iblk m c 0 t : S1x512x1024.Idx → EReal) (ix3 (0 : Fin 1) a k) = (args m c).x (bat t) (pos t a) k := by
  have h : (iblk m c 0 t : S1x512x1024.Idx → EReal) (ix3 (0 : Fin 1) a k) = (V m c main_arg0 : S4x8192x1024.Idx → EReal) (ix3 (bat t) (pos t a) k) := by
    blk_simp [iblk]
    refine congrArg (V m c main_arg0 : S4x8192x1024.Idx → EReal) ?_
    blk_ext [idx0, bat, pos]
  rw [h, V_main_arg0]; rfl
theorem iblk1_apply (k : Fin 1024) : (iblk m c 1 t : S1x1024.Idx → EReal) (ix2 (0 : Fin 1) k) = (args m c).g k := by
  rw [← val_v24]
  blk_simp [iblk]
  refine congrArg (V m c main_v24 : S1x1024.Idx → EReal) ?_
  blk_ext [idx1]
theorem iblk2_apply (k : Fin 1024) : (iblk m c 2 t : S1x1x1024.Idx → EReal) (ix3 (0 : Fin 1) (0 : Fin 1) k) = (args m c).sh (bat t) k := by
  rw [← val_v25]
  blk_simp [iblk]
  refine congrArg (V m c main_v25 : S4x1x1024.Idx → EReal) ?_
  blk_ext [idx2, bat, pos]
theorem iblk3_apply (k : Fin 1024) : (iblk m c 3 t : S1x1x1024.Idx → EReal) (ix3 (0 : Fin 1) (0 : Fin 1) k) = (args m c).sc (bat t) k := by
  rw [← val_v26]
  blk_simp [iblk]
  refine congrArg (V m c main_v26 : S4x1x1024.Idx → EReal) ?_
  blk_ext [idx3, bat, pos]
theorem iblk4_apply (k : Fin 1024) (j : Fin 5888) : (iblk m c 4 t : S1024x5888.Idx → EReal) (ix2 k j) = (args m c).w k j := by
  rw [← val_v0]
  blk_simp [iblk]
  refine congrArg (V m c main_v0 : S1024x5888.Idx → EReal) ?_
  blk_ext [idx4]
theorem iblk5_apply (x j : Fin 512) : (iblk m c 5 t : S512x512.Idx → EReal) (ix2 x j) = gmw x j := by
  rw [← val_v23 m c]
  blk_simp [iblk]
  refine congrArg (V m c main_v23 : S512x512.Idx → EReal) ?_
  blk_ext [idx5]
theorem iblk6_apply (j : Fin 512) : (iblk m c 6 t : S1x512.Idx → EReal) (ix2 (0 : Fin 1) j) = (args m c).qg ⟨j.val % 64, by omega⟩ := by
  rw [← val_v30]
  blk_simp [iblk]
  refine congrArg (V m c main_v30 : S1x512.Idx → EReal) ?_
  blk_ext [idx6]
theorem iblk7_apply (j : Fin 512) : (iblk m c 7 t : S1x512.Idx → EReal) (ix2 (0 : Fin 1) j) = (args m c).kg ⟨j.val % 64, by omega⟩ := by
  rw [← val_v34]
  blk_simp [iblk]
  refine congrArg (V m c main_v34 : S1x512.Idx → EReal) ?_
  blk_ext [idx7]
theorem iblk8_apply (a : Fin 512) (j : Fin 128) : (iblk m c 8 t : S512x128.Idx → EReal) (ix2 a j)
    = (args m c).co (pos t a) ⟨j.val % 64 / 32, by omega⟩ ⟨j.val % 16, by omega⟩ := by
  rw [← val_v7]
  blk_simp [iblk]
  refine congrArg (V m c main_v7 : S8192x128.Idx → EReal) ?_
  blk_ext [idx8, bat, pos]
theorem iblk9_apply (a : Fin 512) (j : Fin 128) : (iblk m c 9 t : S512x128.Idx → EReal) (ix2 a j)
    = if j.val % 32 < 16 then -(args m c).si (pos t a) ⟨j.val % 64 / 32, by omega⟩ ⟨j.val % 16, by omega⟩
      else (args m c).si (pos t a) ⟨j.val % 64 / 32, by omega⟩ ⟨j.val % 16, by omega⟩ := by
  rw [← val_v14]
  blk_simp [iblk]
  refine congrArg (V m c main_v14 : S8192x128.Idx → EReal) ?_
  blk_ext [idx9, bat, pos]

end Blocks

end Cert.Kernel3Ideal.Hand

end
-- ==== Proof.ProjValue.lean ====
module

public import proofs.«01_k».proof.Proof.ProjOut
public import proofs.«01_k».proof.Proof.ProjGeom

/-!
  The six arrays the projection call leaves, element by element.
-/

@[expose] public section

set_option maxRecDepth 16384
set_option maxHeartbeats 2000000

noncomputable section

namespace Cert.Kernel3Ideal.Hand

open Cert.Kernel3Ideal Cert.Kernel3Ideal.Gen Cert.Proj
open Idealize.ShloMosaic Idealize.ShloMosaic.TcCoe Idealize.SL.Sem

attribute [local instance] Cert.Kernel3Ideal.Gen.facts

/-- A column of a tile's projection, its blocks' entries those of a token. -/
theorem bcol_of (x0 : Vec Ideal S1x512x1024 .f32) (x1 : Vec Ideal S1x1024 .f32) (x2 x3 : Vec Ideal S1x1x1024 .f32)
    (x4 : Vec Ideal S1024x5888 .bf16) (A : Args) (b : Fin 4) (s : Fin 8192) (a : Fin 512) (j : Fin 5888)
    (e0 : ∀ k : Fin 1024, x0 (ix3 (0 : Fin 1) a k) = A.x b s k) (e1 : ∀ k : Fin 1024, x1 (ix2 (0 : Fin 1) k) = A.g k)
    (e2 : ∀ k : Fin 1024, x2 (ix3 (0 : Fin 1) (0 : Fin 1) k) = A.sh b k) (e3 : ∀ k : Fin 1024, x3 (ix3 (0 : Fin 1) (0 : Fin 1) k) = A.sc b k)
    (e4 : ∀ k : Fin 1024, x4 (ix2 k j) = A.w k j) : bcol x0 x1 x2 x3 x4 a j = A.col b s j := by
  unfold bcol brow Args.col
  rw [funext e0, funext e1, funext e2, funext e3, funext e4]

variable (m : (ℓ : Loc nD τ sig) → Buf (Elt Ideal) ℓ) (c : Dev nD)

section Point
variable (t : Fin cfg0.N)

/-- A column of the tile's projection at a grid point is the token's. -/
theorem bcol_eq (a : Fin 512) (j : Fin 5888) :
    bcol (iblk m c 0 t) (iblk m c 1 t) (iblk m c 2 t) (iblk m c 3 t) (iblk m c 4 t) a j = (args m c).col (bat t) (pos t a) j :=
  bcol_of (iblk m c 0 t) (iblk m c 1 t) (iblk m c 2 t) (iblk m c 3 t) (iblk m c 4 t) (args m c) (bat t) (pos t a) a j
    (fun k => iblk0_apply m c t a k) (fun k => iblk1_apply m c t k) (fun k => iblk2_apply m c t k) (fun k => iblk3_apply m c t k)
    (fun k => iblk4_apply m c t k j)

/-- The rotated, normalized values of queries and of keys at a grid point. -/
theorem rope_eq (a j : Fin 512) (acc : Fin 512 → EReal) (gain : Fin 512 → EReal) (g : Fin 64 → EReal)
    (hg : ∀ j : Fin 512, gain j = g ⟨j.val % 64, by omega⟩) :
    ropeM (nvM acc (fun x j => (iblk m c 5 t : S512x512.Idx → EReal) (ix2 x j)) gain)
        (fun j => (iblk m c 8 t : S512x128.Idx → EReal) (ix2 a j)) (fun j => (iblk m c 9 t : S512x128.Idx → EReal) (ix2 a j)) j
      = rope (nv acc g) ((args m c).co (pos t a)) ((args m c).si (pos t a)) j := by
  rw [ropeM_eq _ _ _ _ _ (fun j => iblk8_apply m c t a j) (fun j => iblk9_apply m c t a j) j]
  exact congrArg (fun v => rope v ((args m c).co (pos t a)) ((args m c).si (pos t a)) j)
    (funext fun j => nvM_eq acc _ gain g (fun x j => iblk5_apply m c t x j) hg j)

abbrev blk0 := out0_10 (iblk m c 0 t) (iblk m c 1 t) (iblk m c 2 t) (iblk m c 3 t) (iblk m c 4 t) (iblk m c 5 t) (iblk m c 6 t) (iblk m c 7 t) (iblk m c 8 t) (iblk m c 9 t)
abbrev blk1 := out0_11 (iblk m c 0 t) (iblk m c 1 t) (iblk m c 2 t) (iblk m c 3 t) (iblk m c 4 t) (iblk m c 5 t) (iblk m c 6 t) (iblk m c 7 t) (iblk m c 8 t) (iblk m c 9 t)
abbrev blk2 := out0_12 (iblk m c 0 t) (iblk m c 1 t) (iblk m c 2 t) (iblk m c 3 t) (iblk m c 4 t) (iblk m c 5 t) (iblk m c 6 t) (iblk m c 7 t) (iblk m c 8 t) (iblk m c 9 t)
abbrev blk3 := out0_13 (iblk m c 0 t) (iblk m c 1 t) (iblk m c 2 t) (iblk m c 3 t) (iblk m c 4 t) (iblk m c 5 t) (iblk m c 6 t) (iblk m c 7 t) (iblk m c 8 t) (iblk m c 9 t)
abbrev blk4 := out0_14 (iblk m c 0 t) (iblk m c 1 t) (iblk m c 2 t) (iblk m c 3 t) (iblk m c 4 t) (iblk m c 5 t) (iblk m c 6 t) (iblk m c 7 t) (iblk m c 8 t) (iblk m c 9 t)
abbrev blk5 := out0_15 (iblk m c 0 t) (iblk m c 1 t) (iblk m c 2 t) (iblk m c 3 t) (iblk m c 4 t) (iblk m c 5 t) (iblk m c 6 t) (iblk m c 7 t) (iblk m c 8 t) (iblk m c 9 t)

/-- The six blocks at a grid point hold the tokens' six results. -/
theorem blk0_apply (a : Fin 512) (j : Fin 512) : (blk0 m c t : S1x512x512.Idx → EReal) (ix3 (0 : Fin 1) a j) = (args m c).r0 (bat t) (pos t a) j :=
  (out10_apply _ _ _ _ _ _ _ _ _ _ a j).trans (bcol_eq m c t a _)
theorem blk1_apply (a : Fin 512) (j : Fin 768) : (blk1 m c t : S1x512x768.Idx → EReal) (ix3 (0 : Fin 1) a j) = (args m c).r1 (bat t) (pos t a) j :=
  (out11_apply _ _ _ _ _ _ _ _ _ _ a j).trans (bcol_eq m c t a _)
theorem blk2_apply (a : Fin 512) (j : Fin 512) : (blk2 m c t : S1x512x512.Idx → EReal) (ix3 (0 : Fin 1) a j) = (args m c).r2 (bat t) (pos t a) j := by
  refine (out12_apply _ _ _ _ _ _ _ _ _ _ a j).trans ((rope_eq m c t a j _ _ (args m c).qg (fun j => iblk6_apply m c t j)).trans ?_)
  exact congrArg (fun acc => rope (nv acc (args m c).qg) ((args m c).co (pos t a)) ((args m c).si (pos t a)) j) (funext fun j => bcol_eq m c t a _)
theorem blk3_apply (a : Fin 512) (j : Fin 512) : (blk3 m c t : S1x512x512.Idx → EReal) (ix3 (0 : Fin 1) a j) = (args m c).r3 (bat t) (pos t a) j := by
  refine (out13_apply _ _ _ _ _ _ _ _ _ _ a j).trans ((rope_eq m c t a j _ _ (args m c).kg (fun j => iblk7_apply m c t j)).trans ?_)
  exact congrArg (fun acc => rope (nv acc (args m c).kg) ((args m c).co (pos t a)) ((args m c).si (pos t a)) j) (funext fun j => bcol_eq m c t a _)
theorem blk4_apply (a : Fin 512) (j : Fin 1024) : (blk4 m c t : S1x512x1024.Idx → EReal) (ix3 (0 : Fin 1) a j) = (args m c).r4 (bat t) (pos t a) j :=
  (out14_apply _ _ _ _ _ _ _ _ _ _ a j).trans (congrArg (fun f => bval f j) (funext fun j => bcol_eq m c t a _))
theorem blk5_apply (a : Fin 512) (j : Fin 3072) : (blk5 m c t : S1x512x3072.Idx → EReal) (ix3 (0 : Fin 1) a j) = (args m c).r5 (bat t) (pos t a) j :=
  (out15_apply _ _ _ _ _ _ _ _ _ _ a j).trans (congrArg Ideal.logistic (bcol_eq m c t a _))

end Point

/-- A result's array, from its value at batch, position and column. -/
def arr3 {n : Nat} (f : Fin 4 → Fin 8192 → Fin n → EReal) (i : (⟨3, ![4, 8192, n]⟩ : Shape).Idx) : EReal := f (i 0) (i 1) (i 2)

/-- A value at a grid point's token is the array's at the index it goes to. -/
theorem arr_at {n : Nat} (f : Fin 4 → Fin 8192 → Fin n → EReal) (t : Fin cfg0.N) (a : Fin 512) (j : Fin n)
    (i : (⟨3, ![4, 8192, n]⟩ : Shape).Idx) (h0 : (i 0).val = t.val / 16) (h1 : (i 1).val = 512 * (t.val % 16) + a.val) (h2 : (i 2).val = j.val) :
    f (bat t) (pos t a) j = arr3 f i := by
  unfold arr3
  rw [show bat t = i 0 from Fin.ext h0.symm, show pos t a = i 1 from Fin.ext h1.symm, show j = i 2 from Fin.ext h2.symm]

/-- The six arrays after the call. -/
theorem arr0_eq : (dats m 0 c).arrAt 10 cfg0.N = arr3 (args m c).r0 := by
  refine (dats m 0 c).arrAt_eq_of_covers 10 _ (by decide +kernel) fun t hf y => ?_
  idx_vars y
  rw [Subsingleton.elim y0 (0 : Fin 1)]
  refine Eq.trans (b := (args m c).r0 (bat t) (pos t y1) y2) ?_ (arr_at (args m c).r0 t y1 y2 _ ?_ ?_ ?_)
  · blk_simp
    rw [after0_10]
    exact blk0_apply m c t y1 y2
  · blk_simp [idx10]; rfl
  · blk_simp [idx10]; omega
  · blk_simp [idx10]
theorem arr1_eq : (dats m 0 c).arrAt 11 cfg0.N = arr3 (args m c).r1 := by
  refine (dats m 0 c).arrAt_eq_of_covers 11 _ (by decide +kernel) fun t hf y => ?_
  idx_vars y
  rw [Subsingleton.elim y0 (0 : Fin 1)]
  refine Eq.trans (b := (args m c).r1 (bat t) (pos t y1) y2) ?_ (arr_at (args m c).r1 t y1 y2 _ ?_ ?_ ?_)
  · blk_simp
    rw [after0_11]
    exact blk1_apply m c t y1 y2
  · blk_simp [idx11]; rfl
  · blk_simp [idx11]; omega
  · blk_simp [idx11]
theorem arr2_eq : (dats m 0 c).arrAt 12 cfg0.N = arr3 (args m c).r2 := by
  refine (dats m 0 c).arrAt_eq_of_covers 12 _ (by decide +kernel) fun t hf y => ?_
  idx_vars y
  rw [Subsingleton.elim y0 (0 : Fin 1)]
  refine Eq.trans (b := (args m c).r2 (bat t) (pos t y1) y2) ?_ (arr_at (args m c).r2 t y1 y2 _ ?_ ?_ ?_)
  · blk_simp
    rw [after0_12]
    exact blk2_apply m c t y1 y2
  · blk_simp [idx12]; rfl
  · blk_simp [idx12]; omega
  · blk_simp [idx12]
theorem arr3_eq : (dats m 0 c).arrAt 13 cfg0.N = arr3 (args m c).r3 := by
  refine (dats m 0 c).arrAt_eq_of_covers 13 _ (by decide +kernel) fun t hf y => ?_
  idx_vars y
  rw [Subsingleton.elim y0 (0 : Fin 1)]
  refine Eq.trans (b := (args m c).r3 (bat t) (pos t y1) y2) ?_ (arr_at (args m c).r3 t y1 y2 _ ?_ ?_ ?_)
  · blk_simp
    rw [after0_13]
    exact blk3_apply m c t y1 y2
  · blk_simp [idx13]; rfl
  · blk_simp [idx13]; omega
  · blk_simp [idx13]
theorem arr4_eq : (dats m 0 c).arrAt 14 cfg0.N = arr3 (args m c).r4 := by
  refine (dats m 0 c).arrAt_eq_of_covers 14 _ (by decide +kernel) fun t hf y => ?_
  idx_vars y
  rw [Subsingleton.elim y0 (0 : Fin 1)]
  refine Eq.trans (b := (args m c).r4 (bat t) (pos t y1) y2) ?_ (arr_at (args m c).r4 t y1 y2 _ ?_ ?_ ?_)
  · blk_simp
    rw [after0_14]
    exact blk4_apply m c t y1 y2
  · blk_simp [idx14]; rfl
  · blk_simp [idx14]; omega
  · blk_simp [idx14]
theorem arr5_eq : (dats m 0 c).arrAt 15 cfg0.N = arr3 (args m c).r5 := by
  refine (dats m 0 c).arrAt_eq_of_covers 15 _ (by decide +kernel) fun t hf y => ?_
  idx_vars y
  rw [Subsingleton.elim y0 (0 : Fin 1)]
  refine Eq.trans (b := (args m c).r5 (bat t) (pos t y1) y2) ?_ (arr_at (args m c).r5 t y1 y2 _ ?_ ?_ ?_)
  · blk_simp
    rw [after0_15]
    exact blk5_apply m c t y1 y2
  · blk_simp [idx15]; rfl
  · blk_simp [idx15]; omega
  · blk_simp [idx15]

end Cert.Kernel3Ideal.Hand

end
-- ==== Proof.ProjRef.lean ====
module

public import proofs.«01_k».proof.Proof.Gen.Reference3Ideal.Run
public import proofs.«01_k».proof.Proof.ProjMath
public import Idealize.ShloMosaic.Lib.Pointwise

/-!
  The projection reference's steps, and what each leaves, element by element.
-/

@[expose] public section

set_option maxRecDepth 16384

noncomputable section

namespace Cert.Reference3Ideal.Hand

open Cert.Reference3Ideal Cert.Reference3Ideal.Gen Cert.Proj
open Idealize.ShloMosaic Idealize.ShloMosaic.TcCoe Idealize.SL.Sem Idealize.ShloMosaic.StableHlo

attribute [local instance] Cert.Reference3Ideal.Gen.facts

/-- The token rows, normalized and modulated. -/
def rows (x : FVec Ideal S4x8192x1024 .f32) (g : FVec Ideal S1024 .f32) (sh sc : FVec Ideal S4x1024 .f32) : FVec Ideal S4x8192x1024 .f32 :=
  addf (mulf (mulf (mulf x (broadcastInDim S4x8192x1024 ![0, 1, 2] bcast_S4x8192x1_S4x8192x1024_0_1_2 (Host.rsqrt (addf
      (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2 (addf
      (broadcastInDim S4x1x1024 ![] bcast_S_S4x1x1024 (constant S_ .f32 0x3F800000#32))
      (broadcastInDim S4x1x1024 ![0, 2] bcast_S4x1024_S4x1x1024_0_2 sc))))
    (broadcastInDim S4x8192x1024 ![0, 1, 2] bcast_S4x1x1024_S4x8192x1024_0_1_2 (broadcastInDim S4x1x1024 ![0, 2] bcast_S4x1024_S4x1x1024_0_2 sh))

/-- All columns of the projection. -/
def prod (h : FVec Ideal S4x8192x1024 .f32) (w : FVec Ideal S1024x5888 .f32) : FVec Ideal S4x8192x5888 .f32 :=
  Host.dotGeneral dot_S4x8192x1024_S1024x5888_S4x8192x5888_2_0_01_1_n_n none h w

/-- The queries' and the keys' columns, head by head. -/
def heads (y : FVec Ideal S4x8192x512 .f32) : FVec Ideal S4x8192x8x64 .f32 := shapeCast _ y shapeCasts_S4x8192x512_S4x8192x8x64

/-- The normalization of a head. -/
def norms (q : FVec Ideal S4x8192x8x64 .f32) (g : FVec Ideal S64 .f32) : FVec Ideal S4x8192x8x64 .f32 :=
  mulf (mulf q (broadcastInDim S4x8192x8x64 ![0, 1, 2, 3] bcast_S4x8192x8x1_S4x8192x8x64_0_1_2_3 (Host.rsqrt (addf
      (Host.divf (broadcastInDim S4x8192x8x1 ![0, 1, 2] bcast_S4x8192x8_S4x8192x8x1_0_1_2
          (Host.reduceAdd (mulf q q) (constant S_ .f32 0x00000000#32) reducesTo_S4x8192x8x64_S4x8192x8_d3 h_S_))
        (broadcastInDim S4x8192x8x1 ![] bcast_S_S4x8192x8x1 (constant S_ .f32 0x42800000#32)))
      (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 g))

/-- A head's columns as row or column half, first or second of a pair, frequency; and the two of each pair. -/
def pairs (n : FVec Ideal S4x8192x8x64 .f32) : FVec Ideal S4x8192x8x2x2x16 .f32 := shapeCast _ n shapeCasts_S4x8192x8x64_S4x8192x8x2x2x16
def fst (t : FVec Ideal S4x8192x8x2x2x16 .f32) : FVec Ideal S4x8192x8x2x16 .f32 :=
  shapeCast _ (extractStridedSlice S4x8192x8x2x1x16 ![0, 0, 0, 0, 0, 0] t slices_S4x8192x8x2x2x16_S4x8192x8x2x1x16_0_0_0_0_0_0)
    shapeCasts_S4x8192x8x2x1x16_S4x8192x8x2x16
def snd (t : FVec Ideal S4x8192x8x2x2x16 .f32) : FVec Ideal S4x8192x8x2x16 .f32 :=
  shapeCast _ (extractStridedSlice S4x8192x8x2x1x16 ![0, 0, 0, 0, 1, 0] t slices_S4x8192x8x2x2x16_S4x8192x8x2x1x16_0_0_0_0_1_0)
    shapeCasts_S4x8192x8x2x1x16_S4x8192x8x2x16

/-- The angles' cosines or sines beside every batch and head. -/
def angs (a : FVec Ideal S8192x2x16 .f32) : FVec Ideal S4x8192x8x2x16 .f32 :=
  broadcastInDim S4x8192x8x2x16 ![0, 1, 2, 3, 4] bcast_S1x8192x1x2x16_S4x8192x8x2x16_0_1_2_3_4
    (broadcastInDim S1x8192x1x2x16 ![1, 3, 4] bcast_S8192x2x16_S1x8192x1x2x16_1_3_4 a)

/-- The two of each pair turned, put back side by side. -/
def turned (a b c s : FVec Ideal S4x8192x8x2x16 .f32) : FVec Ideal S4x8192x8x2x2x16 .f32 :=
  concatenate S4x8192x8x2x2x16 4
    [⟨S4x8192x8x2x1x16, broadcastInDim S4x8192x8x2x1x16 ![0, 1, 2, 3, 5] bcast_S4x8192x8x2x16_S4x8192x8x2x1x16_0_1_2_3_5 (subf (mulf a c) (mulf b s))⟩,
     ⟨S4x8192x8x2x1x16, broadcastInDim S4x8192x8x2x1x16 ![0, 1, 2, 3, 5] bcast_S4x8192x8x2x16_S4x8192x8x2x1x16_0_1_2_3_5 (addf (mulf b c) (mulf a s))⟩]
    concatenates_S4x8192x8x2x1x16_S4x8192x8x2x1x16_S4x8192x8x2x2x16_d4
def flat (t : FVec Ideal S4x8192x8x2x2x16 .f32) : FVec Ideal S4x8192x512 .bf16 :=
  truncf .bf16 (shapeCast _ (shapeCast _ t shapeCasts_S4x8192x8x2x2x16_S4x8192x8x64 : FVec Ideal S4x8192x8x64 .f32) shapeCasts_S4x8192x8x64_S4x8192x512) bitsLt_bf16_f32

/-- The values with ones beside each head's; and heads put one after another. -/
def beside (y : FVec Ideal S4x8192x512 .f32) : FVec Ideal S4x8192x4x256 .f32 :=
  concatenate S4x8192x4x256 3
    [⟨S4x8192x4x128, shapeCast _ y shapeCasts_S4x8192x512_S4x8192x4x128⟩,
     ⟨S4x8192x4x128, broadcastInDim S4x8192x4x128 ![] bcast_S_S4x8192x4x128 (constant S_ .f32 0x3F800000#32)⟩]
    concatenates_S4x8192x4x128_S4x8192x4x128_S4x8192x4x256_d3
def vals (t : FVec Ideal S4x8192x4x256 .f32) : FVec Ideal S4x8192x1024 .bf16 :=
  truncf .bf16 (shapeCast _ t shapeCasts_S4x8192x4x256_S4x8192x1024) bitsLt_bf16_f32

/-- The gates. -/
def gates (y : FVec Ideal S4x8192x3072 .f32) : FVec Ideal S4x8192x3072 .bf16 :=
  truncf .bf16 (Host.divf (broadcastInDim S4x8192x3072 ![] bcast_S_S4x8192x3072 (constant S_ .f32 0x3F800000#32))
    (addf (broadcastInDim S4x8192x3072 ![] bcast_S_S4x8192x3072 (constant S_ .f32 0x3F800000#32)) (Host.exp (Host.negf y)))) bitsLt_bf16_f32

section Apply
variable (b : Fin 4) (s : Fin 8192)

theorem rows_apply (x : FVec Ideal S4x8192x1024 .f32) (g : FVec Ideal S1024 .f32) (sh sc : FVec Ideal S4x1024 .f32) (k : Fin 1024) :
    rows x g sh sc (ix3 b s k) = hid (fun k => x (ix3 b s k)) (fun k => g (ix1 k)) (fun k => sc (ix2 b k)) (fun k => sh (ix2 b k)) k := by
  unfold hid
  pointwise [rows]

theorem prod_apply (h : FVec Ideal S4x8192x1024 .f32) (w : FVec Ideal S1024x5888 .f32) (j : Fin 5888) :
    prod h w (ix3 b s j) = prj (fun k => h (ix3 b s k)) (fun k => w (ix2 k j)) := by
  unfold prj
  pointwise [prod]

theorem gates_apply (y : FVec Ideal S4x8192x3072 .f32) (j : Fin 3072) : gates y (ix3 b s j) = Ideal.logistic (y (ix3 b s j)) := by
  unfold Ideal.logistic
  pointwise [gates]

/-- The values' columns: the first half of each 256 are the head's values, the others one. -/
theorem beside_apply (y : FVec Ideal S4x8192x512 .f32) (h : Fin 4) (d : Fin 256) :
    @Eq EReal (beside y (ix4 b s h d)) (if e : d.val < 128 then y (ix3 b s (⟨h.val * 128 + d.val, by omega⟩ : Fin 512)) else 1) := by
  pointwise [beside]
theorem vals_apply (t : FVec Ideal S4x8192x4x256 .f32) (j : Fin 1024) :
    vals t (ix3 b s j) = t (ix4 b s (⟨j.val / 256, by omega⟩ : Fin 4) (⟨j.val % 256, by omega⟩ : Fin 256)) := by
  pointwise [vals]

theorem norms_apply (y : FVec Ideal S4x8192x512 .f32) (g : FVec Ideal S64 .f32) (h : Fin 8) (d : Fin 64) :
    norms (heads y) g (ix4 b s h d) = nv (fun j => y (ix3 b s j)) (fun d => g (ix1 d)) ⟨h.val * 64 + d.val, by omega⟩ := by
  unfold nv
  pointwise [norms, heads]
  have e1 : (h.val * 64 + d.val) / 64 = h.val := by omega
  have e2 : (h.val * 64 + d.val) % 64 = d.val := by omega
  simp only [e1, e2, Fin.eta]

theorem fst_apply (n : FVec Ideal S4x8192x8x64 .f32) (h : Fin 8) (u : Fin 2) (f : Fin 16) :
    fst (pairs n) (ix5 b s h u f) = n (ix4 b s h (⟨u.val * 32 + f.val, by omega⟩ : Fin 64)) := by
  pointwise [fst, pairs]
theorem snd_apply (n : FVec Ideal S4x8192x8x64 .f32) (h : Fin 8) (u : Fin 2) (f : Fin 16) :
    snd (pairs n) (ix5 b s h u f) = n (ix4 b s h (⟨u.val * 32 + (16 + f.val), by omega⟩ : Fin 64)) := by
  pointwise [snd, pairs]
  exact congrArg (fun d : Fin 64 => n (ix4 b s h d)) (Fin.ext (Nat.add_assoc _ _ _))
theorem angs_apply (a : FVec Ideal S8192x2x16 .f32) (h : Fin 8) (u : Fin 2) (f : Fin 16) :
    angs a (ix5 b s h u f) = a (ix3 s u f) := by
  pointwise [angs]
theorem turned_apply0 (x y c n : FVec Ideal S4x8192x8x2x16 .f32) (h : Fin 8) (u : Fin 2) (f : Fin 16) :
    turned x y c n (ix6 b s h u (0 : Fin 2) f) = x (ix5 b s h u f) * c (ix5 b s h u f) - y (ix5 b s h u f) * n (ix5 b s h u f) := by
  pointwise [turned]
theorem turned_apply1 (x y c n : FVec Ideal S4x8192x8x2x16 .f32) (h : Fin 8) (u : Fin 2) (f : Fin 16) :
    turned x y c n (ix6 b s h u (1 : Fin 2) f) = y (ix5 b s h u f) * c (ix5 b s h u f) + x (ix5 b s h u f) * n (ix5 b s h u f) := by
  pointwise [turned]
theorem flat_apply (t : FVec Ideal S4x8192x8x2x2x16 .f32) (j : Fin 512) :
    flat t (ix3 b s j) = t (ix6 b s (⟨j.val / 64, by omega⟩ : Fin 8) (half j) (⟨j.val % 32 / 16, by omega⟩ : Fin 2) (freq j)) := by
  unfold half freq
  pointwise [flat]
  refine congrArg₂ (fun (u p : Fin 2) => t (ix6 b s (⟨j.val / 64, by omega⟩ : Fin 8) u p (⟨j.val % 16, by omega⟩ : Fin 16))) (Fin.ext ?_) (Fin.ext ?_)
  · show j.val / 32 % 2 = j.val % 64 / 32; omega
  · show j.val / 16 % 2 = j.val % 32 / 16; omega

end Apply

section Results
variable (m : (ℓ : Loc nD τ sig) → Buf (Elt Ideal) ℓ) (c : Dev nD)

/-- The reference's queries and keys are these steps, one after another. -/
def proj : FVec Ideal S4x8192x5888 .f32 :=
  prod (rows (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4))
def spun (n : FVec Ideal S4x8192x8x64 .f32) (cs sn : FVec Ideal S8192x2x16 .f32) : FVec Ideal S4x8192x512 .bf16 :=
  flat (turned (fst (pairs n)) (snd (pairs n)) (angs cs) (angs sn))

theorem res_q : Value.res_main_v68 m c = spun (norms (heads (extractStridedSlice S4x8192x512 ![0, 0, 1280] (proj m c) slices_S4x8192x5888_S4x8192x512_0_0_1280))
    (m ((c.tc : Thread nD τ).loc main_arg5))) (m ((c.tc : Thread nD τ).loc main_arg7)) (m ((c.tc : Thread nD τ).loc main_arg8)) := rfl
theorem res_k : Value.res_main_v105 m c = spun (norms (heads (extractStridedSlice S4x8192x512 ![0, 0, 1792] (proj m c) slices_S4x8192x5888_S4x8192x512_0_0_1792))
    (m ((c.tc : Thread nD τ).loc main_arg6))) (m ((c.tc : Thread nD τ).loc main_arg7)) (m ((c.tc : Thread nD τ).loc main_arg8)) := rfl

end Results

end Cert.Reference3Ideal.Hand

end
-- ==== Proof.ProjRefValue.lean ====
module

public import proofs.«01_k».proof.Proof.ProjRef

/-!
  The reference's six results as formulas of the arguments.
-/

@[expose] public section

set_option maxRecDepth 16384

noncomputable section

namespace Cert.Reference3Ideal.Hand

open Cert.Reference3Ideal Cert.Reference3Ideal.Gen Cert.Proj
open Idealize.ShloMosaic Idealize.ShloMosaic.TcCoe Idealize.SL.Sem Idealize.ShloMosaic.StableHlo

attribute [local instance] Cert.Reference3Ideal.Gen.facts

variable (m : (ℓ : Loc nD τ sig) → Buf (Elt Ideal) ℓ) (c : Dev nD)

/-- The nine arguments as functions. -/
def args : Args where
  x b s k := (m ((c.tc : Thread nD τ).loc main_arg0) : S4x8192x1024.Idx → EReal) (ix3 b s k)
  g k := (m ((c.tc : Thread nD τ).loc main_arg1) : S1024.Idx → EReal) (ix1 k)
  sh b k := (m ((c.tc : Thread nD τ).loc main_arg2) : S4x1024.Idx → EReal) (ix2 b k)
  sc b k := (m ((c.tc : Thread nD τ).loc main_arg3) : S4x1024.Idx → EReal) (ix2 b k)
  w k j := (m ((c.tc : Thread nD τ).loc main_arg4) : S1024x5888.Idx → EReal) (ix2 k j)
  qg d := (m ((c.tc : Thread nD τ).loc main_arg5) : S64.Idx → EReal) (ix1 d)
  kg d := (m ((c.tc : Thread nD τ).loc main_arg6) : S64.Idx → EReal) (ix1 d)
  co s u f := (m ((c.tc : Thread nD τ).loc main_arg7) : S8192x2x16.Idx → EReal) (ix3 s u f)
  si s u f := (m ((c.tc : Thread nD τ).loc main_arg8) : S8192x2x16.Idx → EReal) (ix3 s u f)

variable (b : Fin 4) (s : Fin 8192)

/-- A token's projection onto a column. -/
theorem proj_apply (j : Fin 5888) : proj m c (ix3 b s j) = (args m c).col b s j := by
  unfold proj Args.col
  rw [prod_apply]
  exact congrArg (fun h => prj h (fun k => (args m c).w k j)) (funext fun k => rows_apply b s _ _ _ _ k)

/-- A normalized head turned by its angles. -/
theorem spun_apply (y : FVec Ideal S4x8192x512 .f32) (g : FVec Ideal S64 .f32) (cs sn : FVec Ideal S8192x2x16 .f32) (j : Fin 512) :
    spun (norms (heads y) g) cs sn (ix3 b s j)
      = rope (nv (fun j => y (ix3 b s j)) (fun d => g (ix1 d))) (fun u f => cs (ix3 s u f)) (fun u f => sn (ix3 s u f)) j := by
  unfold spun
  rw [flat_apply]
  have hh := (half j).isLt
  have e : ∀ i : Fin 512, i.val / 64 = j.val / 64 → ∀ d : Fin 64, d.val = i.val % 64 →
      norms (heads y) g (ix4 b s (⟨j.val / 64, by omega⟩ : Fin 8) d) = nv (fun j => y (ix3 b s j)) (fun d => g (ix1 d)) i := by
    intro i hi d hd
    rw [norms_apply]
    exact congrArg (nv (fun j => y (ix3 b s j)) (fun d => g (ix1 d))) (Fin.ext (by show j.val / 64 * 64 + d.val = i.val; omega))
  unfold rope
  by_cases h : j.val % 32 < 16
  · rw [dif_pos h, show (⟨j.val % 32 / 16, by omega⟩ : Fin 2) = 0 from Fin.ext (by show j.val % 32 / 16 = 0; omega), turned_apply0,
      fst_apply, snd_apply, angs_apply, angs_apply, e j rfl, e ⟨j.val + 16, by omega⟩]
    · show (j.val + 16) / 64 = j.val / 64; omega
    · show j.val % 64 / 32 * 32 + (16 + j.val % 16) = (j.val + 16) % 64; omega
    · show j.val % 64 / 32 * 32 + j.val % 16 = j.val % 64; omega
  · rw [dif_neg h, show (⟨j.val % 32 / 16, by omega⟩ : Fin 2) = 1 from Fin.ext (by show j.val % 32 / 16 = 1; omega), turned_apply1,
      fst_apply, snd_apply, angs_apply, angs_apply, e j rfl, e ⟨j.val - 16, by omega⟩]
    · show (j.val - 16) / 64 = j.val / 64; omega
    · show j.val % 64 / 32 * 32 + j.val % 16 = (j.val - 16) % 64; omega
    · show j.val % 64 / 32 * 32 + (16 + j.val % 16) = j.val % 64; omega

/-- The six results of the reference. -/
theorem res0_apply (j : Fin 512) :
    (extractStridedSlice S4x8192x512 ![0, 0, 0] (proj m c) slices_S4x8192x5888_S4x8192x512_0_0_0 : S4x8192x512.Idx → EReal) (ix3 b s j) = (args m c).r0 b s j := by
  unfold Args.r0
  rw [← proj_apply]
  pointwise
theorem res1_apply (j : Fin 768) :
    (extractStridedSlice S4x8192x768 ![0, 0, 512] (proj m c) slices_S4x8192x5888_S4x8192x768_0_0_512 : S4x8192x768.Idx → EReal) (ix3 b s j) = (args m c).r1 b s j := by
  unfold Args.r1
  rw [← proj_apply]
  pointwise
theorem res2_apply (j : Fin 512) : (Value.res_main_v68 m c : S4x8192x512.Idx → EReal) (ix3 b s j) = (args m c).r2 b s j := by
  rw [res_q]
  refine (spun_apply b s _ _ _ _ j).trans ?_
  refine congrArg (fun acc => rope (nv acc (args m c).qg) ((args m c).co s) ((args m c).si s) j) (funext fun j => ?_)
  rw [← proj_apply]
  pointwise
theorem res3_apply (j : Fin 512) : (Value.res_main_v105 m c : S4x8192x512.Idx → EReal) (ix3 b s j) = (args m c).r3 b s j := by
  rw [res_k]
  refine (spun_apply b s _ _ _ _ j).trans ?_
  refine congrArg (fun acc => rope (nv acc (args m c).kg) ((args m c).co s) ((args m c).si s) j) (funext fun j => ?_)
  rw [← proj_apply]
  pointwise
theorem res4_apply (j : Fin 1024) :
    (vals (beside (extractStridedSlice S4x8192x512 ![0, 0, 2304] (proj m c) slices_S4x8192x5888_S4x8192x512_0_0_2304)) : S4x8192x1024.Idx → EReal) (ix3 b s j)
      = (args m c).r4 b s j := by
  rw [vals_apply]
  refine (beside_apply b s _ _ _).trans ?_
  unfold Args.r4
  by_cases h : j.val % 256 < 128
  · rw [dif_pos h, dif_pos h, ← proj_apply]
    pointwise
  · rw [dif_neg h, dif_neg h]
theorem res5_apply (j : Fin 3072) :
    (gates (extractStridedSlice S4x8192x3072 ![0, 0, 2816] (proj m c) slices_S4x8192x5888_S4x8192x3072_0_0_2816) : S4x8192x3072.Idx → EReal) (ix3 b s j)
      = (args m c).r5 b s j := by
  unfold Args.r5
  rw [gates_apply, ← proj_apply]
  refine congrArg Ideal.logistic ?_
  pointwise

end Cert.Reference3Ideal.Hand

end
-- ==== Proof.ProjAlgebraic.lean ====
module

public import proofs.«01_k».proof.Defs
public import proofs.«01_k».proof.Proof.ProjValue
public import proofs.«01_k».proof.Proof.ProjRefValue

/-!
  The projection call computes the reference's six results over the extended reals.
-/

@[expose] public section

set_option maxRecDepth 16384
set_option maxHeartbeats 2000000

noncomputable section

open Idealize.ShloMosaic Idealize.ShloMosaic.TcCoe Idealize.SL.Sem

attribute [local instance] Cert.Kernel3Ideal.Gen.facts Cert.Reference3Ideal.Gen.facts

namespace Cert.Proof

open Cert.Proj

/-- An array whose value at batch, position and column is a formula's. -/
theorem eq_arr3 {n : Nat} (F : (⟨3, ![4, 8192, n]⟩ : Shape).Idx → EReal) (f g : Fin 4 → Fin 8192 → Fin n → EReal)
    (h : ∀ b s j, F (ix3 b s j) = f b s j) (e : f = g) : F = Cert.Kernel3Ideal.Hand.arr3 g := by
  subst e
  funext y
  have e : y = ix3 (y 0) (y 1) (y 2) := funext fun a => by fin_cases a <;> rfl
  exact (congrArg F e).trans (h (y 0) (y 1) (y 2))

/-- Projection call and reference end with the same six arrays, on any arguments. -/
theorem algebraic_project : Cert.algebraic_Kernel3Ideal_Reference3Ideal := by
  intro m g m' g' _ hagree
  have hargs : ∀ c, Cert.Reference3Ideal.Hand.args m' c = Cert.Kernel3Ideal.Hand.args m c := by
    intro c
    obtain ⟨a0, a1, a2, a3, a4, a5, a6, a7, a8⟩ := hagree c
    unfold Cert.Reference3Ideal.Hand.args
    rw [a0, a1, a2, a3, a4, a5, a6, a7, a8]
    rfl
  refine ⟨fun c => Cert.Kernel3Ideal.Hand.arr3 (Cert.Kernel3Ideal.Hand.args m c).r0, fun c => Cert.Kernel3Ideal.Hand.arr3 (Cert.Kernel3Ideal.Hand.args m c).r1,
    fun c => Cert.Kernel3Ideal.Hand.arr3 (Cert.Kernel3Ideal.Hand.args m c).r2, fun c => Cert.Kernel3Ideal.Hand.arr3 (Cert.Kernel3Ideal.Hand.args m c).r3,
    fun c => Cert.Kernel3Ideal.Hand.arr3 (Cert.Kernel3Ideal.Hand.args m c).r4, fun c => Cert.Kernel3Ideal.Hand.arr3 (Cert.Kernel3Ideal.Hand.args m c).r5, ?_, ?_⟩
  · refine (θ_run Cert.Kernel3Ideal.defs _ _).mono (fun r h c => ?_) (Cert.Kernel3Ideal.Value.run_blocks m g)
    obtain ⟨h0, h1, h2, h3, h4, h5, hk⟩ := h c
    exact ⟨h0.trans (Cert.Kernel3Ideal.Hand.arr0_eq m c), h1.trans (Cert.Kernel3Ideal.Hand.arr1_eq m c), h2.trans (Cert.Kernel3Ideal.Hand.arr2_eq m c),
      h3.trans (Cert.Kernel3Ideal.Hand.arr3_eq m c), h4.trans (Cert.Kernel3Ideal.Hand.arr4_eq m c), h5.trans (Cert.Kernel3Ideal.Hand.arr5_eq m c), hk⟩
  · refine (θ_run Cert.Reference3Ideal.defs _ _).mono (fun r h c => ?_) (Cert.Reference3Ideal.Value.run (F := Ideal) m' g')
    obtain ⟨h0, h1, h2, h3, h4, h5, hk⟩ := h c
    exact ⟨h0.trans (eq_arr3 _ _ _ (Cert.Reference3Ideal.Hand.res0_apply m' c) (congrArg Args.r0 (hargs c))),
      h1.trans (eq_arr3 _ _ _ (Cert.Reference3Ideal.Hand.res1_apply m' c) (congrArg Args.r1 (hargs c))),
      h2.trans (eq_arr3 _ _ _ (Cert.Reference3Ideal.Hand.res2_apply m' c) (congrArg Args.r2 (hargs c))),
      h3.trans (eq_arr3 _ _ _ (Cert.Reference3Ideal.Hand.res3_apply m' c) (congrArg Args.r3 (hargs c))),
      h4.trans (eq_arr3 _ _ _ (Cert.Reference3Ideal.Hand.res4_apply m' c) (congrArg Args.r4 (hargs c))),
      h5.trans (eq_arr3 _ _ _ (Cert.Reference3Ideal.Hand.res5_apply m' c) (congrArg Args.r5 (hargs c))), hk⟩

end Cert.Proof

end
-- ==== Proof.lean ====
/-
  The claims, of the attention call, of the expert call and of the input projection call: each program runs to its end with its arguments left alone,
  the idealized kernel is the kernel, and over the extended reals kernel and reference end with the same arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.KernelFrame
public import proofs.«01_k».proof.Proof.KernelIdealRun
public import proofs.«01_k».proof.Proof.Algebraic
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.ExpertFrame
public import proofs.«01_k».proof.Proof.ExpertAlgebraic
public import proofs.«01_k».proof.Proof.ProjAlgebraic
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.KernelIdeal.Gen.facts Cert.ReferenceIdeal.Gen.facts Cert.Pre_finite_inputs.Gen.facts
  Cert.Kernel3.Gen.facts Cert.Kernel3Ideal.Gen.facts Cert.Reference3Ideal.Gen.facts

/-- The kernel, over machine words, runs to its end, its arguments unchanged and every counter at zero. -/
theorem frame_p : Cert.quiescent_Kernel := fun m ρ _ => Cert.Kernel.Hand.frame_claim m ρ

/-- The same of the kernel over the extended reals. -/
theorem frame_pi : Cert.quiescent_KernelIdeal := fun m ρ _ =>
  (θ_run Cert.KernelIdeal.defs _ _).mono (fun _ h => ⟨fun c => (h.1 c).2, h.2⟩) (Cert.KernelIdeal.Hand.run_out m ρ)

/-- The same of the reference over the extended reals. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection call, over machine words, runs to its end, its arguments unchanged and every counter at zero. -/
theorem frame_p3 : Cert.quiescent_Kernel3 := fun m ρ _ => Cert.Kernel3.Gen.frame m ρ
/-- The same of the projection call over the extended reals. -/
theorem frame_pi3 : Cert.quiescent_Kernel3Ideal := fun m ρ _ => Cert.Kernel3Ideal.Gen.frame m ρ
/-- The same of its reference. -/
theorem frame_ri3 : Cert.quiescent_Reference3Ideal := fun m ρ _ =>
  (θ_run Cert.Reference3Ideal.defs _ _).mono
    (fun r h => ⟨fun c => by obtain ⟨-, -, -, -, -, -, hk⟩ := h c; exact hk, sem_eq_zero_of_no_sems (by decide) r.2⟩)
    (Cert.Reference3Ideal.Value.run (F := Ideal) m ρ)

/-- Everything claimed of the three calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Pre_finite_inputs.Gen.facts,
  frame_p, frame_pi, fun m ρ _ => frame_pi m ρ trivial, frame_ri, fun m ρ _ => frame_ri m ρ trivial, Cert.frame_p2, Cert.frame_pi2, Cert.frame_ri2,
  frame_p3, frame_pi3, frame_ri3, trivial, algebraic_attn, trivial, algebraic_experts, trivial, algebraic_project⟩

end Cert.Proof

end
